-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "scale_log2e" .f32 0x3E0293EE#32 (((11863283 / 134217728) * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v100) = v0 c
          ∧ r.2.mem ((c.tc : Thread Cert.Reference5Ideal.nD Cert.Reference5Ideal.τ).loc Cert.Reference5Ideal.main_v116) = v1 c
          ∧ r.2.mem ((c.tc : Thread Cert.Reference5Ideal.nD Cert.Reference5Ideal.τ).loc Cert.Reference5Ideal.main_v117) = v2 c
          ∧ r.2.mem ((c.tc : Thread Cert.Reference5Ideal.nD Cert.Reference5Ideal.τ).loc Cert.Reference5Ideal.main_v118) = v3 c
          ∧ r.2.mem ((c.tc : Thread Cert.Reference5Ideal.nD Cert.Reference5Ideal.τ).loc Cert.Reference5Ideal.main_v119) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x1024 : Shape := ⟨3, ![4, 4096, 1024]⟩
abbrev S4x4096x256 : Shape := ⟨3, ![4, 4096, 256]⟩
abbrev S4x256x256 : Shape := ⟨3, ![4, 256, 256]⟩
abbrev S1x8 : Shape := ⟨2, ![1, 8]⟩
abbrev S2x8192x2048 : Shape := ⟨3, ![2, 8192, 2048]⟩
abbrev S1x2048x2048 : Shape := ⟨3, ![1, 2048, 2048]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bitsLt_bf16_f32 : FTy.bits .bf16 < FTy.bits .f32
  bcast_S_S4x4096x256 : S_.BroadcastsInDim S4x4096x256 (![] : Fin 0 → Fin S4x4096x256.rank)
  reducesTo_S4x4096x256_S_d0_1_2 : S4x4096x256.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v15 : IVec S_ 1) (main_v16 : FVec F S1x8 .f32) (main_cst_4 : FVec F S_ .f32) : IVec S_ 1 :=
  let main_v17 : FVec F S1x8 .f32 := broadcastInDim S1x8 ![] bcast_S_S1x8 main_cst_4
  let main_v18 : IVec S1x8 1 := cmpf .olt main_v16 main_v17
  let main_c_5 : IVec S_ 1 := constantI S_ 1 1#1
  let main_v19 : IVec S_ 1 := (fun x v => Host.reduce IntOp.andi x v reducesTo_S1x8_S_d0_1 h_S_) main_v18 main_c_5
  let main_v20 : IVec S_ 1 := andi main_v15 main_v19
  main_v20

def fn {F : FTy → Type} [FloatOps F] (main_arg0 : FVec F S4x4096x1024 .f32) (main_arg1 : FVec F S4x4096x256 .bf16) (main_arg2 : FVec F S4x4096x256 .bf16) (main_arg3 : FVec F S4x256x256 .bf16) (main_arg4 : FVec F S4x256x256 .bf16) (main_arg5 : FVec F S1x8 .f32) (main_arg6 : FVec F S2x8192x2048 .f32) (main_arg7 : FVec F S1x2048x2048 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x256 .f32 := (extf .f32 · bitsLt_bf16_f32) main_arg1
  let main_v5 : FVec F S4x4096x256 .f32 := Host.absf main_v4
  let main_cst_0 : FVec F S_ .f32 := constant S_ .f32 0x7F800000#32
  let main_v6 : FVec F S4x4096x256 .f32 := broadcastInDim S4x4096x256 ![] bcast_S_S4x4096x256 main_cst_0
  let main_v7 : IVec S4x4096x256 1 := cmpf .olt main_v5 main_v6
  let main_c_1 : IVec S_ 1 := constantI S_ 1 1#1
  let main_v8 : IVec S_ 1 := (fun x v => Host.reduce IntOp.andi x v reducesTo_S4x4096x256_S_d0_1_2 h_S_) main_v7 main_c_1
  let main_v9 : IVec S_ 1 := andi main_v3 main_v8
  let main_v10 : FVec F S4x256x256 .f32 := (extf .f32 · bitsLt_bf16_f32) main_arg3
  let main_v11 : FVec F S4x256x256 .f32 := Host.absf main_v10
  let main_cst_2 : FVec F S_ .f32 := constant S_ .f32 0x7F800000#32
  let main_v12 : FVec F S4x256x256 .f32 := broadcastInDim S4x256x256 ![] bcast_S_S4x256x256 main_cst_2
  let main_v13 : IVec S4x256x256 1 := cmpf .olt main_v11 main_v12
  let main_c_3 : IVec S_ 1 := constantI S_ 1 1#1
  let main_v14 : IVec S_ 1 := (fun x v => Host.reduce IntOp.andi x v reducesTo_S4x256x256_S_d0_1_2 h_S_) main_v13 main_c_3
  let main_v15 : IVec S_ 1 := andi main_v9 main_v14
  let main_v16 : FVec F S1x8 .f32 := Host.absf main_arg5
  let main_cst_4 : FVec F S_ .f32 := constant S_ .f32 0x7F800000#32
  fn_part1 (F := F) main_v15 main_v16 main_cst_4
-- ==== Kernel.lean ====
abbrev S4x4096x1024 : Shape := ⟨3, ![4, 4096, 1024]⟩
abbrev S4x4096x256 : Shape := ⟨3, ![4, 4096, 256]⟩
abbrev S4x256x256 : Shape := ⟨3, ![4, 256, 256]⟩
abbrev S1x8 : Shape := ⟨2, ![1, 8]⟩
abbrev S2x8192x2048 : Shape := ⟨3, ![2, 8192, 2048]⟩
abbrev S1x2048x2048 : Shape := ⟨3, ![1, 2048, 2048]⟩
abbrev S_ : Shape := ⟨0, ![]⟩
abbrev S8 : Shape := ⟨1, ![8]⟩
abbrev S2x1x4 : Shape := ⟨3, ![2, 1, 4]⟩
abbrev S2x1x4x128 : Shape := ⟨4, ![2, 1, 4, 128]⟩
abbrev S2x1x512 : Shape := ⟨3, ![2, 1, 512]⟩
abbrev S8192x2048 : Shape := ⟨2, ![8192, 2048]⟩
abbrev S2048x2048 : Shape := ⟨2, ![2048, 2048]⟩
abbrev S1x512x1024 : Shape := ⟨3, ![1, 512, 1024]⟩
abbrev S1x4096x256 : Shape := ⟨3, ![1, 4096, 256]⟩
abbrev S1x256x256 : Shape := ⟨3, ![1, 256, 256]⟩
abbrev S1x256x2048 : Shape := ⟨3, ![1, 256, 2048]⟩
abbrev S1x64x2048 : Shape := ⟨3, ![1, 64, 2048]⟩
abbrev S256x2048 : Shape := ⟨2, ![256, 2048]⟩
abbrev S64x2048 : Shape := ⟨2, ![64, 2048]⟩
abbrev S1x512 : Shape := ⟨2, ![1, 512]⟩
abbrev S384x1 : Shape := ⟨2, ![384, 1]⟩
abbrev S384x512 : Shape := ⟨2, ![384, 512]⟩
abbrev S1x128x128 : Shape := ⟨3, ![1, 128, 128]⟩
abbrev S128x128 : Shape := ⟨2, ![128, 128]⟩
abbrev S512x128 : Shape := ⟨2, ![512, 128]⟩
abbrev S1x384x128 : Shape := ⟨3, ![1, 384, 128]⟩
abbrev S384x128 : Shape := ⟨2, ![384, 128]⟩
abbrev S1x256x128 : Shape := ⟨3, ![1, 256, 128]⟩
abbrev S256x128 : Shape := ⟨2, ![256, 128]⟩
abbrev S256x512 : Shape := ⟨2, ![256, 512]⟩
abbrev S1x1x512 : Shape := ⟨3, ![1, 1, 512]⟩
abbrev S512 : Shape := ⟨1, ![512]⟩
abbrev S16x512 : Shape := ⟨2, ![16, 512]⟩
abbrev S272x512 : Shape := ⟨2, ![272, 512]⟩
abbrev S384x256 : Shape := ⟨2, ![384, 256]⟩
abbrev S512x256 : Shape := ⟨2, ![512, 256]⟩
abbrev S256x256 : Shape := ⟨2, ![256, 256]⟩
abbrev S16x128 : Shape := ⟨2, ![16, 128]⟩
abbrev S16x256 : Shape := ⟨2, ![16, 256]⟩
abbrev S272x256 : Shape := ⟨2, ![272, 256]⟩

abbrev nBuf : Space → Nat
  | .hbm => 25
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x256, .bf16⟩
  | .hbm, ⟨3, _⟩ => ⟨S4x256x256, .bf16⟩
  | .hbm, ⟨4, _⟩ => ⟨S4x256x256, .bf16⟩
  | .hbm, ⟨5, _⟩ => ⟨S1x8, .f32⟩
  | .hbm, ⟨6, _⟩ => ⟨S2x8192x2048, .f32⟩
  | .hbm, ⟨7, _⟩ => ⟨S1x2048x2048, .f32⟩
  | .hbm, ⟨8, _⟩ => ⟨S_, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S4x4096x1024, .bf16⟩
  | .hbm, ⟨17, _⟩ => ⟨S8, .f32⟩
  | .hbm, ⟨18, _⟩ => ⟨S2x1x4, .f32⟩
  | .hbm, ⟨19, _⟩ => ⟨S2x1x4x128, .f32⟩
  | .hbm, ⟨20, _⟩ => ⟨S2x1x512, .f32⟩
  | .hbm, ⟨21, _⟩ => ⟨S4x4096x1024, .bf16⟩
  | .hbm, ⟨22, _⟩ => ⟨S8192x2048, .bf16⟩
  | .hbm, ⟨23, _⟩ => ⟨S8192x2048, .bf16⟩
  | .hbm, ⟨24, _⟩ => ⟨S2048x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S2x1x512, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x512x1024, .bf16⟩
  | .local _ .vmem, ⟨18, _⟩ => ⟨S1x512x1024, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S64x2048, .bf16⟩
  | .local _ .vmem, ⟨24, _⟩ => ⟨S64x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c3712_i32 : BitVec 32 := 3712#32
  let c0_i32_20 : BitVec 32 := 0#32
  let arg1 : BitVec 32 := BitVec.ofNat 32 (i 1).val
  let c4_i32 : BitVec 32 := 4#32
  let v30 : BitVec 32 := Scalar.muli arg1 c4_i32
  let c0_i32_17 : BitVec 32 := 0#32
  let v31 : BitVec 32 := Scalar.addi v30 c0_i32_17
  let c128_i32_18 : BitVec 32 := 128#32
  let v32 : BitVec 32 := Scalar.muli v31 c128_i32_18
  let c128_i32_19 : BitVec 32 := 128#32
  let v33 : BitVec 32 := Scalar.subi v32 c128_i32_19
  let v34 : BitVec 32 := Scalar.maxsi c0_i32_20 v33
  let v35 : BitVec 32 := Scalar.minsi c3712_i32 v34
  v35
def k0_off1 (i : grid0.Coords) (c0_i32_17 : BitVec 32) : Fin 3 → Nat :=
  let c0_31 : Index := 0#32
  let c3712_i32 : BitVec 32 := 3712#32
  let c0_i32_20 : BitVec 32 := 0#32
  let arg1 : BitVec 32 := BitVec.ofNat 32 (i 1).val
  let c4_i32 : BitVec 32 := 4#32
  let v30 : BitVec 32 := Scalar.muli arg1 c4_i32
  let v31 : BitVec 32 := Scalar.addi v30 c0_i32_17
  let c128_i32_18 : BitVec 32 := 128#32
  let v32 : BitVec 32 := Scalar.muli v31 c128_i32_18
  let c128_i32_19 : BitVec 32 := 128#32
  let v33 : BitVec 32 := Scalar.subi v32 c128_i32_19
  let v34 : BitVec 32 := Scalar.maxsi c0_i32_20 v33
  let v35 : BitVec 32 := Scalar.minsi c3712_i32 v34
  let v36 : BitVec 32 := v35
  let v56 : Index := Scalar.indexCast v36
  let c0_32 : Index := 0#32
  ![0, v56.toNat, 0]
def k0_mult2 (i : grid0.Coords) : BitVec 32 :=
  let c3712_i32_43 : BitVec 32 := 3712#32
  let c0_i32_42 : BitVec 32 := 0#32
  let arg1 : BitVec 32 := BitVec.ofNat 32 (i 1).val
  let c4_i32_38 : BitVec 32 := 4#32
  let v65 : BitVec 32 := Scalar.muli arg1 c4_i32_38
  let c0_i32_39 : BitVec 32 := 0#32
  let v66 : BitVec 32 := Scalar.addi v65 c0_i32_39
  let c128_i32_40 : BitVec 32 := 128#32
  let v67 : BitVec 32 := Scalar.muli v66 c128_i32_40
  let c128_i32_41 : BitVec 32 := 128#32
  let v68 : BitVec 32 := Scalar.subi v67 c128_i32_41
  let v69 : BitVec 32 := Scalar.maxsi c0_i32_42 v68
  let v70 : BitVec 32 := Scalar.minsi c3712_i32_43 v69
  v70
def k0_off2 (i : grid0.Coords) (c0_i32_39 : BitVec 32) : Fin 3 → Nat :=
  let c0_53 : Index := 0#32
  let c3712_i32_43 : BitVec 32 := 3712#32
  let c0_i32_42 : BitVec 32 := 0#32
  let arg1 : BitVec 32 := BitVec.ofNat 32 (i 1).val
  let c4_i32_38 : BitVec 32 := 4#32
  let v65 : BitVec 32 := Scalar.muli arg1 c4_i32_38
  let v66 : BitVec 32 := Scalar.addi v65 c0_i32_39
  let c128_i32_40 : BitVec 32 := 128#32
  let v67 : BitVec 32 := Scalar.muli v66 c128_i32_40
  let c128_i32_41 : BitVec 32 := 128#32
  let v68 : BitVec 32 := Scalar.subi v67 c128_i32_41
  let v69 : BitVec 32 := Scalar.maxsi c0_i32_42 v68
  let v70 : BitVec 32 := Scalar.minsi c3712_i32_43 v69
  let v71 : BitVec 32 := v70
  let v91 : Index := Scalar.indexCast v71
  let c128_54 : Index := 128#32
  ![0, v91.toNat, 128]
def k0_mult3 (i : grid0.Coords) : BitVec 32 :=
  let c3712_i32_74 : BitVec 32 := 3712#32
  let c0_i32_73 : BitVec 32 := 0#32
  let arg1 : BitVec 32 := BitVec.ofNat 32 (i 1).val
  let c4_i32_69 : BitVec 32 := 4#32
  let v129 : BitVec 32 := Scalar.muli arg1 c4_i32_69
  let c1_i32_70 : BitVec 32 := 1#32
  let v130 : BitVec 32 := Scalar.addi v129 c1_i32_70
  let c128_i32_71 : BitVec 32 := 128#32
  let v131 : BitVec 32 := Scalar.muli v130 c128_i32_71
  let c128_i32_72 : BitVec 32 := 128#32
  let v132 : BitVec 32 := Scalar.subi v131 c128_i32_72
  let v133 : BitVec 32 := Scalar.maxsi c0_i32_73 v132
  let v134 : BitVec 32 := Scalar.minsi c3712_i32_74 v133
  v134
def k0_mult4 (i : grid0.Coords) : BitVec 32 :=
  let c3712_i32_131 : BitVec 32 := 3712#32
  let c0_i32_130 : BitVec 32 := 0#32
  let arg1 : BitVec 32 := BitVec.ofNat 32 (i 1).val
  let c4_i32_126 : BitVec 32 := 4#32
  let v232 : BitVec 32 := Scalar.muli arg1 c4_i32_126
  let c1_i32_127 : BitVec 32 := 1#32
  let v233 : BitVec 32 := Scalar.addi v232 c1_i32_127
  let c128_i32_128 : BitVec 32 := 128#32
  let v234 : BitVec 32 := Scalar.muli v233 c128_i32_128
  let c128_i32_129 : BitVec 32 := 128#32
  let v235 : BitVec 32 := Scalar.subi v234 c128_i32_129
  let v236 : BitVec 32 := Scalar.maxsi c0_i32_130 v235
  let v237 : BitVec 32 := Scalar.minsi c3712_i32_131 v236
  v237
def k0_mult5 (i : grid0.Coords) : BitVec 32 :=
  let c3712_i32_188 : BitVec 32 := 3712#32
  let c0_i32_187 : BitVec 32 := 0#32
  let arg1 : BitVec 32 := BitVec.ofNat 32 (i 1).val
  let c4_i32_184 : BitVec 32 := 4#32
  let v335 : BitVec 32 := Scalar.muli arg1 c4_i32_184
  let c2_i32 : BitVec 32 := 2#32
  let v336 : BitVec 32 := Scalar.addi v335 c2_i32
  let c128_i32_185 : BitVec 32 := 128#32
  let v337 : BitVec 32 := Scalar.muli v336 c128_i32_185
  let c128_i32_186 : BitVec 32 := 128#32
  let v338 : BitVec 32 := Scalar.subi v337 c128_i32_186
  let v339 : BitVec 32 := Scalar.maxsi c0_i32_187 v338
  let v340 : BitVec 32 := Scalar.minsi c3712_i32_188 v339
  v340
def k0_mult6 (i : grid0.Coords) : BitVec 32 :=
  let c3712_i32_246 : BitVec 32 := 3712#32
  let c0_i32_245 : BitVec 32 := 0#32
  let arg1 : BitVec 32 := BitVec.ofNat 32 (i 1).val
  let c4_i32_241 : BitVec 32 := 4#32
  let v438 : BitVec 32 := Scalar.muli arg1 c4_i32_241
  let c2_i32_242 : BitVec 32 := 2#32
  let v439 : BitVec 32 := Scalar.addi v438 c2_i32_242
  let c128_i32_243 : BitVec 32 := 128#32
  let v440 : BitVec 32 := Scalar.muli v439 c128_i32_243
  let c128_i32_244 : BitVec 32 := 128#32
  let v441 : BitVec 32 := Scalar.subi v440 c128_i32_244
  let v442 : BitVec 32 := Scalar.maxsi c0_i32_245 v441
  let v443 : BitVec 32 := Scalar.minsi c3712_i32_246 v442
  v443
def k0_mult7 (i : grid0.Coords) : BitVec 32 :=
  let c3712_i32_303 : BitVec 32 := 3712#32
  let c0_i32_302 : BitVec 32 := 0#32
  let arg1 : BitVec 32 := BitVec.ofNat 32 (i 1).val
  let c4_i32_299 : BitVec 32 := 4#32
  let v541 : BitVec 32 := Scalar.muli arg1 c4_i32_299
  let c3_i32 : BitVec 32 := 3#32
  let v542 : BitVec 32 := Scalar.addi v541 c3_i32
  let c128_i32_300 : BitVec 32 := 128#32
  let v543 : BitVec 32 := Scalar.muli v542 c128_i32_300
  let c128_i32_301 : BitVec 32 := 128#32
  let v544 : BitVec 32 := Scalar.subi v543 c128_i32_301
  let v545 : BitVec 32 := Scalar.maxsi c0_i32_302 v544
  let v546 : BitVec 32 := Scalar.minsi c3712_i32_303 v545
  v546
def k0_mult8 (i : grid0.Coords) : BitVec 32 :=
  let c3712_i32_361 : BitVec 32 := 3712#32
  let c0_i32_360 : BitVec 32 := 0#32
  let arg1 : BitVec 32 := BitVec.ofNat 32 (i 1).val
  let c4_i32_356 : BitVec 32 := 4#32
  let v644 : BitVec 32 := Scalar.muli arg1 c4_i32_356
  let c3_i32_357 : BitVec 32 := 3#32
  let v645 : BitVec 32 := Scalar.addi v644 c3_i32_357
  let c128_i32_358 : BitVec 32 := 128#32
  let v646 : BitVec 32 := Scalar.muli v645 c128_i32_358
  let c128_i32_359 : BitVec 32 := 128#32
  let v647 : BitVec 32 := Scalar.subi v646 c128_i32_359
  let v648 : BitVec 32 := Scalar.maxsi c0_i32_360 v647
  let v649 : BitVec 32 := Scalar.minsi c3712_i32_361 v648
  v649
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c31_i32 : BitVec 32 := 31#32
  let v3 : BitVec 32 := Scalar.minsi v2 c31_i32
  let c0_i32_0 : BitVec 32 := 0#32
  let c0_i32_1 : BitVec 32 := 0#32
  let c0_i32_2 : BitVec 32 := 0#32
  ![c0_i32_0.toNat, v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c31_i32 : BitVec 32 := 31#32
  let v3 : BitVec 32 := Scalar.minsi v2 c31_i32
  let c1_i32 : BitVec 32 := 1#32
  let c0_i32_0 : BitVec 32 := 0#32
  let c0_i32_1 : BitVec 32 := 0#32
  ![c1_i32.toNat, v3.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c31_i32 : BitVec 32 := 31#32
  let v3 : BitVec 32 := Scalar.minsi v2 c31_i32
  let c0_i32_0 : BitVec 32 := 0#32
  let c0_i32_1 : BitVec 32 := 0#32
  let c0_i32_2 : BitVec 32 := 0#32
  ![c0_i32_0.toNat, v3.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c31_i32 : BitVec 32 := 31#32
  let v3 : BitVec 32 := Scalar.minsi v2 c31_i32
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c31_i32 : BitVec 32 := 31#32
  let v3 : BitVec 32 := Scalar.minsi v2 c31_i32
  let c0_i32_0 : BitVec 32 := 0#32
  let c0_i32_1 : BitVec 32 := 0#32
  ![v3.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c31_i32 : BitVec 32 := 31#32
  let v3 : BitVec 32 := Scalar.minsi v2 c31_i32
  let c0_i32_0 : BitVec 32 := 0#32
  let c0_i32_1 : BitVec 32 := 0#32
  ![v3.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x1024 : Shape := ⟨3, ![4, 4096, 1024]⟩
abbrev S4x4096x256 : Shape := ⟨3, ![4, 4096, 256]⟩
abbrev S4x256x256 : Shape := ⟨3, ![4, 256, 256]⟩
abbrev S1x8 : Shape := ⟨2, ![1, 8]⟩
abbrev S2x8192x2048 : Shape := ⟨3, ![2, 8192, 2048]⟩
abbrev S1x2048x2048 : Shape := ⟨3, ![1, 2048, 2048]⟩
abbrev S8 : Shape := ⟨1, ![8]⟩
abbrev S4x4096x2x128 : Shape := ⟨4, ![4, 4096, 2, 128]⟩
abbrev S4x256x2x128 : Shape := ⟨4, ![4, 256, 2, 128]⟩
abbrev S4x32x128x2x4x128 : Shape := ⟨6, ![4, 32, 128, 2, 4, 128]⟩
abbrev S_ : Shape := ⟨0, ![]⟩
abbrev S4x4352x2x128 : Shape := ⟨4, ![4, 4352, 2, 128]⟩
abbrev S4x34x128x2x128 : Shape := ⟨5, ![4, 34, 128, 2, 128]⟩
abbrev S4x32x128x2x128 : Shape := ⟨5, ![4, 32, 128, 2, 128]⟩
abbrev S4x32x384x2x128 : Shape := ⟨5, ![4, 32, 384, 2, 128]⟩
abbrev S4x32x2x384x128x4 : Shape := ⟨6, ![4, 32, 2, 384, 128, 4]⟩
abbrev S4x32x2x4x128x384 : Shape := ⟨6, ![4, 32, 2, 4, 128, 384]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S4x2x256x32x128x4 : Shape := ⟨6, ![4, 2, 256, 32, 128, 4]⟩
abbrev S4x32x2x4x128x256 : Shape := ⟨6, ![4, 32, 2, 4, 128, 256]⟩
abbrev S2x4x1x1 : Shape := ⟨4, ![2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x32x2x128x4x128 : Shape := ⟨6, ![4, 32, 2, 128, 4, 128]⟩
abbrev S4x2x128x32x4x128 : Shape := ⟨6, ![4, 2, 128, 32, 4, 128]⟩
abbrev S1x8192x2048 : Shape := ⟨3, ![1, 8192, 2048]⟩
abbrev S8192x2048 : Shape := ⟨2, ![8192, 2048]⟩
abbrev S2048x2048 : Shape := ⟨2, ![2048, 2048]⟩

abbrev nBuf : Space → Nat
  | .hbm => 119
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x256, .bf16⟩
  | .hbm, ⟨3, _⟩ => ⟨S4x256x256, .bf16⟩
  | .hbm, ⟨4, _⟩ => ⟨S4x256x256, .bf16⟩
  | .hbm, ⟨5, _⟩ => ⟨S1x8, .f32⟩
  | .hbm, ⟨6, _⟩ => ⟨S2x8192x2048, .f32⟩
  | .hbm, ⟨7, _⟩ => ⟨S1x2048x2048, .f32⟩
  | .hbm, ⟨8, _⟩ => ⟨S4x4096x256, .f32⟩
  | .hbm, ⟨9, _⟩ => ⟨S4x4096x256, .f32⟩
  | .hbm, ⟨10, _⟩ => ⟨S4x256x256, .f32⟩
  | .hbm, ⟨11, _⟩ => ⟨S4x256x256, .f32⟩
  | .hbm, ⟨12, _⟩ => ⟨S8, .f32⟩
  | .hbm, ⟨13, _⟩ => ⟨S4x4096x2x128, .f32⟩
  | .hbm, ⟨14, _⟩ => ⟨S4x4096x2x128, .f32⟩
  | .hbm, ⟨15, _⟩ => ⟨S4x256x2x128, .f32⟩
  | .hbm, ⟨16, _⟩ => ⟨S4x256x2x128, .f32⟩
  | .hbm, ⟨17, _⟩ => ⟨S4x32x128x2x4x128, .f32⟩
  | .hbm, ⟨18, _⟩ => ⟨S_, .i32⟩
  | .hbm, ⟨19, _⟩ => ⟨S_, .f32⟩
  | .hbm, ⟨20, _⟩ => ⟨S4x4352x2x128, .f32⟩
  | .hbm, ⟨21, _⟩ => ⟨S4x34x128x2x128, .f32⟩
  | .hbm, ⟨22, _⟩ => ⟨S4x32x128x2x128, .f32⟩
  | .hbm, ⟨23, _⟩ => ⟨S4x32x128x2x128, .f32⟩
  | .hbm, ⟨24, _⟩ => ⟨S4x32x128x2x128, .f32⟩
  | .hbm, ⟨25, _⟩ => ⟨S4x32x384x2x128, .f32⟩
  | .hbm, ⟨26, _⟩ => ⟨S_, .i32⟩
  | .hbm, ⟨27, _⟩ => ⟨S_, .f32⟩
  | .hbm, ⟨28, _⟩ => ⟨S4x4352x2x128, .f32⟩
  | .hbm, ⟨29, _⟩ => ⟨S4x34x128x2x128, .f32⟩
  | .hbm, ⟨30, _⟩ => ⟨S4x32x128x2x128, .f32⟩
  | .hbm, ⟨31, _⟩ => ⟨S4x32x128x2x128, .f32⟩
  | .hbm, ⟨32, _⟩ => ⟨S4x32x128x2x128, .f32⟩
  | .hbm, ⟨33, _⟩ => ⟨S4x32x384x2x128, .f32⟩
  | .hbm, ⟨34, _⟩ => ⟨S4x32x2x384x128x4, .f32⟩
  | .hbm, ⟨35, _⟩ => ⟨S4x32x2x4x128x384, .f32⟩
  | .hbm, ⟨36, _⟩ => ⟨S_, .f32⟩
  | .hbm, ⟨37, _⟩ => ⟨S4x32x2x4x128x384, .f32⟩
  | .hbm, ⟨38, _⟩ => ⟨S4x32x2x4x128x384, .f32⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S128, .i32⟩
  | .hbm, ⟨45, _⟩ => ⟨S1x128x1, .i32⟩
  | .hbm, ⟨46, _⟩ => ⟨S32x128x1, .i32⟩
  | .hbm, ⟨47, _⟩ => ⟨S32x128x1, .i32⟩
  | .hbm, ⟨48, _⟩ => ⟨S32x128x1, .i32⟩
  | .hbm, ⟨49, _⟩ => ⟨S384, .i32⟩
  | .hbm, ⟨50, _⟩ => ⟨S1x1x384, .i32⟩
  | .hbm, ⟨51, _⟩ => ⟨S32x1x384, .i32⟩
  | .hbm, ⟨52, _⟩ => ⟨S32x1x384, .i32⟩
  | .hbm, ⟨53, _⟩ => ⟨S32x1x384, .i32⟩
  | .hbm, ⟨54, _⟩ => ⟨S_, .i32⟩
  | .hbm, ⟨55, _⟩ => ⟨S32x1x384, .i32⟩
  | .hbm, ⟨56, _⟩ => ⟨S32x1x384, .i32⟩
  | .hbm, ⟨57, _⟩ => ⟨S32x128x384, .i32⟩
  | .hbm, ⟨58, _⟩ => ⟨S32x128x384, .i32⟩
  | .hbm, ⟨59, _⟩ => ⟨S32x128x384, .i32⟩
  | .hbm, ⟨60, _⟩ => ⟨S32x128x384, .i32⟩
  | .hbm, ⟨61, _⟩ => ⟨S_, .i32⟩
  | .hbm, ⟨62, _⟩ => ⟨S32x128x384, .i32⟩
  | .hbm, ⟨63, _⟩ => ⟨S32x128x384, .i1⟩
  | .hbm, ⟨64, _⟩ => ⟨S_, .i32⟩
  | .hbm, ⟨65, _⟩ => ⟨S32x1x384, .i32⟩
  | .hbm, ⟨66, _⟩ => ⟨S32x1x384, .i1⟩
  | .hbm, ⟨67, _⟩ => ⟨S32x128x384, .i1⟩
  | .hbm, ⟨68, _⟩ => ⟨S32x128x384, .i1⟩
  | .hbm, ⟨69, _⟩ => ⟨S_, .i32⟩
  | .hbm, ⟨70, _⟩ => ⟨S32x1x384, .i32⟩
  | .hbm, ⟨71, _⟩ => ⟨S32x1x384, .i1⟩
  | .hbm, ⟨72, _⟩ => ⟨S32x128x384, .i1⟩
  | .hbm, ⟨73, _⟩ => ⟨S32x128x384, .i1⟩
  | .hbm, ⟨74, _⟩ => ⟨S1x32x1x1x128x384, .i1⟩
  | .hbm, ⟨75, _⟩ => ⟨S_, .f32⟩
  | .hbm, ⟨76, _⟩ => ⟨S_, .f32⟩
  | .hbm, ⟨77, _⟩ => ⟨S4x32x2x4x128x384, .i1⟩
  | .hbm, ⟨78, _⟩ => ⟨S4x32x2x4x128x384, .f32⟩
  | .hbm, ⟨79, _⟩ => ⟨S4x32x2x4x128x384, .f32⟩
  | .hbm, ⟨80, _⟩ => ⟨S4x2x256x32x128x4, .f32⟩
  | .hbm, ⟨81, _⟩ => ⟨S4x32x2x4x128x256, .f32⟩
  | .hbm, ⟨82, _⟩ => ⟨S_, .f32⟩
  | .hbm, ⟨83, _⟩ => ⟨S4x32x2x4x128x256, .f32⟩
  | .hbm, ⟨84, _⟩ => ⟨S4x32x2x4x128x256, .f32⟩
  | .hbm, ⟨85, _⟩ => ⟨S2x4x1x1, .f32⟩
  | .hbm, ⟨86, _⟩ => ⟨S4x32x2x4x128x1, .f32⟩
  | .hbm, ⟨87, _⟩ => ⟨S4x32x2x4x128x641, .f32⟩
  | .hbm, ⟨88, _⟩ => ⟨S_, .f32⟩
  | .hbm, ⟨89, _⟩ => ⟨S4x32x2x4x128, .f32⟩
  | .hbm, ⟨90, _⟩ => ⟨S_, .f32⟩
  | .hbm, ⟨91, _⟩ => ⟨S4x32x2x4x128, .f32⟩
  | .hbm, ⟨92, _⟩ => ⟨S4x32x2x4x128, .f32⟩
  | .hbm, ⟨93, _⟩ => ⟨S4x32x2x4x128x1, .f32⟩
  | .hbm, ⟨94, _⟩ => ⟨S4x32x2x4x128x641, .f32⟩
  | .hbm, ⟨95, _⟩ => ⟨S4x32x2x4x128x641, .f32⟩
  | .hbm, ⟨96, _⟩ => ⟨S4x32x2x4x128x641, .f32⟩
  | .hbm, ⟨97, _⟩ => ⟨S_, .f32⟩
  | .hbm, ⟨98, _⟩ => ⟨S4x32x2x4x128, .f32⟩
  | .hbm, ⟨99, _⟩ => ⟨S4x32x2x4x128x1, .f32⟩
  | .hbm, ⟨100, _⟩ => ⟨S4x32x2x4x128x641, .f32⟩
  | .hbm, ⟨101, _⟩ => ⟨S4x32x2x4x128x641, .f32⟩
  | .hbm, ⟨102, _⟩ => ⟨S4x32x2x4x128x384, .f32⟩
  | .hbm, ⟨103, _⟩ => ⟨S4x32x2x128x4x128, .f32⟩
  | .hbm, ⟨104, _⟩ => ⟨S4x32x128x2x4x128, .f32⟩
  | .hbm, ⟨105, _⟩ => ⟨S4x32x2x4x128x256, .f32⟩
  | .hbm, ⟨106, _⟩ => ⟨S4x2x128x32x4x128, .f32⟩
  | .hbm, ⟨107, _⟩ => ⟨S4x32x128x2x4x128, .f32⟩
  | .hbm, ⟨108, _⟩ => ⟨S4x32x128x2x4x128, .f32⟩
  | .hbm, ⟨109, _⟩ => ⟨S4x4096x1024, .f32⟩
  | .hbm, ⟨110, _⟩ => ⟨S4x4096x1024, .bf16⟩
  | .hbm, ⟨111, _⟩ => ⟨S1x8192x2048, .f32⟩
  | .hbm, ⟨112, _⟩ => ⟨S8192x2048, .f32⟩
  | .hbm, ⟨113, _⟩ => ⟨S8192x2048, .bf16⟩
  | .hbm, ⟨114, _⟩ => ⟨S1x8192x2048, .f32⟩
  | .hbm, ⟨115, _⟩ => ⟨S8192x2048, .f32⟩
  | .hbm, ⟨116, _⟩ => ⟨S8192x2048, .bf16⟩
  | .hbm, ⟨117, _⟩ => ⟨S2048x2048, .f32⟩
  | .hbm, ⟨118, _⟩ => ⟨S2048x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_3 : Ref sig .tc := ⟨.hbm, 61, rfl⟩
abbrev main_v46 : Ref sig .tc := ⟨.hbm, 62, rfl⟩
abbrev main_v47 : Ref sig .tc := ⟨.hbm, 63, rfl⟩
abbrev main_c_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Kernel2.lean ====
abbrev S4x4096x2048 : Shape := ⟨3, ![4, 4096, 2048]⟩
abbrev S1x8x12288 : Shape := ⟨3, ![1, 8, 12288]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S1x8192 : Shape := ⟨2, ![1, 8192]⟩
abbrev S1x2048 : Shape := ⟨2, ![1, 2048]⟩
abbrev S1x512x2048 : Shape := ⟨3, ![1, 512, 2048]⟩
abbrev S1x8x2048 : Shape := ⟨3, ![1, 8, 2048]⟩
abbrev S2048x2048 : Shape := ⟨2, ![2048, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S1x8x12288, .f32⟩
  | .hbm, ⟨2, _⟩ => ⟨S2048x8192, .bf16⟩
  | .hbm, ⟨3, _⟩ => ⟨S8192, .f32⟩
  | .hbm, ⟨4, _⟩ => ⟨S8192x2048, .bf16⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x8192, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x2048, .bf16⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x512x2048, .f32⟩
  | .local _ .vmem, ⟨15, _⟩ => ⟨S1x512x2048, .f32⟩
  | .local _ .vmem, ⟨16, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_20 : Index := 0#32
  let arg0 : BitVec 32 := BitVec.ofNat 32 (i 0).val
  let v27 : Index := Scalar.indexCast arg0
  let c0_21 : Index := 0#32
  ![0, v27.toNat, 0]
def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_16 : BitVec 32 := 0#32
  let v24 : BitVec 1 := Scalar.cmpi .ne v23 c0_i32_16
  v24

def k0_off2 (i : grid0.Coords) : Fin 3 → Nat :=
  let c0_26 : Index := 0#32
  let arg0 : BitVec 32 := BitVec.ofNat 32 (i 0).val
  let v35 : Index := Scalar.indexCast arg0
  let c0_27 : Index := 0#32
  ![0, v35.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference2Ideal.lean ====
abbrev S4x4096x2048 : Shape := ⟨3, ![4, 4096, 2048]⟩
abbrev S1x8x12288 : Shape := ⟨3, ![1, 8, 12288]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S1x4x12288 : Shape := ⟨3, ![1, 4, 12288]⟩
abbrev S4x12288 : Shape := ⟨2, ![4, 12288]⟩
abbrev S4x1x12288 : Shape := ⟨3, ![4, 1, 12288]⟩
abbrev S4x1x2048 : Shape := ⟨3, ![4, 1, 2048]⟩
abbrev S_ : Shape := ⟨0, ![]⟩
abbrev S4x4096x8192 : Shape := ⟨3, ![4, 4096, 8192]⟩
abbrev S1x1x8192 : Shape := ⟨3, ![1, 1, 8192]⟩
abbrev S1x1x2048 : Shape := ⟨3, ![1, 1, 2048]⟩
abbrev S4x4096 : Shape := ⟨2, ![4, 4096]⟩
abbrev S4x4096x1 : Shape := ⟨3, ![4, 4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x8x12288, .f32⟩
  | .hbm, ⟨2, _⟩ => ⟨S2048x8192, .bf16⟩
  | .hbm, ⟨3, _⟩ => ⟨S8192, .f32⟩
  | .hbm, ⟨4, _⟩ => ⟨S8192x2048, .bf16⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x4x12288, .f32⟩
  | .hbm, ⟨9, _⟩ => ⟨S4x12288, .f32⟩
  | .hbm, ⟨10, _⟩ => ⟨S4x1x12288, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S_, .f32⟩
  | .hbm, ⟨18, _⟩ => ⟨S4x1x2048, .f32⟩
  | .hbm, ⟨19, _⟩ => ⟨S4x1x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S2048x8192, .f32⟩
  | .hbm, ⟨25, _⟩ => ⟨S8192x2048, .f32⟩
  | .hbm, ⟨26, _⟩ => ⟨S4x4096x8192, .f32⟩
  | .hbm, ⟨27, _⟩ => ⟨S1x1x8192, .f32⟩
  | .hbm, ⟨28, _⟩ => ⟨S4x4096x8192, .f32⟩
  | .hbm, ⟨29, _⟩ => ⟨S4x4096x8192, .f32⟩
  | .hbm, ⟨30, _⟩ => ⟨S_, .f32⟩
  | .hbm, ⟨31, _⟩ => ⟨S4x4096x8192, .f32⟩
  | .hbm, ⟨32, _⟩ => ⟨S4x4096x8192, .f32⟩
  | .hbm, ⟨33, _⟩ => ⟨S4x4096x8192, .f32⟩
  | .hbm, ⟨34, _⟩ => ⟨S4x4096x2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x2048, .f32⟩
  | .hbm, ⟨60, _⟩ => ⟨S4x4096x2048, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x2048, .f32⟩
  | .hbm, ⟨66, _⟩ => ⟨S4x4096x2048, .f32⟩
  | .hbm, ⟨67, _⟩ => ⟨S1x1x2048, .f32⟩
  | .hbm, ⟨68, _⟩ => ⟨S4x4096x2048, .f32⟩
  | .hbm, ⟨69, _⟩ => ⟨S4x4096x2048, .f32⟩
  | .hbm, ⟨70, _⟩ => ⟨S1x1x2048, .f32⟩
  | .hbm, ⟨71, _⟩ => ⟨S4x4096x2048, .f32⟩
  | .hbm, ⟨72, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel3.lean ====
abbrev S4x4096x2048 : Shape := ⟨3, ![4, 4096, 2048]⟩
abbrev S1x8x12288 : Shape := ⟨3, ![1, 8, 12288]⟩
abbrev S2048x5120 : Shape := ⟨2, ![2048, 5120]⟩
abbrev S4x4096x512 : Shape := ⟨3, ![4, 4096, 512]⟩
abbrev S4x256x8192 : Shape := ⟨3, ![4, 256, 8192]⟩
abbrev S4x4096x1536 : Shape := ⟨3, ![4, 4096, 1536]⟩
abbrev S1x1024x2048 : Shape := ⟨3, ![1, 1024, 2048]⟩
abbrev S1x8x2048 : Shape := ⟨3, ![1, 8, 2048]⟩
abbrev S2048x512 : Shape := ⟨2, ![2048, 512]⟩
abbrev S1x1024x512 : Shape := ⟨3, ![1, 1024, 512]⟩
abbrev S1x64x8192 : Shape := ⟨3, ![1, 64, 8192]⟩
abbrev S1x1024x1536 : Shape := ⟨3, ![1, 1024, 1536]⟩
abbrev S4x1024x128 : Shape := ⟨3, ![4, 1024, 128]⟩
abbrev S1024x2048 : Shape := ⟨2, ![1024, 2048]⟩
abbrev S1x1x2048 : Shape := ⟨3, ![1, 1, 2048]⟩
abbrev S1x2048 : Shape := ⟨2, ![1, 2048]⟩
abbrev S1024x512 : Shape := ⟨2, ![1024, 512]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩

abbrev nBuf : Space → Nat
  | .hbm => 7
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S1x8x12288, .f32⟩
  | .hbm, ⟨2, _⟩ => ⟨S2048x5120, .bf16⟩
  | .hbm, ⟨3, _⟩ => ⟨S4x4096x512, .bf16⟩
  | .hbm, ⟨4, _⟩ => ⟨S4x256x8192, .bf16⟩
  | .hbm, ⟨5, _⟩ => ⟨S4x4096x1536, .bf16⟩
  | .hbm, ⟨6, _⟩ => ⟨S4x4096x1536, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x64x8192, .bf16⟩
  | .local _ .vmem, ⟨17, _⟩ => ⟨S1x64x8192, .bf16⟩
  | .local _ .vmem, ⟨18, _⟩ => ⟨S1x1024x1536, .bf16⟩
  | .local _ .vmem, ⟨19, _⟩ => ⟨S1x1024x1536, .bf16⟩
  | .local _ .vmem, ⟨20, _⟩ => ⟨S1x1024x1536, .bf16⟩
  | .local _ .vmem, ⟨21, _⟩ => ⟨S1x1024x1536, .bf16⟩
  | .local _ .vmem, ⟨22, _⟩ => ⟨S4x1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_2 : Index := 0#32
  let arg0 : BitVec 32 := BitVec.ofNat 32 (i 0).val
  let v2 : Index := Scalar.indexCast arg0
  let c0_3 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c9_i32 : BitVec 32 := 9#32
  let c0_i32_0 : BitVec 32 := 0#32
  ![c0_i32.toNat, c9_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S4x4096x2048 : Shape := ⟨3, ![4, 4096, 2048]⟩
abbrev S1x8x12288 : Shape := ⟨3, ![1, 8, 12288]⟩
abbrev S2048x5120 : Shape := ⟨2, ![2048, 5120]⟩
abbrev S1x4x12288 : Shape := ⟨3, ![1, 4, 12288]⟩
abbrev S4x12288 : Shape := ⟨2, ![4, 12288]⟩
abbrev S4x1x12288 : Shape := ⟨3, ![4, 1, 12288]⟩
abbrev S4x1x2048 : Shape := ⟨3, ![4, 1, 2048]⟩
abbrev S_ : Shape := ⟨0, ![]⟩
abbrev S4x4096x5120 : Shape := ⟨3, ![4, 4096, 5120]⟩
abbrev S4x4096x512 : Shape := ⟨3, ![4, 4096, 512]⟩
abbrev S4x4096x1536 : Shape := ⟨3, ![4, 4096, 1536]⟩
abbrev S4x256x8192 : Shape := ⟨3, ![4, 256, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x8x12288, .f32⟩
  | .hbm, ⟨2, _⟩ => ⟨S2048x5120, .bf16⟩
  | .hbm, ⟨3, _⟩ => ⟨S1x4x12288, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S_, .f32⟩
  | .hbm, ⟨13, _⟩ => ⟨S4x1x2048, .f32⟩
  | .hbm, ⟨14, _⟩ => ⟨S4x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S2048x5120, .f32⟩
  | .hbm, ⟨20, _⟩ => ⟨S4x4096x5120, .f32⟩
  | .hbm, ⟨21, _⟩ => ⟨S4x4096x512, .f32⟩
  | .hbm, ⟨22, _⟩ => ⟨S4x4096x1536, .f32⟩
  | .hbm, ⟨23, _⟩ => ⟨S4x4096x1536, .f32⟩
  | .hbm, ⟨24, _⟩ => ⟨S4x4096x1536, .f32⟩
  | .hbm, ⟨25, _⟩ => ⟨S4x4096x512, .bf16⟩
  | .hbm, ⟨26, _⟩ => ⟨S4x256x8192, .bf16⟩
  | .hbm, ⟨27, _⟩ => ⟨S4x4096x1536, .bf16⟩
  | .hbm, ⟨28, _⟩ => ⟨S4x4096x1536, .f32⟩
  | .hbm, ⟨29, _⟩ => ⟨S4x4096x1536, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel4.lean ====
abbrev S4x8x4096x128 : Shape := ⟨4, ![4, 8, 4096, 128]⟩
abbrev S4x4096x1024 : Shape := ⟨3, ![4, 4096, 1024]⟩
abbrev S4x4096x2048 : Shape := ⟨3, ![4, 4096, 2048]⟩
abbrev S1x8x12288 : Shape := ⟨3, ![1, 8, 12288]⟩
abbrev S2048x2048 : Shape := ⟨2, ![2048, 2048]⟩
abbrev S2048 : Shape := ⟨1, ![2048]⟩
abbrev S1x2048 : Shape := ⟨2, ![1, 2048]⟩
abbrev S1x8x1024x128 : Shape := ⟨4, ![1, 8, 1024, 128]⟩
abbrev S1x1024x1024 : Shape := ⟨3, ![1, 1024, 1024]⟩
abbrev S1x1024x2048 : Shape := ⟨3, ![1, 1024, 2048]⟩
abbrev S1x8x2048 : Shape := ⟨3, ![1, 8, 2048]⟩
abbrev S1x1x2048 : Shape := ⟨3, ![1, 1, 2048]⟩
abbrev S1x1x256x128 : Shape := ⟨4, ![1, 1, 256, 128]⟩
abbrev S256x128 : Shape := ⟨2, ![256, 128]⟩
abbrev S1x256x1024 : Shape := ⟨3, ![1, 256, 1024]⟩
abbrev S256x1024 : Shape := ⟨2, ![256, 1024]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x8x4096x128, .bf16⟩
  | .hbm, ⟨1, _⟩ => ⟨S4x4096x1024, .bf16⟩
  | .hbm, ⟨2, _⟩ => ⟨S4x4096x2048, .f32⟩
  | .hbm, ⟨3, _⟩ => ⟨S1x8x12288, .f32⟩
  | .hbm, ⟨4, _⟩ => ⟨S2048x2048, .bf16⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S4x4096x2048, .f32⟩
  | .local _ .vmem, ⟨0, _⟩ => ⟨S1x8x1024x128, .bf16⟩
  | .local _ .vmem, ⟨1, _⟩ => ⟨S1x8x1024x128, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x8x2048, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S1x1024x2048, .f32⟩
  | .local _ .vmem, ⟨11, _⟩ => ⟨S1x1024x2048, .f32⟩
  | _, _ => ⟨S4x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4x8x4096x128 : Shape := ⟨4, ![4, 8, 4096, 128]⟩
abbrev S4x4096x1024 : Shape := ⟨3, ![4, 4096, 1024]⟩
abbrev S4x4096x2048 : Shape := ⟨3, ![4, 4096, 2048]⟩
abbrev S1x8x12288 : Shape := ⟨3, ![1, 8, 12288]⟩
abbrev S2048x2048 : Shape := ⟨2, ![2048, 2048]⟩
abbrev S2048 : Shape := ⟨1, ![2048]⟩
abbrev S1x4x12288 : Shape := ⟨3, ![1, 4, 12288]⟩
abbrev S4x12288 : Shape := ⟨2, ![4, 12288]⟩
abbrev S4x1x12288 : Shape := ⟨3, ![4, 1, 12288]⟩
abbrev S4x1x2048 : Shape := ⟨3, ![4, 1, 2048]⟩
abbrev S4x4096x8x128 : Shape := ⟨4, ![4, 4096, 8, 128]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x8x4096x128, .bf16⟩
  | .hbm, ⟨1, _⟩ => ⟨S4x4096x1024, .bf16⟩
  | .hbm, ⟨2, _⟩ => ⟨S4x4096x2048, .f32⟩
  | .hbm, ⟨3, _⟩ => ⟨S1x8x12288, .f32⟩
  | .hbm, ⟨4, _⟩ => ⟨S2048x2048, .bf16⟩
  | .hbm, ⟨5, _⟩ => ⟨S2048, .f32⟩
  | .hbm, ⟨6, _⟩ => ⟨S2048, .f32⟩
  | .hbm, ⟨7, _⟩ => ⟨S1x4x12288, .f32⟩
  | .hbm, ⟨8, _⟩ => ⟨S4x12288, .f32⟩
  | .hbm, ⟨9, _⟩ => ⟨S4x1x12288, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x4096x8x128, .bf16⟩
  | .hbm, ⟨17, _⟩ => ⟨S4x4096x1024, .bf16⟩
  | .hbm, ⟨18, _⟩ => ⟨S4x4096x2048, .bf16⟩
  | .hbm, ⟨19, _⟩ => ⟨S4x4096x2048, .f32⟩
  | .hbm, ⟨20, _⟩ => ⟨S2048x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | _, _ => ⟨S4x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel5.lean ====
abbrev S4x4096x2048 : Shape := ⟨3, ![4, 4096, 2048]⟩
abbrev S1x8x12288 : Shape := ⟨3, ![1, 8, 12288]⟩
abbrev S2048x3584 : Shape := ⟨2, ![2048, 3584]⟩
abbrev S4096x32 : Shape := ⟨2, ![4096, 32]⟩
abbrev S4096x128 : Shape := ⟨2, ![4096, 128]⟩
abbrev S4x8x4096x128 : Shape := ⟨4, ![4, 8, 4096, 128]⟩
abbrev S4x4096x1024 : Shape := ⟨3, ![4, 4096, 1024]⟩
abbrev S4x4096x256 : Shape := ⟨3, ![4, 4096, 256]⟩
abbrev S1x1024x2048 : Shape := ⟨3, ![1, 1024, 2048]⟩
abbrev S1x8x2048 : Shape := ⟨3, ![1, 8, 2048]⟩
abbrev S1024x128 : Shape := ⟨2, ![1024, 128]⟩
abbrev S2048x1024 : Shape := ⟨2, ![2048, 1024]⟩
abbrev S2048x256 : Shape := ⟨2, ![2048, 256]⟩
abbrev S1x8x1024x128 : Shape := ⟨4, ![1, 8, 1024, 128]⟩
abbrev S1x1024x1024 : Shape := ⟨3, ![1, 1024, 1024]⟩
abbrev S1x1024x256 : Shape := ⟨3, ![1, 1024, 256]⟩
abbrev S1024x2048 : Shape := ⟨2, ![1024, 2048]⟩
abbrev S1x1x2048 : Shape := ⟨3, ![1, 1, 2048]⟩
abbrev S1x2048 : Shape := ⟨2, ![1, 2048]⟩
abbrev S1024x1024 : Shape := ⟨2, ![1024, 1024]⟩
abbrev S1024x256 : Shape := ⟨2, ![1024, 256]⟩
abbrev S1x1024x128 : Shape := ⟨3, ![1, 1024, 128]⟩
abbrev S1x1x1024x128 : Shape := ⟨4, ![1, 1, 1024, 128]⟩

abbrev nBuf : Space → Nat
  | .hbm => 16
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S1x8x12288, .f32⟩
  | .hbm, ⟨2, _⟩ => ⟨S2048x3584, .bf16⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S4096x32, .f32⟩
  | .hbm, ⟨7, _⟩ => ⟨S4096x128, .f32⟩
  | .hbm, ⟨8, _⟩ => ⟨S4096x32, .f32⟩
  | .hbm, ⟨9, _⟩ => ⟨S4096x32, .f32⟩
  | .hbm, ⟨10, _⟩ => ⟨S4096x128, .f32⟩
  | .hbm, ⟨11, _⟩ => ⟨S4x8x4096x128, .bf16⟩
  | .hbm, ⟨12, _⟩ => ⟨S4x8x4096x128, .bf16⟩
  | .hbm, ⟨13, _⟩ => ⟨S4x4096x1024, .bf16⟩
  | .hbm, ⟨14, _⟩ => ⟨S4x4096x256, .bf16⟩
  | .hbm, ⟨15, _⟩ => ⟨S4x4096x256, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x256, .bf16⟩
  | .local _ .vmem, ⟨12, _⟩ => ⟨S2048x256, .bf16⟩
  | .local _ .vmem, ⟨13, _⟩ => ⟨S1x8x1024x128, .bf16⟩
  | .local _ .vmem, ⟨14, _⟩ => ⟨S1x8x1024x128, .bf16⟩
  | .local _ .vmem, ⟨15, _⟩ => ⟨S1x8x1024x128, .bf16⟩
  | .local _ .vmem, ⟨16, _⟩ => ⟨S1x8x1024x128, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_2 : Index := 0#32
  let arg0 : BitVec 32 := BitVec.ofNat 32 (i 0).val
  let v2 : Index := Scalar.indexCast arg0
  let c0_3 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c12_i32 : BitVec 32 := 12#32
  let c0_i32_0 : BitVec 32 := 0#32
  ![c0_i32.toNat, c12_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c13_i32 : BitVec 32 := 13#32
  let c0_i32_0 : BitVec 32 := 0#32
  ![c0_i32.toNat, c13_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel5Ideal.lean ====
variable {F : FTy → Type} [FloatOps F] [Named F]
def κ : String → Option EReal := fun
  | "scale_log2e" => some (((11863283 / 134217728) * (Real.log 2)⁻¹ : ℝ) : EReal)
  | _ => none
-- ==== Reference5Ideal.lean ====
abbrev S4x4096x2048 : Shape := ⟨3, ![4, 4096, 2048]⟩
abbrev S1x8x12288 : Shape := ⟨3, ![1, 8, 12288]⟩
abbrev S2048x3584 : Shape := ⟨2, ![2048, 3584]⟩
abbrev S4096x32 : Shape := ⟨2, ![4096, 32]⟩
abbrev S1x4x12288 : Shape := ⟨3, ![1, 4, 12288]⟩
abbrev S4x12288 : Shape := ⟨2, ![4, 12288]⟩
abbrev S4x1x12288 : Shape := ⟨3, ![4, 1, 12288]⟩
abbrev S4x1x2048 : Shape := ⟨3, ![4, 1, 2048]⟩
abbrev S_ : Shape := ⟨0, ![]⟩
abbrev S4x4096x3584 : Shape := ⟨3, ![4, 4096, 3584]⟩
abbrev S4x4096x1024 : Shape := ⟨3, ![4, 4096, 1024]⟩
abbrev S4x4096x256 : Shape := ⟨3, ![4, 4096, 256]⟩
abbrev S4x4096x8x128 : Shape := ⟨4, ![4, 4096, 8, 128]⟩
abbrev S4x4096x8x64 : Shape := ⟨4, ![4, 4096, 8, 64]⟩
abbrev S4x4096x8x32 : Shape := ⟨4, ![4, 4096, 8, 32]⟩
abbrev S1x4096x1x32 : Shape := ⟨4, ![1, 4096, 1, 32]⟩
abbrev S4x4096x2x128 : Shape := ⟨4, ![4, 4096, 2, 128]⟩
abbrev S4x4096x2x64 : Shape := ⟨4, ![4, 4096, 2, 64]⟩
abbrev S4x4096x2x32 : Shape := ⟨4, ![4, 4096, 2, 32]⟩
abbrev S4x8x4096x128 : Shape := ⟨4, ![4, 8, 4096, 128]⟩

abbrev nBuf : Space → Nat
  | .hbm => 134
  | .vmem => 0
  | .smem => 0
  | _ => 0

abbrev hbmTy0_0 (i : Nat) : BufTy := match i % 128 with
  | 0 => ⟨S4x4096x2048, .f32⟩
  | 1 => ⟨S1x8x12288, .f32⟩
  | 2 => ⟨S2048x3584, .bf16⟩
  | 3 => ⟨S4096x32, .f32⟩
  | 4 => ⟨S4096x32, .f32⟩
  | 5 => ⟨S4096x32, .f32⟩
  | 6 => ⟨S4096x32, .f32⟩
  | 7 => ⟨S1x4x12288, .f32⟩
  | 8 => ⟨S4x12288, .f32⟩
  | 9 => ⟨S4x1x12288, .f32⟩
  | 10 => ⟨S4x1x2048, .f32⟩
  | 11 => ⟨S4x1x2048, .f32⟩
  | 12 => ⟨S4x1x2048, .f32⟩
  | 13 => ⟨S4x1x2048, .f32⟩
  | 14 => ⟨S4x1x2048, .f32⟩
  | 15 => ⟨S4x1x2048, .f32⟩
  | 16 => ⟨S_, .f32⟩
  | 17 => ⟨S4x1x2048, .f32⟩
  | 18 => ⟨S4x1x2048, .f32⟩
  | 19 => ⟨S4x4096x2048, .f32⟩
  | 20 => ⟨S4x4096x2048, .f32⟩
  | 21 => ⟨S4x4096x2048, .f32⟩
  | 22 => ⟨S4x4096x2048, .f32⟩
  | 23 => ⟨S2048x3584, .f32⟩
  | 24 => ⟨S4x4096x3584, .f32⟩
  | 25 => ⟨S4x4096x1024, .f32⟩
  | 26 => ⟨S4x4096x1024, .f32⟩
  | 27 => ⟨S4x4096x1024, .f32⟩
  | 28 => ⟨S4x4096x256, .f32⟩
  | 29 => ⟨S4x4096x256, .f32⟩
  | 30 => ⟨S4x4096x8x128, .f32⟩
  | 31 => ⟨S4x4096x8x64, .f32⟩
  | 32 => ⟨S4x4096x8x64, .f32⟩
  | 33 => ⟨S4x4096x8x32, .f32⟩
  | 34 => ⟨S4x4096x8x32, .f32⟩
  | 35 => ⟨S1x4096x1x32, .f32⟩
  | 36 => ⟨S1x4096x1x32, .f32⟩
  | 37 => ⟨S4x4096x8x32, .f32⟩
  | 38 => ⟨S4x4096x8x32, .f32⟩
  | 39 => ⟨S4x4096x8x32, .f32⟩
  | 40 => ⟨S4x4096x8x32, .f32⟩
  | 41 => ⟨S4x4096x8x32, .f32⟩
  | 42 => ⟨S4x4096x8x32, .f32⟩
  | 43 => ⟨S4x4096x8x32, .f32⟩
  | 44 => ⟨S4x4096x8x32, .f32⟩
  | 45 => ⟨S4x4096x8x32, .f32⟩
  | 46 => ⟨S4x4096x8x32, .f32⟩
  | 47 => ⟨S4x4096x8x64, .f32⟩
  | 48 => ⟨S4x4096x8x32, .f32⟩
  | 49 => ⟨S4x4096x8x32, .f32⟩
  | 50 => ⟨S1x4096x1x32, .f32⟩
  | 51 => ⟨S1x4096x1x32, .f32⟩
  | 52 => ⟨S4x4096x8x32, .f32⟩
  | 53 => ⟨S4x4096x8x32, .f32⟩
  | 54 => ⟨S4x4096x8x32, .f32⟩
  | 55 => ⟨S4x4096x8x32, .f32⟩
  | 56 => ⟨S4x4096x8x32, .f32⟩
  | 57 => ⟨S4x4096x8x32, .f32⟩
  | 58 => ⟨S4x4096x8x32, .f32⟩
  | 59 => ⟨S4x4096x8x32, .f32⟩
  | 60 => ⟨S4x4096x8x32, .f32⟩
  | 61 => ⟨S4x4096x8x32, .f32⟩
  | 62 => ⟨S4x4096x8x64, .f32⟩
  | 63 => ⟨S4x4096x8x128, .f32⟩
  | 64 => ⟨S4x4096x1024, .f32⟩
  | 65 => ⟨S4x4096x2x128, .f32⟩
  | 66 => ⟨S4x4096x2x64, .f32⟩
  | 67 => ⟨S4x4096x2x64, .f32⟩
  | 68 => ⟨S4x4096x2x32, .f32⟩
  | 69 => ⟨S4x4096x2x32, .f32⟩
  | 70 => ⟨S1x4096x1x32, .f32⟩
  | 71 => ⟨S1x4096x1x32, .f32⟩
  | 72 => ⟨S4x4096x2x32, .f32⟩
  | 73 => ⟨S4x4096x2x32, .f32⟩
  | 74 => ⟨S4x4096x2x32, .f32⟩
  | 75 => ⟨S4x4096x2x32, .f32⟩
  | 76 => ⟨S4x4096x2x32, .f32⟩
  | 77 => ⟨S4x4096x2x32, .f32⟩
  | 78 => ⟨S4x4096x2x32, .f32⟩
  | 79 => ⟨S4x4096x2x32, .f32⟩
  | 80 => ⟨S4x4096x2x32, .f32⟩
  | 81 => ⟨S4x4096x2x32, .f32⟩
  | 82 => ⟨S4x4096x2x64, .f32⟩
  | 83 => ⟨S4x4096x2x32, .f32⟩
  | 84 => ⟨S4x4096x2x32, .f32⟩
  | 85 => ⟨S1x4096x1x32, .f32⟩
  | 86 => ⟨S1x4096x1x32, .f32⟩
  | 87 => ⟨S4x4096x2x32, .f32⟩
  | 88 => ⟨S4x4096x2x32, .f32⟩
  | 89 => ⟨S4x4096x2x32, .f32⟩
  | 90 => ⟨S4x4096x2x32, .f32⟩
  | 91 => ⟨S4x4096x2x32, .f32⟩
  | 92 => ⟨S4x4096x2x32, .f32⟩
  | 93 => ⟨S4x4096x2x32, .f32⟩
  | 94 => ⟨S4x4096x2x32, .f32⟩
  | 95 => ⟨S4x4096x2x32, .f32⟩
  | 96 => ⟨S4x4096x2x32, .f32⟩
  | 97 => ⟨S4x4096x2x64, .f32⟩
  | 98 => ⟨S4x4096x2x128, .f32⟩
  | 99 => ⟨S4x4096x256, .f32⟩
  | 100 => ⟨S_, .f32⟩
  | 101 => ⟨S4x4096x1024, .f32⟩
  | 102 => ⟨S4x4096x1024, .f32⟩
  | 103 => ⟨S_, .f32⟩
  | 104 => ⟨S_, .f32⟩
  | 105 => ⟨S_, .f32⟩
  | 106 => ⟨S4x4096x1024, .f32⟩
  | 107 => ⟨S4x4096x1024, .f32⟩
  | 108 => ⟨S4x4096x8x128, .f32⟩
  | 109 => ⟨S4x8x4096x128, .f32⟩
  | 110 => ⟨S4x8x4096x128, .bf16⟩
  | 111 => ⟨S4x4096x1024, .f32⟩
  | 112 => ⟨S4x4096x1024, .f32⟩
  | 113 => ⟨S_, .f32⟩
  | 114 => ⟨S4x4096x1024, .f32⟩
  | 115 => ⟨S4x4096x1024, .f32⟩
  | 116 => ⟨S4x4096x1024, .f32⟩
  | 117 => ⟨S_, .f32⟩
  | 118 => ⟨S4x4096x1024, .f32⟩
  | 119 => ⟨S4x4096x1024, .f32⟩
  | 120 => ⟨S4x4096x1024, .f32⟩
  | 121 => ⟨S_, .f32⟩
  | 122 => ⟨S4x4096x1024, .f32⟩
  | 123 => ⟨S4x4096x1024, .f32⟩
  | 124 => ⟨S_, .f32⟩
  | 125 => ⟨S4x4096x1024, .f32⟩
  | 126 => ⟨S4x4096x1024, .f32⟩
  | 127 => ⟨S4x4096x1024, .f32⟩
  | _ => ⟨S4x4096x2048, .f32⟩

abbrev hbmTy0_1 (i : Nat) : BufTy := match i % 128 with
  | 0 => ⟨S4x4096x8x128, .f32⟩
  | 1 => ⟨S4x8x4096x128, .f32⟩
  | 2 => ⟨S4x8x4096x128, .bf16⟩
  | 3 => ⟨S4x4096x1024, .bf16⟩
  | 4 => ⟨S4x4096x256, .bf16⟩
  | 5 => ⟨S4x4096x256, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_cst_0 : Ref sig .tc := ⟨.hbm, 100, rfl⟩
abbrev main_v92 : Ref sig .tc := ⟨.hbm, 101, rfl⟩
abbrev main_v93 : Ref sig .tc := ⟨.hbm, 102, rfl⟩
abbrev main_cst_1 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_cst_2 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_cst_3 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_cst_4 : Ref sig .tc := ⟨.hbm, 121, rfl⟩
abbrev main_v109 : Ref sig .tc := ⟨.hbm, 122, rfl⟩
abbrev main_v110 : Ref sig .tc := ⟨.hbm, 123, rfl⟩
abbrev main_cst_5 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩

abbrev nD : Nat := 1
abbrev τ : Topo := Topo.v7x

variable {F : FTy → Type} [FloatOps F]
-- ==== Proof.Attn.Unit.lean ====
module

public import proofs.«01_k».proof.Proof.Gen.KernelIdeal.Skeleton
public import Idealize.ShloMosaic.Lib.Pipeline.ValueKit

@[expose] public section

set_option maxRecDepth 16384

noncomputable section

/-! One unit of the attention kernel: 128 queries of four heads against a band of 384 keys and the context keys. -/

namespace Cert.KernelIdeal.Attn

open Cert.KernelIdeal Cert.KernelIdeal.Gen Idealize.ShloMosaic Idealize.ShloMosaic.TcCoe Idealize.SL.Sem

/-- The normalized result of a unit as the kernel computes it. -/
def unitOut (w : BitVec 32) (h0 h1 h2 h3 : Vec Ideal S1x128x128 .bf16) (kb : Vec Ideal S1x384x128 .bf16)
    (kc : Vec Ideal S1x256x128 .bf16) (sk : Vec Ideal S1x1x512 .f32) (vb : Vec Ideal S1x384x128 .bf16)
    (vc : Vec Ideal S1x256x128 .bf16) : FVec Ideal S512x128 .f32 :=
  k0_pay27 (F := Ideal)
    (k0_pay15 (F := Ideal) (k0_pay8 (F := Ideal) k0_pay6 (iota .tc S384x1 32 [0] iota_S384x1_d0_w32) w h0 h1 h2 h3 kb)
      (k0_pay9 (F := Ideal) h0 h1 h2 h3 kc) sk)
    (k0_pay16 (F := Ideal) (k0_pay8 (F := Ideal) k0_pay6 (iota .tc S384x1 32 [0] iota_S384x1_d0_w32) w h0 h1 h2 h3 kb)
      (k0_pay9 (F := Ideal) h0 h1 h2 h3 kc) sk) vb vc

/-- The rows of one head of a unit, as stored. -/
theorem piece_at {a : Nat} (U : FVec Ideal S512x128 .f32) (hs : S512x128.Slices ![a, 0] S128x128) (ha : a ≤ 384)
    (y : S1x128x128.Idx) :
    shapeCast S1x128x128 (truncf .bf16 (extractStridedSlice S128x128 ![a, 0] U hs) bitsLt_bf16_f32)
      shapeCasts_S128x128_S1x128x128 y
      = U (ix2 ⟨a + (y 1).val, by have h : (y 1).val < 128 := (y 1).isLt; omega⟩ (y 2)) := by
  pointwise
  blk_ext

/-- The index of a query within its block. -/
theorem query_at : ∀ n : Fin 512, k0_pay6 (ix2 0 n) = BitVec.ofNat 32 (n.val % 128) := by
  decide +kernel

/-- The four heads stacked. -/
theorem heads_at (h0 h1 h2 h3 : Vec Ideal S1x128x128 .bf16) (r : Fin 4) (n e : Fin 128) (col : Fin 512)
    (hc : col.val = r.val * 128 + n.val) :
    k0_pay7 (F := Ideal) h0 h1 h2 h3 (ix2 col e) = ![h0, h1, h2, h3] r (ix3 0 n e) := by
  have hn := n.isLt
  pointwise [k0_pay7]
  rcases r with ⟨r, hr⟩
  have hc' : col.val = r * 128 + n.val := hc
  have key : ∀ (h : Vec Ideal S1x128x128 .bf16) (a : Fin 128), a.val = n.val → h (ix3 0 a e) = h (ix3 0 n e) :=
    fun h a ha => by rw [Fin.ext ha]
  split
  · obtain rfl : r = 0 := by omega
    exact key _ _ (by simp; omega)
  split
  · obtain rfl : r = 1 := by omega
    exact key _ _ (by simp; omega)
  split
  · obtain rfl : r = 2 := by omega
    exact key _ _ (by simp; omega)
  · obtain rfl : r = 3 := by omega
    exact key _ _ (by simp; omega)

end Cert.KernelIdeal.Attn

end
-- ==== Proof.Attn.Spec.lean ====
module

public import Idealize.ShloMosaic.PureOps.Ideal

@[expose] public section

noncomputable section

/-! The mathematics of one query of window attention with a sink: a softmax over the keys near the query, the context
keys and the sink, applied to the values.  Nothing here mentions a program. -/

namespace Cert.AttnSpec

open Idealize.ShloMosaic

/-- The weight of a key with logit `x`; a masked key has logit `⊥`. -/
def wt (x : EReal) : ℝ := (Ideal.exp x).toReal

theorem wt_bot : wt ⊥ = 0 := EReal.toReal_zero

theorem wt_coe (x : ℝ) : wt (x : EReal) = Real.exp x := EReal.toReal_coe _

theorem wt_nonneg {x : EReal} (h : x ≠ ⊤) : 0 ≤ wt x := by
  induction x with
  | bot => rw [wt_bot]
  | coe x => rw [wt_coe]; exact (Real.exp_pos x).le
  | top => exact absurd rfl h

/-- The softmax of local logits `X`, context logits `Y` and a sink `s`, applied to values `V` and `W`. -/
def attend {K I : Type} [Fintype K] [Fintype I] (X V : K → EReal) (Y W : I → EReal) (s : EReal) : EReal :=
  ((∑ k, (wt (X k) : EReal) * V k) + ∑ i, (wt (Y i) : EReal) * W i)
    * ((((∑ k, wt (X k)) + (∑ i, wt (Y i)) + wt s)⁻¹ : ℝ) : EReal)

/-- A finite nonnegative factor comes out of a sum. -/
theorem sum_scaled {K : Type} [Fintype K] {C : ℝ} (hC : 0 ≤ C) (f : K → EReal) :
    (∑ k, (C : EReal) * f k) = (C : EReal) * ∑ k, f k := by
  classical
  induction (Finset.univ : Finset K) using Finset.induction_on with
  | empty => simp
  | insert a s ha ih =>
    rw [Finset.sum_insert ha, Finset.sum_insert ha, ih,
      EReal.left_distrib_of_nonneg_of_ne_top (EReal.coe_nonneg.mpr hC) (EReal.coe_ne_top C)]

/-- A sum of real numbers, taken in the extended reals. -/
theorem coe_sum {K : Type} [Fintype K] (f : K → ℝ) : (∑ k, (f k : EReal)) = ((∑ k, f k : ℝ) : EReal) := by
  classical
  induction (Finset.univ : Finset K) using Finset.induction_on with
  | empty => simp
  | insert a s ha ih => rw [Finset.sum_insert ha, Finset.sum_insert ha, ih, EReal.coe_add]

theorem scaled_weights {K : Type} [Fintype K] {C : ℝ} (hC : 0 ≤ C) (a : K → ℝ) (V : K → EReal) :
    (∑ k, ((C * a k : ℝ) : EReal) * V k) = (C : EReal) * ∑ k, (a k : EReal) * V k := by
  rw [← sum_scaled hC]
  exact Finset.sum_congr rfl fun k _ => by rw [EReal.coe_mul, mul_assoc]

section
variable {K I : Type} [Fintype K] [Fintype I] (X V : K → EReal) (Y W : I → EReal)

theorem total_pos (hX : ∀ k, X k ≠ ⊤) (hY : ∀ i, Y i ≠ ⊤) (s : ℝ) :
    0 < (∑ k, wt (X k)) + (∑ i, wt (Y i)) + wt (s : EReal) := by
  have h1 : 0 ≤ ∑ k, wt (X k) := Finset.sum_nonneg fun k _ => wt_nonneg (hX k)
  have h2 : 0 ≤ ∑ i, wt (Y i) := Finset.sum_nonneg fun i _ => wt_nonneg (hY i)
  have h3 : 0 < wt (s : EReal) := by rw [wt_coe]; exact Real.exp_pos s
  linarith

/-- A quotient of two sums whose weights carry the same positive factor. -/
theorem attend_of_scaled (hX : ∀ k, X k ≠ ⊤) (hY : ∀ i, Y i ≠ ⊤) (s : ℝ) {C : ℝ} (hC : 0 < C) :
    Ideal.div ((∑ k, ((C * wt (X k) : ℝ) : EReal) * V k) + ∑ i, ((C * wt (Y i) : ℝ) : EReal) * W i)
      ((∑ k, ((C * wt (X k) : ℝ) : EReal)) + ((∑ i, ((C * wt (Y i) : ℝ) : EReal)) + ((C * wt (s : EReal) : ℝ) : EReal)))
      = attend X V Y W s := by
  have hS := total_pos X Y hX hY s
  have hd : ((∑ k, ((C * wt (X k) : ℝ) : EReal)) + ((∑ i, ((C * wt (Y i) : ℝ) : EReal))
      + ((C * wt (s : EReal) : ℝ) : EReal)))
      = ((C * ((∑ k, wt (X k)) + (∑ i, wt (Y i)) + wt (s : EReal)) : ℝ) : EReal) := by
    rw [coe_sum, coe_sum, ← EReal.coe_add, ← EReal.coe_add, ← Finset.mul_sum, ← Finset.mul_sum]
    congr 1; ring
  have hn : ((∑ k, ((C * wt (X k) : ℝ) : EReal) * V k) + ∑ i, ((C * wt (Y i) : ℝ) : EReal) * W i)
      = (C : EReal) * ((∑ k, (wt (X k) : EReal) * V k) + ∑ i, (wt (Y i) : EReal) * W i) := by
    rw [scaled_weights hC.le, scaled_weights hC.le,
      EReal.left_distrib_of_nonneg_of_ne_top (EReal.coe_nonneg.mpr hC.le) (EReal.coe_ne_top C)]
  rw [hd, hn, Ideal.div, if_neg (by exact_mod_cast (mul_pos hC hS).ne'), attend, ← EReal.coe_inv, mul_inv,
    EReal.coe_mul, mul_comm (C : EReal), mul_assoc, ← mul_assoc (C : EReal), ← EReal.coe_mul,
    mul_inv_cancel₀ hC.ne', EReal.coe_one, one_mul]

/-- Normalizing the weights before the sum is the same as dividing after it. -/
theorem attend_of_normalized (hX : ∀ k, X k ≠ ⊤) (hY : ∀ i, Y i ≠ ⊤) (s : ℝ) {C : ℝ} (hC : 0 < C) (D : EReal)
    (hD : D = ((C * ((∑ k, wt (X k)) + (∑ i, wt (Y i)) + wt (s : EReal)) : ℝ) : EReal)) :
    (∑ k, Ideal.div ((C * wt (X k) : ℝ) : EReal) D * V k) + (∑ i, Ideal.div ((C * wt (Y i) : ℝ) : EReal) D * W i)
      = attend X V Y W s := by
  have hS := total_pos X Y hX hY s
  have hq : ∀ a : ℝ, Ideal.div ((C * a : ℝ) : EReal) D
      = (((((∑ k, wt (X k)) + (∑ i, wt (Y i)) + wt (s : EReal))⁻¹ * a : ℝ)) : EReal) := by
    intro a
    rw [hD, Ideal.div, if_neg (by exact_mod_cast (mul_pos hC hS).ne'), ← EReal.coe_inv, ← EReal.coe_mul]
    congr 1
    field_simp
  simp only [hq]
  rw [scaled_weights (inv_pos.mpr hS).le, scaled_weights (inv_pos.mpr hS).le, attend,
    ← EReal.left_distrib_of_nonneg_of_ne_top (EReal.coe_nonneg.mpr (inv_pos.mpr hS).le) (EReal.coe_ne_top _), mul_comm]

end

/-- An exponential with a finite shift. -/
theorem exp_shift {x : EReal} (h : x ≠ ⊤) (m : ℝ) : Ideal.exp (x - (m : EReal)) = ((Real.exp (-m) * wt x : ℝ) : EReal) := by
  induction x with
  | bot => rw [wt_bot, EReal.bot_sub, mul_zero]; rfl
  | coe x => rw [wt_coe, ← EReal.coe_sub, ← Real.exp_add, neg_add_eq_sub]; rfl
  | top => exact absurd rfl h

/-- A power of two with a logit divided by `log 2` and a finite shift. -/
theorem exp2_shift {x : EReal} (h : x ≠ ⊤) (m : ℝ) :
    Ideal.exp2 (x * (((Real.log 2)⁻¹ : ℝ) : EReal) - (m : EReal)) = (((2 : ℝ) ^ (-m) * wt x : ℝ) : EReal) := by
  have h2 : (0 : ℝ) < (Real.log 2)⁻¹ := inv_pos.mpr (Real.log_pos one_lt_two)
  induction x with
  | bot => rw [wt_bot, EReal.bot_mul_coe_of_pos h2, EReal.bot_sub, mul_zero]; rfl
  | coe x =>
    rw [wt_coe, ← EReal.coe_mul, ← EReal.coe_sub]
    show (((2 : ℝ) ^ (x * (Real.log 2)⁻¹ - m) : ℝ) : EReal) = _
    congr 1
    rw [sub_eq_add_neg, Real.rpow_add two_pos, mul_comm, Real.rpow_def_of_pos two_pos (x * _)]
    congr 2
    field_simp [(Real.log_pos one_lt_two).ne']
  | top => exact absurd rfl h

/-- A running maximum of values below `⊤` is below `⊤`. -/
theorem fold_max_ne_top {K : Type} [Fintype K] {b : EReal} (hb : b ≠ ⊤) (f : K → EReal) (hf : ∀ k, f k ≠ ⊤) :
    Finset.fold max b f Finset.univ ≠ ⊤ := by
  rw [← lt_top_iff_ne_top, Finset.fold_max_lt]
  exact ⟨lt_top_iff_ne_top.mpr hb, fun k _ => lt_top_iff_ne_top.mpr (hf k)⟩

/-- A band of 384 keys beginning at `s - 128`, cut to the keys there are, stands for a sum over all keys whose summand
vanishes outside the band. -/
theorem sum_band {M : Type} [AddCommMonoid M] (s : Nat) (g : Fin 384 → M) (f : Fin 4096 → M)
    (hgf : ∀ (k : Fin 384) (j : Fin 4096), s + k.val = j.val + 128 → g k = f j)
    (hg : ∀ k : Fin 384, s + k.val < 128 ∨ 4224 ≤ s + k.val → g k = 0)
    (hf : ∀ j : Fin 4096, f j ≠ 0 → s ≤ j.val + 128 ∧ j.val + 128 < s + 384) :
    ∑ k, g k = ∑ j, f j := by
  have hin : ∀ k : Fin 384, g k ≠ 0 → 128 ≤ s + k.val ∧ s + k.val < 4224 := by
    intro k hk
    by_contra h
    exact hk (hg k (by omega))
  refine Finset.sum_bij_ne_zero (fun k _ hk => ⟨s + k.val - 128, by have := hin k hk; omega⟩) (fun _ _ _ => Finset.mem_univ _)
    ?_ ?_ ?_
  · intro k _ hk k' _ hk' h
    have h1 := hin k hk
    have h2 := hin k' hk'
    have h3 : s + k.val - 128 = s + k'.val - 128 := congrArg Fin.val h
    exact Fin.ext (by omega)
  · intro j _ hj
    have h := hf j hj
    have e : g ⟨j.val + 128 - s, by omega⟩ = f j := hgf _ _ (by simp only; omega)
    exact ⟨⟨j.val + 128 - s, by omega⟩, Finset.mem_univ _, by rw [e]; exact hj, Fin.ext (by simp only; omega)⟩
  · intro k _ hk
    have h1 := hin k hk
    exact hgf _ _ (by simp only; omega)

/-- Attention over a band is attention over all keys when every key outside the band is masked. -/
theorem attend_band {I : Type} [Fintype I] (s : Nat) (X V : Fin 384 → EReal) (X' V' : Fin 4096 → EReal)
    (Y W W' : I → EReal) (z : EReal)
    (hX : ∀ (k : Fin 384) (j : Fin 4096), s + k.val = j.val + 128 → X k = X' j)
    (hV : ∀ (k : Fin 384) (j : Fin 4096), s + k.val = j.val + 128 → V k = V' j)
    (hout : ∀ k : Fin 384, s + k.val < 128 ∨ 4224 ≤ s + k.val → X k = ⊥)
    (hin : ∀ j : Fin 4096, X' j ≠ ⊥ → s ≤ j.val + 128 ∧ j.val + 128 < s + 384) (hW : ∀ i, W i = W' i) :
    attend X V Y W z = attend X' V' Y W' z := by
  obtain rfl : W = W' := funext hW
  unfold attend
  rw [sum_band s (fun k => (wt (X k) : EReal) * V k) (fun j => (wt (X' j) : EReal) * V' j)
      (fun k j h => by rw [hX k j h, hV k j h]) (fun k h => by rw [hout k h, wt_bot]; simp)
      (fun j h => hin j fun e => h (by rw [e, wt_bot]; simp)),
    sum_band s (fun k => wt (X k)) (fun j => wt (X' j)) (fun k j h => by rw [hX k j h])
      (fun k h => by rw [hout k h, wt_bot]) (fun j h => hin j fun e => h (by rw [e, wt_bot]))]

/-- The logit of a key: the scaled product of query and key, or `⊥` when the key is masked. -/
def logit (c : EReal) (near : Prop) [Decidable near] (q k : Fin 128 → EReal) : EReal :=
  if near then (∑ e, q e * k e) * c else ⊥

/-- The attention of query `n`: keys at a distance of at most 128, the context keys, and the sink. -/
def result (c : EReal) (n : Nat) (q : Fin 128 → EReal) (k v : Fin 4096 → Fin 128 → EReal)
    (kc vc : Fin 256 → Fin 128 → EReal) (s : EReal) (d : Fin 128) : EReal :=
  attend (fun j : Fin 4096 => logit c (n ≤ j.val + 128 ∧ j.val ≤ n + 128) q (k j)) (fun j => v j d)
    (fun i => logit c True q (kc i)) (fun i => vc i d) s

/-- The logit of finite queries and keys is a real number. -/
theorem logit_coe (c : ℝ) (near : Prop) [Decidable near] {q k : Fin 128 → EReal} {x y : Fin 128 → ℝ}
    (hq : ∀ e, q e = (x e : EReal)) (hk : ∀ e, k e = (y e : EReal)) :
    logit c near q k = if near then (((∑ e, x e * y e) * c : ℝ) : EReal) else ⊥ := by
  unfold logit
  rw [show (∑ e, q e * k e) = ((∑ e, x e * y e : ℝ) : EReal) from by
    rw [← coe_sum]; exact Finset.sum_congr rfl fun e _ => by rw [hq, hk, EReal.coe_mul], ← EReal.coe_mul]

/-- Entry `(b, n, h, d)` of the layer's attention: eight query heads, four to each of the two key heads. -/
def resultAt (c : EReal) (q : Fin 4 → Fin 4096 → Fin 1024 → EReal) (k v : Fin 4 → Fin 4096 → Fin 256 → EReal)
    (kc vc : Fin 4 → Fin 256 → Fin 256 → EReal) (s : Fin 8 → EReal) (b : Fin 4) (n : Fin 4096) (h : Fin 8)
    (d : Fin 128) : EReal :=
  result c n.val (fun e => q b n ⟨h.val * 128 + e.val, by omega⟩) (fun j e => k b j ⟨h.val / 4 * 128 + e.val, by omega⟩)
    (fun j e => v b j ⟨h.val / 4 * 128 + e.val, by omega⟩) (fun i e => kc b i ⟨h.val / 4 * 128 + e.val, by omega⟩)
    (fun i e => vc b i ⟨h.val / 4 * 128 + e.val, by omega⟩) (s h) d

end Cert.AttnSpec

end
-- ==== Proof.Attn.UnitValue.lean ====
module

public import proofs.«01_k».proof.Proof.Gen.KernelIdeal.Skeleton
public import proofs.«01_k».proof.Proof.Attn.Unit
public import proofs.«01_k».proof.Proof.Attn.Spec
public import Idealize.ShloMosaic.Lib.Pipeline.ValueKit
public import Idealize.ShloMosaic.Lib.Tactic.WordOmega

@[expose] public section

set_option maxRecDepth 16384

noncomputable section

/-! The value of one unit: attention of its queries over the band and the context. -/

namespace Cert.KernelIdeal.Attn

open Cert.KernelIdeal Cert.KernelIdeal.Gen Cert.AttnSpec Idealize.ShloMosaic Idealize.ShloMosaic.TcCoe Idealize.SL.Sem

/-- The distance test on words, for positions below 2^30. -/
theorem near_word (a b : Nat) (ha : a < 1073741824) (hb : b < 1073741824) :
    IntOp.cmpi .sle (IntOp.absi (IntOp.subi (BitVec.ofNat 32 a) (BitVec.ofNat 32 b))) 128#32 = 1#1
      ↔ (a ≤ b + 128 ∧ b ≤ a + 128) := by
  have e : (IntOp.absi (IntOp.subi (BitVec.ofNat 32 a) (BitVec.ofNat 32 b))).toNat = a - b + (b - a) := by
    unfold IntOp.absi IntOp.subi
    by_cases h : b ≤ a
    · have hm : (BitVec.ofNat 32 a - BitVec.ofNat 32 b).msb = false := by
        rw [BitVec.msb_eq_decide]; simp; omega
      rw [hm]; simp; omega
    · have hm : (BitVec.ofNat 32 a - BitVec.ofNat 32 b).msb = true := by
        rw [BitVec.msb_eq_decide]; simp; omega
      rw [hm]; simp; omega
  generalize IntOp.absi (IntOp.subi (BitVec.ofNat 32 a) (BitVec.ofNat 32 b)) = x at e ⊢
  have h : x.toNat < 1073741824 := by omega
  have key : IntOp.cmpi .sle x 128#32 = 1#1 ↔ x.toNat ≤ 128 := by word_omega
  rw [key]; omega

/-- Where the band of the 128 queries from `T * 128` begins. -/
theorem band_word : ∀ T : Fin 32, Scalar.minsi 3712#32 (Scalar.maxsi 0#32 (Scalar.subi (Scalar.muli (BitVec.ofNat 32 T.val) 128#32) 128#32))
    = BitVec.ofNat 32 (min 3712 (T.val * 128 - 128)) := by decide +kernel

/-- The first key of that band. -/
def start (T : Nat) : Nat := min 3712 (T * 128 - 128)

/-- The reciprocal of `log 2`. -/
def rlog2 : EReal := (((Real.log 2)⁻¹ : ℝ) : EReal)

theorem log2e_named : Named.named (F := Ideal) (φ := .f32) κ "log2e" 1069066811#32 = rlog2 :=
  IdealRules.named_const.ideal_named_scalar _ _ _ _ rfl

theorem mask_named : Named.named (F := Ideal) (φ := .f32) κ "mask" 4048155338#32 = (⊥ : EReal) :=
  IdealRules.named_const.ideal_named_scalar _ _ _ _ rfl

/-- The maximum the unit subtracts. -/
def shift (L : FVec Ideal S384x512 .f32) (C : FVec Ideal S256x512 .f32) (sk : Vec Ideal S1x1x512 .f32)
    (col : Fin 512) : EReal :=
  max (max ((sk (ix3 0 0 col) : EReal) * rlog2)
    (Finset.fold max (Ideal.ofBits .f32 4286578688#32) (fun x : Fin 384 => (L (ix2 x col) : EReal)) Finset.univ))
    (Finset.fold max (Ideal.ofBits .f32 4286578688#32) (fun x : Fin 256 => (C (ix2 x col) : EReal)) Finset.univ)

/-- The scores of the band. -/
theorem scores_at (T : Nat) (hT : T < 32) (h : Fin 4 → Vec Ideal S1x128x128 .bf16) (kb : Vec Ideal S1x384x128 .bf16)
    (r : Fin 4) (n : Fin 128) (col : Fin 512) (hc : col.val = r.val * 128 + n.val) (k : Fin 384) :
    k0_pay8 (F := Ideal) k0_pay6 (iota .tc S384x1 32 [0] iota_S384x1_d0_w32) (BitVec.ofNat 32 T) (h 0) (h 1) (h 2) (h 3)
      kb (ix2 k col) = if T * 128 + n.val ≤ start T + k.val + 128 ∧ start T + k.val ≤ T * 128 + n.val + 128
        then ∑ e : Fin 128, (kb (ix3 0 k e) : EReal) * h r (ix3 0 n e) else ⊥ := by
  pointwise [k0_pay8]
  rw [mask_named, query_at, band_word ⟨T, hT⟩]
  have hs : start T ≤ 3712 := by unfold start; omega
  have e := near_word (T * 128 + n.val) (start T + k.val) (by omega) (by omega)
  rw [show (∑ e : Fin 128, (kb (ix3 0 k e) : EReal) * k0_pay7 (F := Ideal) (h 0) (h 1) (h 2) (h 3) (ix2 col e))
    = ∑ e : Fin 128, (kb (ix3 0 k e) : EReal) * h r (ix3 0 n e) from
    Finset.sum_congr rfl fun e _ => by rw [heads_at _ _ _ _ r n e col hc]; fin_cases r <;> rfl]
  have w : IntOp.cmpi .sle (IntOp.absi (IntOp.subi (IntOp.addi (Scalar.muli (BitVec.ofNat 32 T) 128#32)
      (BitVec.ofNat 32 (col.val % 128))) (IntOp.addi (BitVec.ofNat 32 (min 3712 (T * 128 - 128)))
      (BitVec.ofNat 32 k.val)))) 128#32
      = IntOp.cmpi .sle (IntOp.absi (IntOp.subi (BitVec.ofNat 32 (T * 128 + n.val)) (BitVec.ofNat 32 (start T + k.val))))
        128#32 := by
    have e1 : IntOp.addi (Scalar.muli (BitVec.ofNat 32 T) 128#32) (BitVec.ofNat 32 (col.val % 128))
        = BitVec.ofNat 32 (T * 128 + n.val) := by
      rw [show col.val % 128 = n.val by omega]
      simp only [IntOp.addi, Scalar.muli, IntOp.muli, BitVec.ofNat_add, BitVec.ofNat_mul]
    have e2 : IntOp.addi (BitVec.ofNat 32 (min 3712 (T * 128 - 128))) (BitVec.ofNat 32 k.val)
        = BitVec.ofNat 32 (start T + k.val) := by
      simp only [IntOp.addi, start, BitVec.ofNat_add]
    rw [e1, e2]
  by_cases hk : T * 128 + n.val ≤ start T + k.val + 128 ∧ start T + k.val ≤ T * 128 + n.val + 128
  · rw [if_pos hk, w, e.mpr hk]; rfl
  · rw [if_neg hk, w, ValueIdx.eq_zero_of_ne_one fun h => hk (e.mp h)]; rfl

theorem context_at (h : Fin 4 → Vec Ideal S1x128x128 .bf16) (kc : Vec Ideal S1x256x128 .bf16)
    (r : Fin 4) (n : Fin 128) (col : Fin 512) (hc : col.val = r.val * 128 + n.val) (i : Fin 256) :
    k0_pay9 (F := Ideal) (h 0) (h 1) (h 2) (h 3) kc (ix2 i col)
      = ∑ e : Fin 128, (kc (ix3 0 i e) : EReal) * h r (ix3 0 n e) := by
  pointwise [k0_pay9]
  exact Finset.sum_congr rfl fun e _ => by rw [heads_at _ _ _ _ r n e col hc]; fin_cases r <;> rfl

theorem pay15_at (L : FVec Ideal S384x512 .f32) (C : FVec Ideal S256x512 .f32) (sk : Vec Ideal S1x1x512 .f32)
    (k : Fin 384) (col : Fin 512) :
    k0_pay15 (F := Ideal) L C sk (ix2 k col) = Ideal.exp2 ((L (ix2 k col) : EReal) - shift L C sk col) := by
  pointwise [k0_pay15, k0_pay14, k0_pay13, shift]
  rw [log2e_named]
  rfl

theorem pay16_ctx (L : FVec Ideal S384x512 .f32) (C : FVec Ideal S256x512 .f32) (sk : Vec Ideal S1x1x512 .f32)
    (k : Fin 256) (col : Fin 512) :
    k0_pay16 (F := Ideal) L C sk (ix2 ⟨k.val, by omega⟩ col) = Ideal.exp2 ((C (ix2 k col) : EReal) - shift L C sk col) := by
  pointwise [k0_pay16, k0_pay14, k0_pay13, shift]
  rw [log2e_named]
  rfl

theorem pay16_sink (L : FVec Ideal S384x512 .f32) (C : FVec Ideal S256x512 .f32) (sk : Vec Ideal S1x1x512 .f32)
    (k : Fin 16) (col : Fin 512) :
    k0_pay16 (F := Ideal) L C sk (ix2 ⟨256 + k.val, by omega⟩ col)
      = if k.val = 0 then Ideal.exp2 ((sk (ix3 0 0 col) : EReal) * rlog2 - shift L C sk col) else 0 := by
  pointwise [k0_pay16, k0_pay14, k0_pay13, shift]
  rw [log2e_named]
  have e : IntOp.cmpi .eq (BitVec.ofNat 32 k.val) 0#32 = 1#1 ↔ k.val = 0 := by revert k; decide +kernel
  by_cases hk : k.val = 0
  · rw [if_pos hk, e.mpr hk]; rfl
  · rw [if_neg hk, ValueIdx.eq_zero_of_ne_one fun h => hk (e.mp h)]; rfl

theorem pay27_at (P : FVec Ideal S384x512 .bf16) (Q : FVec Ideal S272x512 .bf16) (v : Vec Ideal S1x384x128 .bf16)
    (vc : Vec Ideal S1x256x128 .bf16) (col : Fin 512) (d : Fin 128) :
    k0_pay27 (F := Ideal) P Q v vc (ix2 col d)
      = Ideal.div ((∑ k : Fin 384, (P (ix2 k col) : EReal) * v (ix3 0 k d))
          + ∑ i : Fin 256, (Q (ix2 ⟨i.val, by omega⟩ col) : EReal) * vc (ix3 0 i d))
        ((∑ k : Fin 384, (P (ix2 k col) : EReal)) + ((∑ i : Fin 256, (Q (ix2 ⟨i.val, by omega⟩ col) : EReal))
          + ∑ i : Fin 16, (Q (ix2 ⟨256 + i.val, by omega⟩ col) : EReal))) := by
  pointwise [k0_pay27]
  simp only [mul_zero, Finset.sum_const_zero, add_zero]

/-- A unit is attention: its scores are the logits divided by `log 2`, and the maximum it subtracts is finite. -/
theorem unitOut_at (T : Nat) (hT : T < 32) (h : Fin 4 → Vec Ideal S1x128x128 .bf16) (kb : Vec Ideal S1x384x128 .bf16)
    (kc : Vec Ideal S1x256x128 .bf16) (sk : Vec Ideal S1x1x512 .f32) (vb : Vec Ideal S1x384x128 .bf16)
    (vc : Vec Ideal S1x256x128 .bf16) (r : Fin 4) (n : Fin 128) (col : Fin 512) (hc : col.val = r.val * 128 + n.val)
    (d : Fin 128) (X : Fin 384 → ℝ) (Y : Fin 256 → ℝ) (s : ℝ)
    (hX : ∀ k, (∑ e : Fin 128, (kb (ix3 0 k e) : EReal) * h r (ix3 0 n e)) = (X k : EReal) * rlog2)
    (hY : ∀ i, (∑ e : Fin 128, (kc (ix3 0 i e) : EReal) * h r (ix3 0 n e)) = (Y i : EReal) * rlog2)
    (hs : (sk (ix3 0 0 col) : EReal) = (s : EReal)) :
    unitOut (BitVec.ofNat 32 T) (h 0) (h 1) (h 2) (h 3) kb kc sk vb vc (ix2 col d)
      = attend (fun k : Fin 384 => if T * 128 + n.val ≤ start T + k.val + 128 ∧ start T + k.val ≤ T * 128 + n.val + 128
          then (X k : EReal) else ⊥) (fun k => vb (ix3 0 k d)) (fun i => (Y i : EReal)) (fun i => vc (ix3 0 i d)) s := by
  have hl : (0 : ℝ) < (Real.log 2)⁻¹ := inv_pos.mpr (Real.log_pos one_lt_two)
  have hb : Ideal.ofBits .f32 4286578688#32 ≠ ⊤ := by
    simp [Ideal.ofBits, Ideal.ieee]
  set L := k0_pay8 (F := Ideal) k0_pay6 (iota .tc S384x1 32 [0] iota_S384x1_d0_w32) (BitVec.ofNat 32 T) (h 0) (h 1) (h 2)
    (h 3) kb with hL
  set C := k0_pay9 (F := Ideal) (h 0) (h 1) (h 2) (h 3) kc with hC
  set X' : Fin 384 → EReal := fun k => if T * 128 + n.val ≤ start T + k.val + 128
    ∧ start T + k.val ≤ T * 128 + n.val + 128 then (X k : EReal) else ⊥ with hX'
  have x_top : ∀ k, X' k ≠ ⊤ := fun k => by
    simp only [hX']; split <;> simp
  have l_at : ∀ k, (L (ix2 k col) : EReal) = X' k * rlog2 := fun k => by
    rw [hL, scores_at T hT h kb r n col hc k, hX]
    simp only [hX']
    split
    · rfl
    · exact (EReal.bot_mul_coe_of_pos hl).symm
  have c_at : ∀ i, (C (ix2 i col) : EReal) = (Y i : EReal) * rlog2 := fun i => by
    rw [hC, context_at h kc r n col hc i, hY]
  have top_mul : ∀ x : EReal, x ≠ ⊤ → x * rlog2 ≠ ⊤ := by
    intro x hx
    induction x with
    | bot => rw [rlog2, EReal.bot_mul_coe_of_pos hl]; exact bot_ne_top
    | coe x => rw [rlog2, ← EReal.coe_mul]; exact EReal.coe_ne_top _
    | top => exact absurd rfl hx
  obtain ⟨m, hm⟩ : ∃ m : ℝ, shift L C sk col = (m : EReal) := by
    have h1 : shift L C sk col ≠ ⊤ := by
      unfold shift
      rw [hs]
      refine (max_lt (max_lt ?_ ?_) ?_).ne
      · exact lt_top_iff_ne_top.mpr (top_mul _ (EReal.coe_ne_top _))
      · exact lt_top_iff_ne_top.mpr (fold_max_ne_top hb _ fun k => by rw [l_at]; exact top_mul _ (x_top k))
      · exact lt_top_iff_ne_top.mpr (fold_max_ne_top hb _ fun k => by rw [c_at]; exact top_mul _ (EReal.coe_ne_top _))
    have h2 : shift L C sk col ≠ ⊥ := by
      unfold shift
      rw [hs, rlog2, ← EReal.coe_mul]
      exact (lt_of_lt_of_le (EReal.bot_lt_coe _) ((le_max_left _ _).trans (le_max_left _ _))).ne'
    exact ⟨(shift L C sk col).toReal, (EReal.coe_toReal h1 h2).symm⟩
  have hsum : (∑ i : Fin 16, (if i.val = 0 then (((2 : ℝ) ^ (-m) * wt (s : EReal) : ℝ) : EReal) else 0))
      = (((2 : ℝ) ^ (-m) * wt (s : EReal) : ℝ) : EReal) := by
    rw [Finset.sum_eq_single (0 : Fin 16)]
    · simp
    · intro b _ hb; exact if_neg fun h => hb (Fin.ext h)
    · intro h; exact absurd (Finset.mem_univ _) h
  unfold unitOut
  rw [pay27_at, ← attend_of_scaled X' (fun k => vb (ix3 0 k d)) (fun i => (Y i : EReal)) (fun i => vc (ix3 0 i d)) x_top
    (fun i => EReal.coe_ne_top _) s (Real.rpow_pos_of_pos two_pos (-m))]
  simp only [pay15_at, pay16_ctx, pay16_sink, ← hL, ← hC, l_at, c_at, hm, hs]
  simp only [rlog2, exp2_shift (x_top _), exp2_shift (EReal.coe_ne_top _)]
  rw [hsum]

end Cert.KernelIdeal.Attn

end
-- ==== Proof.Attn.Reads.lean ====
module

public import proofs.«01_k».proof.Proof.Gen.KernelIdeal.Value
public import proofs.«01_k».proof.Proof.Attn.UnitValue
public import Idealize.ShloMosaic.Lib.Pipeline.ValueKit
public import Idealize.ShloMosaic.Lib.Pipeline.ReadBack

@[expose] public section

set_option maxRecDepth 16384

noncomputable section

/-! Where each input block of a grid point of the attention kernel lies in its array. -/

namespace Cert.KernelIdeal.Attn

open Cert.KernelIdeal Cert.KernelIdeal.Gen Cert.AttnSpec Idealize.ShloMosaic Idealize.ShloMosaic.TcCoe Idealize.SL.Sem

variable (m : (ℓ : Loc nD τ sig) → Buf (Elt Ideal) ℓ)

/-- The index map of every window. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0] ∧ win0_4.index t = ![t.val / 8, 0, 0]
    ∧ win0_5.index t = ![0, 0, 0] ∧ win0_6.index t = ![0, t.val, 0] ∧ win0_7.index t = ![1, t.val, 0]
    ∧ win0_8.index t = ![0, t.val, 0] ∧ win0_9.index t = ![t.val / 8, t.val % 8, 0] ∧ win0_10.index t = ![t.val, 0]
    ∧ win0_11.index t = ![t.val, 0] ∧ win0_12.index t = ![t.val, 0] ∧ (grid0.coords t 1).val = t.val % 8 :=
  (by decide +kernel : ∀ t : Fin grid0.N, _)

/-- The bands of a point's units. -/
theorem band_idx : ∀ (t : Fin cfg0.N) (i : Fin 4),
    k0_off1 (grid0.coords t) (BitVec.ofNat 32 i.val) = ![0, start (t.val % 8 * 4 + i.val), 0]
      ∧ k0_off2 (grid0.coords t) (BitVec.ofNat 32 i.val) = ![0, start (t.val % 8 * 4 + i.val), 128] :=
  (by decide +kernel : ∀ (t : Fin grid0.N) (i : Fin 4), _)

/-- A query as the kernel is given it: scaled, and divided by `log 2`. -/
def scaled (x : EReal) : EReal :=
  Ideal.div (x * Ideal.ofBits .f32 0x3DB504F3#32) (Ideal.log (Ideal.ofBits .f32 0x40000000#32))

/-- The queries. -/
theorem read0 (c : Dev nD) (t : Fin cfg0.N) (b : Fin 4) (n : Fin 4096) (r : Fin 512) (k : Fin 1024)
    (hb : b.val = t.val / 8) (hn : n.val = t.val % 8 * 512 + r.val) :
    iblk m c 0 t (ix3 0 r k) = scaled (m ((c : Thread nD τ).loc main_arg0) (ix3 b n k)) := by
  blk_simp [iblk]
  entry_read
  refine (congrArg _ (show _ = ix3 b n k by blk_ext [idx t])).trans ?_
  pointwise [scaled]

/-- The keys. -/
theorem read1 (c : Dev nD) (t : Fin cfg0.N) (b : Fin 4) (n : Fin 4096) (k : Fin 256) (hb : b.val = t.val / 8) :
    iblk m c 1 t (ix3 0 n k) = m ((c : Thread nD τ).loc main_arg1) (ix3 b n k) := by
  blk_ext [iblk, V, idx t]

/-- The values. -/
theorem read2 (c : Dev nD) (t : Fin cfg0.N) (b : Fin 4) (n : Fin 4096) (k : Fin 256) (hb : b.val = t.val / 8) :
    iblk m c 2 t (ix3 0 n k) = m ((c : Thread nD τ).loc main_arg2) (ix3 b n k) := by
  blk_ext [iblk, V, idx t]

/-- The context keys. -/
theorem read3 (c : Dev nD) (t : Fin cfg0.N) (b : Fin 4) (n : Fin 256) (k : Fin 256) (hb : b.val = t.val / 8) :
    iblk m c 3 t (ix3 0 n k) = m ((c : Thread nD τ).loc main_arg3) (ix3 b n k) := by
  blk_ext [iblk, V, idx t]

/-- The context values. -/
theorem read4 (c : Dev nD) (t : Fin cfg0.N) (b : Fin 4) (n : Fin 256) (k : Fin 256) (hb : b.val = t.val / 8) :
    iblk m c 4 t (ix3 0 n k) = m ((c : Thread nD τ).loc main_arg4) (ix3 b n k) := by
  blk_ext [iblk, V, idx t]

/-- The sinks, one for each head, repeated over the queries. -/
theorem read5 (c : Dev nD) (t : Fin cfg0.N) (g : Fin 2) (r : Fin 4) (n : Fin 128) (col : Fin 512)
    (hc : col.val = r.val * 128 + n.val) :
    iblk m c 5 t (ix3 g 0 col) = m ((c : Thread nD τ).loc main_arg5) (ix2 0 ⟨g.val * 4 + r.val, by omega⟩) := by
  blk_simp [iblk]
  entry_read
  refine (congrArg _ (show _ = ix3 g 0 col by blk_ext [idx t])).trans ?_
  pointwise
  blk_ext

/-- The first weight to be cast. -/
theorem read6 (c : Dev nD) (t : Fin cfg0.N) (l : Fin 8192) (r : Fin 256) (d : Fin 2048) (hl : l.val = t.val * 256 + r.val) :
    iblk m c 6 t (ix3 0 r d) = m ((c : Thread nD τ).loc main_arg6) (ix3 0 l d) := by
  blk_ext [iblk, V, idx t]

/-- The second weight to be cast. -/
theorem read7 (c : Dev nD) (t : Fin cfg0.N) (l : Fin 8192) (r : Fin 256) (d : Fin 2048) (hl : l.val = t.val * 256 + r.val) :
    iblk m c 7 t (ix3 0 r d) = m ((c : Thread nD τ).loc main_arg6) (ix3 1 l d) := by
  blk_ext [iblk, V, idx t]

/-- The third weight to be cast. -/
theorem read8 (c : Dev nD) (t : Fin cfg0.N) (l : Fin 2048) (r : Fin 64) (d : Fin 2048) (hl : l.val = t.val * 64 + r.val) :
    iblk m c 8 t (ix3 0 r d) = m ((c : Thread nD τ).loc main_arg7) (ix3 0 l d) := by
  blk_ext [iblk, V, idx t]

end Cert.KernelIdeal.Attn

end
-- ==== Proof.Attn.UnitArr.lean ====
module

public import proofs.«01_k».proof.Proof.Gen.KernelIdeal.Value
public import proofs.«01_k».proof.Proof.Attn.Unit
public import Idealize.ShloMosaic.Lib.Pipeline.ValueKit

@[expose] public section

set_option maxRecDepth 16384

noncomputable section

/-! The eight units of a grid point of the attention kernel, four heads each, and the output block they fill. -/

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- Where a unit's band of keys begins. -/
def bandOff (x : grid0.Coords) (i : Fin 4) (g : Fin 2) : Fin 3 → Nat :=
  ![k0_off1 x (BitVec.ofNat 32 i.val), k0_off2 x (BitVec.ofNat 32 i.val)] g

theorem bandOff_inb (x : grid0.Coords) (i : Fin 4) (g : Fin 2) :
    ∀ a, bandOff x i g a + S1x384x128.size a ≤ S1x4096x256.size a :=
  match g with
  | 0 => k0_off1_inb x i
  | 1 => k0_off2_inb x i

theorem headOff_inb (i : Fin 4) (h : Fin 8) :
    ∀ a, (![0, i.val * 128, h.val * 128] : Fin 3 → Nat) a + S1x128x128.size a ≤ S1x512x1024.size a := by
  revert i h; decide +kernel

theorem ctxOff_inb (g : Fin 2) :
    ∀ a, (![0, 0, g.val * 128] : Fin 3 → Nat) a + S1x256x128.size a ≤ S1x256x256.size a := by
  revert g; decide +kernel

theorem sinkOff_inb (g : Fin 2) :
    ∀ a, (![g.val, 0, 0] : Fin 3 → Nat) a + S1x1x512.size a ≤ S2x1x512.size a := by
  revert g; decide +kernel

/-- The head of a unit. -/
def headOf (g : Fin 2) (r : Fin 4) : Fin 8 := ⟨g.val * 4 + r.val, by omega⟩

/-- The queries of one head in one sub-block of the point's block. -/
def qld (c : Dev nD) (t : Fin cfg0.N) (i : Fin 4) (h : Fin 8) : Vec Ideal S1x128x128 .bf16 :=
  View.ld (iblk m c 0 t) (Rect.unit (s := S1x512x1024) ![0, i.val * 128, h.val * 128] S1x128x128.size (headOff_inb i h))

/-- The unit of sub-block `i` and key head `g`. -/
def unitArr (c : Dev nD) (t : Fin cfg0.N) (i : Fin 4) (g : Fin 2) : FVec Ideal S512x128 .f32 :=
  unitOut (Scalar.addi (Scalar.muli (BitVec.ofNat 32 (grid0.coords t 1).val) 4#32) (BitVec.ofNat 32 i.val))
    (qld m c t i (headOf g 0)) (qld m c t i (headOf g 1)) (qld m c t i (headOf g 2)) (qld m c t i (headOf g 3))
    (View.ld (iblk m c 1 t) (Rect.unit (s := S1x4096x256) (bandOff (grid0.coords t) i g) S1x384x128.size
      (bandOff_inb _ i g)))
    (View.ld (iblk m c 3 t) (Rect.unit (s := S1x256x256) ![0, 0, g.val * 128] S1x256x128.size (ctxOff_inb g)))
    (View.ld (iblk m c 5 t) (Rect.unit (s := S2x1x512) ![g.val, 0, 0] S1x1x512.size (sinkOff_inb g)))
    (View.ld (iblk m c 2 t) (Rect.unit (s := S1x4096x256) (bandOff (grid0.coords t) i g) S1x384x128.size
      (bandOff_inb _ i g)))
    (View.ld (iblk m c 4 t) (Rect.unit (s := S1x256x256) ![0, 0, g.val * 128] S1x256x128.size (ctxOff_inb g)))

/-- The output block of a point: entry by entry, the unit the entry belongs to. -/
def blockOut (c : Dev nD) (t : Fin cfg0.N) : Vec Ideal S1x512x1024 .bf16 := fun y =>
  unitArr m c t ⟨(y 1).val / 128, by have h : (y 1).val < 512 := (y 1).isLt; omega⟩
    ⟨(y 2).val / 512, by have h : (y 2).val < 1024 := (y 2).isLt; omega⟩
    (ix2 ⟨(y 2).val / 128 % 4 * 128 + (y 1).val % 128, by omega⟩ ⟨(y 2).val % 128, by omega⟩)

/-- An entry of the output block, by the corner of its tile. -/
theorem blockOut_at (c : Dev nD) (t : Fin cfg0.N) {n1 n2 : Nat} {y : S1x128x128.Idx} {z : S1x512x1024.Idx}
    (h1 : (z 1).val = n1 + (y 1).val) (h2 : (z 2).val = n2 + (y 2).val) (b1 : n1 < 512) (b2 : n2 < 1024)
    (d1 : n1 % 128 = 0) (d2 : n2 % 128 = 0) :
    unitArr m c t ⟨n1 / 128, by omega⟩ ⟨n2 / 512, by omega⟩ (ix2 ⟨n2 / 128 % 4 * 128 + (y 1).val, by
      have h : (y 1).val < 128 := (y 1).isLt; omega⟩ (y 2)) = blockOut m c t z := by
  have l1 : (y 1).val < 128 := (y 1).isLt
  have l2 : (y 2).val < 128 := (y 2).isLt
  have key : ∀ (i i' : Fin 4) (g g' : Fin 2) (a a' : Fin 512) (b b' : Fin 128), i' = i → g' = g → a' = a → b' = b →
      unitArr m c t i g (ix2 a b) = unitArr m c t i' g' (ix2 a' b') := by
    rintro _ _ _ _ _ _ _ _ rfl rfl rfl rfl; rfl
  exact key _ _ _ _ _ _ _ _ (Fin.ext (by simp only; omega)) (Fin.ext (by simp only; omega))
    (Fin.ext (by simp only; omega)) (Fin.ext (by simp only; omega))

end Cert.KernelIdeal.Attn

end
-- ==== Proof.Attn.Entry.lean ====
module

public import proofs.«01_k».proof.Proof.Attn.Reads
public import proofs.«01_k».proof.Proof.Attn.UnitArr

@[expose] public section

set_option maxRecDepth 16384

noncomputable section

/-! One entry of the attention kernel's output block, in terms of the argument arrays. -/

namespace Cert.KernelIdeal.Attn

open Cert.KernelIdeal Cert.KernelIdeal.Gen Cert.AttnSpec Idealize.ShloMosaic Idealize.ShloMosaic.TcCoe Idealize.SL.Sem

variable (m : (ℓ : Loc nD τ sig) → Buf (Elt Ideal) ℓ)

/-- The factor of the scores, as a number. -/
def scale : ℝ := (Ideal.ofBits .f32 0x3DB504F3#32 : EReal).toReal

theorem scale_eq : (Ideal.ofBits .f32 0x3DB504F3#32 : EReal) = (scale : EReal) := by
  refine (EReal.coe_toReal ?_ ?_).symm <;> simp [Ideal.ofBits, Ideal.ieee, -EReal.coe_mul]

theorem scaled_coe (x : ℝ) : scaled (x : EReal) = ((x * scale : ℝ) : EReal) * rlog2 := by
  have h2 : (Ideal.ofBits .f32 0x40000000#32 : EReal) = ((2 : ℝ) : EReal) := by
    simp [Ideal.ofBits, Ideal.ieee, -EReal.coe_mul]; norm_num
  have hl : 0 < Real.log 2 := Real.log_pos one_lt_two
  have h3 : Ideal.log ((2 : ℝ) : EReal) = ((Real.log 2 : ℝ) : EReal) := by
    show (if (2 : ℝ) ≤ 0 then (⊥ : EReal) else (Real.log 2 : ℝ)) = _
    rw [if_neg (by norm_num)]
  rw [scaled, h2, h3, scale_eq, ← EReal.coe_mul, Ideal.div, if_neg (by exact_mod_cast hl.ne'), rlog2, EReal.coe_inv]

/-- One head of one sub-block of queries. -/
theorem head_at (x : Vec Ideal S1x512x1024 .bf16) (i : Fin 4) (h : Fin 8) (n e : Fin 128) :
    View.ld x (Rect.unit (s := S1x512x1024) ![0, i.val * 128, h.val * 128] S1x128x128.size (headOff_inb i h)) (ix3 0 n e)
      = x (ix3 0 ⟨i.val * 128 + n.val, by omega⟩ ⟨h.val * 128 + e.val, by omega⟩) := by
  pointwise
  blk_ext

/-- The heads of a unit's queries. -/
theorem qld_at (c : Dev nD) (t : Fin cfg0.N) (i : Fin 4) (h : Fin 8) (n e : Fin 128) (b : Fin 4) (p : Fin 4096)
    (hb : b.val = t.val / 8) (hp : p.val = (t.val % 8 * 4 + i.val) * 128 + n.val) :
    qld m c t i h (ix3 0 n e)
      = scaled (m ((c : Thread nD τ).loc main_arg0) (ix3 b p ⟨h.val * 128 + e.val, by omega⟩)) := by
  rw [← read0 m c t b p ⟨i.val * 128 + n.val, by omega⟩ ⟨h.val * 128 + e.val, by omega⟩ hb (by simp only; omega)]
  unfold qld
  exact head_at _ i h n e

/-- A unit's band of an array of keys or values. -/
theorem band_at (t : Fin cfg0.N) (x : Vec Ideal S1x4096x256 .bf16) (i : Fin 4) (g : Fin 2) (k : Fin 384) (e : Fin 128) :
    View.ld x (Rect.unit (s := S1x4096x256) (bandOff (grid0.coords t) i g) S1x384x128.size (bandOff_inb _ i g)) (ix3 0 k e)
      = x (ix3 0 ⟨start (t.val % 8 * 4 + i.val) + k.val, by unfold start; omega⟩ ⟨g.val * 128 + e.val, by omega⟩) := by
  obtain ⟨h1, h2⟩ := band_idx t i
  match g with
  | 0 =>
    pointwise [bandOff, h1]
    blk_ext
  | 1 =>
    pointwise [bandOff, h2]
    blk_ext

/-- A unit's context keys or values. -/
theorem ctx_at (x : Vec Ideal S1x256x256 .bf16) (g : Fin 2) (k : Fin 256) (e : Fin 128) :
    View.ld x (Rect.unit (s := S1x256x256) ![0, 0, g.val * 128] S1x256x128.size (ctxOff_inb g)) (ix3 0 k e)
      = x (ix3 0 k ⟨g.val * 128 + e.val, by omega⟩) := by
  pointwise
  blk_ext

/-- A unit's sinks. -/
theorem sink_at (x : Vec Ideal S2x1x512 .f32) (g : Fin 2) (col : Fin 512) :
    View.ld x (Rect.unit (s := S2x1x512) ![g.val, 0, 0] S1x1x512.size (sinkOff_inb g)) (ix3 0 0 col)
      = x (ix3 g 0 col) := by
  pointwise
  blk_ext

/-- The attention of the layer, over the kernel's argument arrays. -/
def attnAt (c : Dev nD) (b : Fin 4) (n : Fin 4096) (h : Fin 8) (d : Fin 128) : EReal :=
  resultAt (Ideal.ofBits .f32 0x3DB504F3#32) (fun b n e => m ((c : Thread nD τ).loc main_arg0) (ix3 b n e))
    (fun b n e => m ((c : Thread nD τ).loc main_arg1) (ix3 b n e)) (fun b n e => m ((c : Thread nD τ).loc main_arg2) (ix3 b n e))
    (fun b n e => m ((c : Thread nD τ).loc main_arg3) (ix3 b n e)) (fun b n e => m ((c : Thread nD τ).loc main_arg4) (ix3 b n e))
    (fun h => m ((c : Thread nD τ).loc main_arg5) (ix2 0 h)) b n h d

/-- The arguments whose products and exponentials are taken are finite. -/
def Finite (c : Dev nD) : Prop :=
  (∀ b n e, ∃ x : ℝ, (m ((c : Thread nD τ).loc main_arg0) (ix3 b n e) : EReal) = (x : EReal))
    ∧ (∀ b n e, ∃ x : ℝ, (m ((c : Thread nD τ).loc main_arg1) (ix3 b n e) : EReal) = (x : EReal))
    ∧ (∀ b n e, ∃ x : ℝ, (m ((c : Thread nD τ).loc main_arg3) (ix3 b n e) : EReal) = (x : EReal))
    ∧ (∀ h, ∃ x : ℝ, (m ((c : Thread nD τ).loc main_arg5) (ix2 0 h) : EReal) = (x : EReal))

/-- An entry of a unit is an entry of the layer's attention. -/
theorem unitArr_at (c : Dev nD) (hfin : Finite m c) (t : Fin cfg0.N) (i : Fin 4) (g : Fin 2) (r : Fin 4) (n : Fin 128)
    (col : Fin 512) (hc : col.val = r.val * 128 + n.val) (d : Fin 128) (b : Fin 4) (p : Fin 4096) (h : Fin 8)
    (hb : b.val = t.val / 8) (hp : p.val = (t.val % 8 * 4 + i.val) * 128 + n.val) (hh : h.val = g.val * 4 + r.val) :
    unitArr m c t i g (ix2 col d) = attnAt m c b p h d := by
  obtain ⟨fq, fk, fc, fs⟩ := hfin
  choose q hq using fq
  choose k hk using fk
  choose kc hkc using fc
  choose s hs using fs
  have hN : t.val < 32 := t.isLt
  set T := t.val % 8 * 4 + i.val with hT
  have hT32 : T < 32 := by omega
  have hg : h.val / 4 = g.val := by omega
  have word : Scalar.addi (Scalar.muli (BitVec.ofNat 32 (grid0.coords t 1).val) 4#32) (BitVec.ofNat 32 i.val)
      = BitVec.ofNat 32 T := by
    obtain ⟨-, -, -, -, -, -, -, -, -, -, -, -, -, e⟩ := idx t
    rw [e, hT]
    simp only [Scalar.addi, IntOp.addi, Scalar.muli, IntOp.muli, BitVec.ofNat_add, BitVec.ofNat_mul]
  have dot : ∀ (x : Fin 128 → EReal) (y : Fin 128 → ℝ), (∀ e, x e = (y e : EReal)) →
      (∑ e : Fin 128, x e * qld m c t i (headOf g r) (ix3 0 n e))
        = (((∑ e, q b p ⟨h.val * 128 + e.val, by omega⟩ * y e) * scale : ℝ) : EReal) * rlog2 := by
    intro x y hx
    rw [rlog2, ← EReal.coe_mul, Finset.sum_mul, Finset.sum_mul, ← coe_sum]
    refine Finset.sum_congr rfl fun e _ => ?_
    rw [hx, qld_at m c t i (headOf g r) n e b p hb hp, show (⟨(headOf g r).val * 128 + e.val, by omega⟩ : Fin 1024)
      = ⟨h.val * 128 + e.val, by omega⟩ from Fin.ext (by simp only [headOf]; omega), hq, scaled_coe, rlog2, ← EReal.coe_mul,
      ← EReal.coe_mul]
    congr 1; ring
  have hst : start T ≤ 3712 := by unfold start; omega
  unfold unitArr
  rw [word]
  refine (unitOut_at T hT32 (fun r => qld m c t i (headOf g r)) _ _ _ _ _ r n col hc d
    (fun x => (∑ e : Fin 128, q b p ⟨h.val * 128 + e.val, by omega⟩
      * k b ⟨start T + x.val, by omega⟩ ⟨h.val / 4 * 128 + e.val, by omega⟩) * scale)
    (fun x => (∑ e : Fin 128, q b p ⟨h.val * 128 + e.val, by omega⟩ * kc b x ⟨h.val / 4 * 128 + e.val, by omega⟩) * scale)
    (s h) (fun x => dot _ _ fun e => ?_) (fun x => dot _ _ fun e => ?_) ?_).trans ?_
  · rw [band_at, ← hk, ← read1 m c t b _ _ hb]
    exact congrArg _ (congrArg _ (Fin.ext (by simp only; omega)))
  · rw [ctx_at, ← hkc, ← read3 m c t b _ _ hb]
    exact congrArg _ (congrArg _ (Fin.ext (by simp only; omega)))
  · rw [sink_at, read5 m c t g r n col hc, ← hs]
    exact congrArg _ (congrArg _ (Fin.ext hh.symm))
  · unfold attnAt resultAt result
    rw [scale_eq]
    simp only [hs, logit_coe scale _ (fun e => hq b p ⟨h.val * 128 + e.val, by omega⟩)
      (fun e => hk b _ ⟨h.val / 4 * 128 + e.val, by omega⟩), logit_coe scale _ (fun e => hq b p ⟨h.val * 128 + e.val, by omega⟩)
      (fun e => hkc b _ ⟨h.val / 4 * 128 + e.val, by omega⟩), if_true]
    refine attend_band (start T + 128) _ _ _ _ _ _ _ _ ?_ ?_ ?_ ?_ ?_
    · intro x j hj
      have e : (⟨start T + x.val, by omega⟩ : Fin 4096) = j := Fin.ext (by simp only; omega)
      have e' : start T + x.val = j.val := by omega
      simp only [e, e', hp]
    · intro x j hj
      have e : (⟨start T + x.val, by omega⟩ : Fin 4096) = j := Fin.ext (by simp only; omega)
      rw [band_at, ← read2 m c t b _ _ hb]
      simp only [← hT, e]
      exact congrArg _ (congrArg _ (Fin.ext (by simp only; omega)))
    · intro x hx
      omega
    · intro j hj
      have hn : p.val ≤ j.val + 128 ∧ j.val ≤ p.val + 128 := by
        by_contra hn
        exact hj (if_neg hn)
      unfold start at *
      omega
    · intro x
      rw [ctx_at, ← read4 m c t b _ _ hb]
      exact congrArg _ (congrArg _ (Fin.ext (by simp only; omega)))

end Cert.KernelIdeal.Attn

end
-- ==== Proof.Attn.Block.lean ====
module

public import proofs.«01_k».proof.Proof.Gen.KernelIdeal.Value
public import proofs.«01_k».proof.Proof.Attn.UnitArr
public import Idealize.ShloMosaic.Lib.Pipeline.ValueKit
public import Idealize.ShloMosaic.Lib.Pipeline.ReadBack

@[expose] public section

set_option maxRecDepth 16384

noncomputable section

/-! What one grid point of the attention kernel leaves in its output block: its eight units. -/

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- A value is a unit's as soon as its nine loads are. -/
theorem unit_of (c : Dev nD) (t : Fin cfg0.N) (i : Fin 4) (g : Fin 2) {w : BitVec 32}
    {h0 h1 h2 h3 : Vec Ideal S1x128x128 .bf16} {kb : Vec Ideal S1x384x128 .bf16}
    {kc : Vec Ideal S1x256x128 .bf16} {sk : Vec Ideal S1x1x512 .f32} {vb : Vec Ideal S1x384x128 .bf16}
    {vc : Vec Ideal S1x256x128 .bf16} {U : FVec Ideal S512x128 .f32} (hU : U = unitOut w h0 h1 h2 h3 kb kc sk vb vc)
    (ew : w = Scalar.addi (Scalar.muli (BitVec.ofNat 32 (grid0.coords t 1).val) 4#32) (BitVec.ofNat 32 i.val))
    (e0 : h0 = qld m c t i (headOf g 0)) (e1 : h1 = qld m c t i (headOf g 1)) (e2 : h2 = qld m c t i (headOf g 2))
    (e3 : h3 = qld m c t i (headOf g 3))
    (ek : kb = View.ld (iblk m c 1 t) (Rect.unit (s := S1x4096x256) (bandOff (grid0.coords t) i g) S1x384x128.size
      (bandOff_inb _ i g)))
    (ec : kc = View.ld (iblk m c 3 t) (Rect.unit (s := S1x256x256) ![0, 0, g.val * 128] S1x256x128.size (ctxOff_inb g)))
    (es : sk = View.ld (iblk m c 5 t) (Rect.unit (s := S2x1x512) ![g.val, 0, 0] S1x1x512.size (sinkOff_inb g)))
    (ev : vb = View.ld (iblk m c 2 t) (Rect.unit (s := S1x4096x256) (bandOff (grid0.coords t) i g) S1x384x128.size
      (bandOff_inb _ i g)))
    (ed : vc = View.ld (iblk m c 4 t) (Rect.unit (s := S1x256x256) ![0, 0, g.val * 128] S1x256x128.size
      (ctxOff_inb g))) : U = unitArr m c t i g := by
  subst hU ew e0 e1 e2 e3 ek ec es ev ed
  rfl

theorem word_const : Scalar.select (Scalar.cmpi .eq 128#32 0#32) 1#32 128#32 = 128#32 := by decide

theorem sign_const : Scalar.cmpi .slt 128#32 0#32 = 0#1 := by decide

set_option maxHeartbeats 4000000 in
/-- The output block after a point. -/
theorem core (c : Dev nD) (t : Fin cfg0.N) : (outsAt0 m c t).1 = blockOut m c t := by
  frame_out
  funext y
  canon_tiles y h
  all_goals
    first
      | refine Eq.trans ?_ (blockOut_at m c t h1 h2 (by decide) (by decide) (by decide) (by decide))
      | refine Eq.trans ?_ (blockOut_at m c t (h1.trans (Nat.zero_add _).symm) h2 (by decide) (by decide) (by decide)
          (by decide))
      | refine Eq.trans ?_ (blockOut_at m c t h1 (h2.trans (Nat.zero_add _).symm) (by decide) (by decide) (by decide)
          (by decide))
      | refine Eq.trans ?_ (blockOut_at m c t (h1.trans (Nat.zero_add _).symm) (h2.trans (Nat.zero_add _).symm)
          (by decide) (by decide) (by decide) (by decide))
    simp only [Memref.IsWhole.read_unread, read_unread_whole]
    open_payloads
    repeat rw [Memref.IsWhole.read_unread]
    refine Eq.trans (piece_at _ _ (by decide) y) ?_
    refine congrFun (?_ : _ = unitArr m c t _ _) _
    apply unit_of
    · unfold unitOut
      symm
      open_payloads
      symm
      try simp only [word_const, sign_const]
      rfl
    all_goals rfl

end Cert.KernelIdeal.Attn
end
-- ==== Proof.Attn.Array.lean ====
module

public import proofs.«01_k».proof.Proof.Attn.Entry
public import proofs.«01_k».proof.Proof.Attn.Block

@[expose] public section

set_option maxRecDepth 16384

noncomputable section

/-! The attention kernel's four output arrays, entry by entry. -/

namespace Cert.KernelIdeal.Attn

open Cert.KernelIdeal Cert.KernelIdeal.Gen Cert.AttnSpec Idealize.ShloMosaic Idealize.ShloMosaic.TcCoe Idealize.SL.Sem

variable (m : (ℓ : Loc nD τ sig) → Buf (Elt Ideal) ℓ)

theorem attnAt_congr (c : Dev nD) {b b' : Fin 4} {n n' : Fin 4096} {h h' : Fin 8} {d d' : Fin 128} (hb : b.val = b'.val)
    (hn : n.val = n'.val) (hh : h.val = h'.val) (hd : d.val = d'.val) : attnAt m c b n h d = attnAt m c b' n' h' d' := by
  rw [Fin.ext hb, Fin.ext hn, Fin.ext hh, Fin.ext hd]

/-- The attention array after the run. -/
theorem final_attn (c : Dev nD) (hfin : Finite m c) : (dats m 0 c).arrAt 9 cfg0.N = fun i => attnAt m c (i 0) (i 1)
    ⟨(i 2).val / 128, by have h : (i 2).val < 1024 := (i 2).isLt; omega⟩ ⟨(i 2).val % 128, by omega⟩ := by
  refine (dats m 0 c).arrAt_eq_of_covers 9 _ (by decide +kernel) fun t hf y => ?_
  blk_simp
  rw [after0_9, core]
  have hN : t.val < 32 := t.isLt
  have key : ∀ z : S1x512x1024.Idx, blockOut m c t z
      = attnAt m c ⟨t.val / 8, by omega⟩ ⟨t.val % 8 * 512 + (z 1).val, by have h : (z 1).val < 512 := (z 1).isLt; omega⟩
        ⟨(z 2).val / 128, by have h : (z 2).val < 1024 := (z 2).isLt; omega⟩ ⟨(z 2).val % 128, by omega⟩ := by
    intro z
    have h1 : (z 1).val < 512 := (z 1).isLt
    have h2 : (z 2).val < 1024 := (z 2).isLt
    exact unitArr_at m c hfin t _ _ ⟨(z 2).val / 128 % 4, by omega⟩ ⟨(z 1).val % 128, by omega⟩ _ rfl _ _ _ _ rfl
      (by simp only; omega) (by simp only; omega)
  refine (key y).trans (attnAt_congr m c ?_ ?_ ?_ ?_) <;> blk_simp [idx t]

/-- The first weight after the run. -/
theorem final_w2 (c : Dev nD) : (dats m 0 c).arrAt 10 cfg0.N
    = fun i => m ((c : Thread nD τ).loc main_arg6) (ix3 0 (i 0) (i 1)) := by
  refine (dats m 0 c).arrAt_eq_of_covers 10 _ (by decide +kernel) fun t hf y => ?_
  blk_simp
  rw [after0_10]
  have hN : t.val < 32 := t.isLt
  have key : ∀ z : S256x2048.Idx, (outsAt0 m c t).2.1 z = m ((c : Thread nD τ).loc main_arg6)
      (ix3 0 ⟨t.val * 256 + (z 0).val, by have h : (z 0).val < 256 := (z 0).isLt; omega⟩ (z 1)) := by
    intro z
    rw [← read6 m c t _ (z 0) (z 1) rfl]
    frame_out
    pointwise
    blk_ext
  refine (key y).trans (congrArg _ ?_)
  blk_ext [idx t]

/-- The second weight after the run. -/
theorem final_w2' (c : Dev nD) : (dats m 0 c).arrAt 11 cfg0.N
    = fun i => m ((c : Thread nD τ).loc main_arg6) (ix3 1 (i 0) (i 1)) := by
  refine (dats m 0 c).arrAt_eq_of_covers 11 _ (by decide +kernel) fun t hf y => ?_
  blk_simp
  rw [after0_11]
  have hN : t.val < 32 := t.isLt
  have key : ∀ z : S256x2048.Idx, (outsAt0 m c t).2.2.1 z = m ((c : Thread nD τ).loc main_arg6)
      (ix3 1 ⟨t.val * 256 + (z 0).val, by have h : (z 0).val < 256 := (z 0).isLt; omega⟩ (z 1)) := by
    intro z
    rw [← read7 m c t _ (z 0) (z 1) rfl]
    frame_out
    pointwise
    blk_ext
  refine (key y).trans (congrArg _ ?_)
  blk_ext [idx t]

/-- The third weight after the run. -/
theorem final_wo (c : Dev nD) : (dats m 0 c).arrAt 12 cfg0.N
    = fun i => m ((c : Thread nD τ).loc main_arg7) (ix3 0 (i 0) (i 1)) := by
  refine (dats m 0 c).arrAt_eq_of_covers 12 _ (by decide +kernel) fun t hf y => ?_
  blk_simp
  rw [after0_12]
  have hN : t.val < 32 := t.isLt
  have key : ∀ z : S64x2048.Idx, (outsAt0 m c t).2.2.2 z = m ((c : Thread nD τ).loc main_arg7)
      (ix3 0 ⟨t.val * 64 + (z 0).val, by have h : (z 0).val < 64 := (z 0).isLt; omega⟩ (z 1)) := by
    intro z
    rw [← read8 m c t _ (z 0) (z 1) rfl]
    frame_out
    pointwise
    blk_ext
  refine (key y).trans (congrArg _ ?_)
  blk_ext [idx t]

end Cert.KernelIdeal.Attn

end
-- ==== Proof.Attn.Stages.lean ====
module

public import proofs.«01_k».proof.Proof.Gen.ReferenceIdeal.Run
public import Idealize.ShloMosaic.Lib.Pipeline.ValueKit

@[expose] public section

set_option maxRecDepth 16384

noncomputable section

/-! The reference's attention in stages, over its argument arrays. -/

namespace Cert.ReferenceIdeal.Attn

open Cert.ReferenceIdeal Cert.ReferenceIdeal.Gen Idealize.ShloMosaic Idealize.ShloMosaic.TcCoe Idealize.SL.Sem

/-- An array of keys or values with a block of zeros before and after, cut to blocks of 128. -/
def padded (x : (⟨S4x4096x256, .bf16⟩ : BufTy).Contents (Elt Ideal)) : (⟨S4x34x128x2x128, .f32⟩ : BufTy).Contents (Elt Ideal) :=
    shapeCast _ (pad S4x4352x2x128 ![0, 128, 0, 0] ![0, 128, 0, 0] ![0, 0, 0, 0] (shapeCast _ (extf (F := Ideal) (φ := .bf16) .f32 x bitsLt_bf16_f32)
    shapeCasts_S4x4096x256_S4x4096x2x128) (sitofp (F := Ideal) .f32 (constantI S_ 32 0#32)) pads_S4x4096x2x128_S4x4352x2x128_000_1281280_000_000 h_S_)
    shapeCasts_S4x4352x2x128_S4x34x128x2x128

/-- To each block of queries, the three blocks around it. -/
def band (x : (⟨S4x4096x256, .bf16⟩ : BufTy).Contents (Elt Ideal)) : (⟨S4x32x384x2x128, .f32⟩ : BufTy).Contents (Elt Ideal) :=
    ((concatenate S4x32x384x2x128 2 [⟨S4x32x128x2x128, ((extractStridedSlice S4x32x128x2x128 ![0, 0, 0, 0, 0] (padded x)
    slices_S4x34x128x2x128_S4x32x128x2x128_0_0_0_0_0) : (⟨S4x32x128x2x128, .f32⟩ : BufTy).Contents (Elt Ideal))⟩, ⟨S4x32x128x2x128, ((extractStridedSlice
    S4x32x128x2x128 ![0, 1, 0, 0, 0] (padded x) slices_S4x34x128x2x128_S4x32x128x2x128_0_1_0_0_0) : (⟨S4x32x128x2x128, .f32⟩ : BufTy).Contents (Elt
    Ideal))⟩, ⟨S4x32x128x2x128, ((extractStridedSlice S4x32x128x2x128 ![0, 2, 0, 0, 0] (padded x) slices_S4x34x128x2x128_S4x32x128x2x128_0_2_0_0_0) :
    (⟨S4x32x128x2x128, .f32⟩ : BufTy).Contents (Elt Ideal))⟩] concatenates_S4x32x128x2x128_S4x32x128x2x128_S4x32x128x2x128_S4x32x384x2x128_d2 :
    (⟨S4x32x384x2x128, .f32⟩ : BufTy).Contents (Elt Ideal)))

/-- The queries by block, key head and query head. -/
def queries (x0 : (⟨S4x4096x1024, .f32⟩ : BufTy).Contents (Elt Ideal)) : (⟨S4x32x128x2x4x128, .f32⟩ : BufTy).Contents (Elt Ideal) :=
    shapeCast _ x0 shapeCasts_S4x4096x1024_S4x32x128x2x4x128

/-- The context keys or values by head. -/
def heads (x : (⟨S4x256x256, .bf16⟩ : BufTy).Contents (Elt Ideal)) : (⟨S4x256x2x128, .f32⟩ : BufTy).Contents (Elt Ideal) :=
    shapeCast _ (extf (F := Ideal) (φ := .bf16) .f32 x bitsLt_bf16_f32) shapeCasts_S4x256x256_S4x256x2x128

/-- Whether a key of a band is there and near to the query. -/
def valid  : (⟨S32x128x384, .i1⟩ : BufTy).Contents (Elt Ideal) :=
    andi (andi (cmpi .sle (absi (subi (broadcastInDim S32x128x384 ![0, 1, 2] bcast_S32x128x1_S32x128x384_0_1_2 (addi (broadcastInDim S32x128x1 ![0, 1,
    2] bcast_S32x1x1_S32x128x1_0_1_2 (muli (broadcastInDim S32x1x1 ![0] bcast_S32_S32x1x1_0 (iotaInDim S32 32 0)) (broadcastInDim S32x1x1 ![]
    bcast_S_S32x1x1 (constantI S_ 32 128#32)))) (broadcastInDim S32x128x1 ![0, 1, 2] bcast_S1x128x1_S32x128x1_0_1_2 (broadcastInDim S1x128x1 ![1]
    bcast_S128_S1x128x1_1 (iotaInDim S128 32 0))))) (broadcastInDim S32x128x384 ![0, 1, 2] bcast_S32x1x384_S32x128x384_0_1_2 (subi (addi
    (broadcastInDim S32x1x384 ![0, 1, 2] bcast_S32x1x1_S32x1x384_0_1_2 (muli (broadcastInDim S32x1x1 ![0] bcast_S32_S32x1x1_0 (iotaInDim S32 32 0))
    (broadcastInDim S32x1x1 ![] bcast_S_S32x1x1 (constantI S_ 32 128#32)))) (broadcastInDim S32x1x384 ![0, 1, 2] bcast_S1x1x384_S32x1x384_0_1_2
    (broadcastInDim S1x1x384 ![2] bcast_S384_S1x1x384_2 (iotaInDim S384 32 0)))) (broadcastInDim S32x1x384 ![] bcast_S_S32x1x384 (constantI S_ 32
    128#32)))))) (broadcastInDim S32x128x384 ![] bcast_S_S32x128x384 (constantI S_ 32 128#32))) (broadcastInDim S32x128x384 ![0, 1, 2]
    bcast_S32x1x384_S32x128x384_0_1_2 (cmpi .sge (subi (addi (broadcastInDim S32x1x384 ![0, 1, 2] bcast_S32x1x1_S32x1x384_0_1_2 (muli (broadcastInDim
    S32x1x1 ![0] bcast_S32_S32x1x1_0 (iotaInDim S32 32 0)) (broadcastInDim S32x1x1 ![] bcast_S_S32x1x1 (constantI S_ 32 128#32)))) (broadcastInDim
    S32x1x384 ![0, 1, 2] bcast_S1x1x384_S32x1x384_0_1_2 (broadcastInDim S1x1x384 ![2] bcast_S384_S1x1x384_2 (iotaInDim S384 32 0)))) (broadcastInDim
    S32x1x384 ![] bcast_S_S32x1x384 (constantI S_ 32 128#32))) (broadcastInDim S32x1x384 ![] bcast_S_S32x1x384 (constantI S_ 32 0#32)))))
    (broadcastInDim S32x128x384 ![0, 1, 2] bcast_S32x1x384_S32x128x384_0_1_2 (cmpi .slt (subi (addi (broadcastInDim S32x1x384 ![0, 1, 2]
    bcast_S32x1x1_S32x1x384_0_1_2 (muli (broadcastInDim S32x1x1 ![0] bcast_S32_S32x1x1_0 (iotaInDim S32 32 0)) (broadcastInDim S32x1x1 ![]
    bcast_S_S32x1x1 (constantI S_ 32 128#32)))) (broadcastInDim S32x1x384 ![0, 1, 2] bcast_S1x1x384_S32x1x384_0_1_2 (broadcastInDim S1x1x384 ![2]
    bcast_S384_S1x1x384_2 (iotaInDim S384 32 0)))) (broadcastInDim S32x1x384 ![] bcast_S_S32x1x384 (constantI S_ 32 128#32))) (broadcastInDim
    S32x1x384 ![] bcast_S_S32x1x384 (constantI S_ 32 4096#32))))

/-- The same, by head. -/
def maskOf  : (⟨S4x32x2x4x128x384, .i1⟩ : BufTy).Contents (Elt Ideal) :=
    broadcastInDim S4x32x2x4x128x384 ![0, 1, 2, 3, 4, 5] bcast_S1x32x1x1x128x384_S4x32x2x4x128x384_0_1_2_3_4_5 (broadcastInDim S1x32x1x1x128x384 ![1,
    4, 5] bcast_S32x128x384_S1x32x1x1x128x384_1_4_5 valid)

/-- The masked scores of the keys of the band. -/
def scores (x0 : (⟨S4x4096x1024, .f32⟩ : BufTy).Contents (Elt Ideal)) (x1 : (⟨S4x4096x256, .bf16⟩ : BufTy).Contents (Elt Ideal)) : (⟨S4x32x2x4x128x384, .f32⟩ : BufTy).Contents (Elt Ideal) :=
    select maskOf (mulf (transpose S4x32x2x4x128x384 [0, 1, 2, 5, 4, 3] (Host.dotGeneral (F := Ideal) (φ₁ := .f32) (φ₂ := .f32) dot_S4x32x384x2x128_S4x32x128x2x4x128_S4x32x2x384x128x4_4_5_2_24_013_013 none (band x1) (queries x0))
    transposes_S4x32x2x384x128x4_S4x32x2x4x128x384_0_1_2_5_4_3) (broadcastInDim S4x32x2x4x128x384 ![] bcast_S_S4x32x2x4x128x384 (constant (F := Ideal) S_ .f32
    0x3DB504F3#32))) (broadcastInDim S4x32x2x4x128x384 ![] bcast_S_S4x32x2x4x128x384 (id (constant (F := Ideal) S_ .f32 0xFF800000#32)))

/-- The scores of the context keys. -/
def ctxScores (x0 : (⟨S4x4096x1024, .f32⟩ : BufTy).Contents (Elt Ideal)) (x3 : (⟨S4x256x256, .bf16⟩ : BufTy).Contents (Elt Ideal)) : (⟨S4x32x2x4x128x256, .f32⟩ : BufTy).Contents (Elt Ideal) :=
    mulf (transpose S4x32x2x4x128x256 [0, 3, 1, 5, 4, 2] (Host.dotGeneral (F := Ideal) (φ₁ := .f32) (φ₂ := .f32) dot_S4x256x2x128_S4x32x128x2x4x128_S4x2x256x32x128x4_3_5_1_124_02_03 none
    (heads x3) (queries x0)) transposes_S4x2x256x32x128x4_S4x32x2x4x128x256_0_3_1_5_4_2) (broadcastInDim S4x32x2x4x128x256 ![]
    bcast_S_S4x32x2x4x128x256 (constant (F := Ideal) S_ .f32 0x3DB504F3#32))

/-- The sinks. -/
def sinks (x5 : (⟨S1x8, .f32⟩ : BufTy).Contents (Elt Ideal)) : (⟨S4x32x2x4x128x1, .f32⟩ : BufTy).Contents (Elt Ideal) :=
    broadcastInDim S4x32x2x4x128x1 ![2, 3, 4, 5] bcast_S2x4x1x1_S4x32x2x4x128x1_2_3_4_5 (shapeCast _ (shapeCast _ x5 shapeCasts_S1x8_S8)
    shapeCasts_S8_S2x4x1x1)

/-- All logits of a query. -/
def logits (x0 : (⟨S4x4096x1024, .f32⟩ : BufTy).Contents (Elt Ideal)) (x1 : (⟨S4x4096x256, .bf16⟩ : BufTy).Contents (Elt Ideal)) (x3 : (⟨S4x256x256, .bf16⟩ : BufTy).Contents (Elt Ideal)) (x5 : (⟨S1x8, .f32⟩ : BufTy).Contents (Elt Ideal)) : (⟨S4x32x2x4x128x641, .f32⟩ : BufTy).Contents (Elt Ideal) :=
    (concatenate S4x32x2x4x128x641 5 [⟨S4x32x2x4x128x384, ((scores x0 x1) : (⟨S4x32x2x4x128x384, .f32⟩ : BufTy).Contents (Elt Ideal))⟩,
    ⟨S4x32x2x4x128x256, ((ctxScores x0 x3) : (⟨S4x32x2x4x128x256, .f32⟩ : BufTy).Contents (Elt Ideal))⟩, ⟨S4x32x2x4x128x1, ((sinks x5) :
    (⟨S4x32x2x4x128x1, .f32⟩ : BufTy).Contents (Elt Ideal))⟩] concatenates_S4x32x2x4x128x384_S4x32x2x4x128x256_S4x32x2x4x128x1_S4x32x2x4x128x641_d5 :
    (⟨S4x32x2x4x128x641, .f32⟩ : BufTy).Contents (Elt Ideal))

/-- The largest logit of a query. -/
def largest (y : (⟨S4x32x2x4x128x641, .f32⟩ : BufTy).Contents (Elt Ideal)) : (⟨S4x32x2x4x128, .f32⟩ : BufTy).Contents (Elt Ideal) :=
    maximumf (broadcastInDim S4x32x2x4x128 ![] bcast_S_S4x32x2x4x128 (constant (F := Ideal) S_ .f32 0xFF800000#32)) (Host.reduce FloatOps.maximumf y (constant (F := Ideal) S_
    .f32 0xFF800000#32) reducesTo_S4x32x2x4x128x641_S4x32x2x4x128_d5 h_S_)

/-- The exponentials, shifted by the largest logit. -/
def exps (y : (⟨S4x32x2x4x128x641, .f32⟩ : BufTy).Contents (Elt Ideal)) : (⟨S4x32x2x4x128x641, .f32⟩ : BufTy).Contents (Elt Ideal) :=
    Host.exp (F := Ideal) (φ := .f32) (subf (F := Ideal) (φ := .f32) y (broadcastInDim S4x32x2x4x128x641 ![0, 1, 2, 3, 4, 5] bcast_S4x32x2x4x128x1_S4x32x2x4x128x641_0_1_2_3_4_5 (broadcastInDim
    S4x32x2x4x128x1 ![0, 1, 2, 3, 4] bcast_S4x32x2x4x128_S4x32x2x4x128x1_0_1_2_3_4 (largest y))))

/-- The softmax. -/
def probs (y : (⟨S4x32x2x4x128x641, .f32⟩ : BufTy).Contents (Elt Ideal)) : (⟨S4x32x2x4x128x641, .f32⟩ : BufTy).Contents (Elt Ideal) :=
    Host.divf (exps y) (broadcastInDim S4x32x2x4x128x641 ![0, 1, 2, 3, 4, 5] bcast_S4x32x2x4x128x1_S4x32x2x4x128x641_0_1_2_3_4_5 (broadcastInDim
    S4x32x2x4x128x1 ![0, 1, 2, 3, 4] bcast_S4x32x2x4x128_S4x32x2x4x128x1_0_1_2_3_4 (Host.reduceAdd (exps y) (constant (F := Ideal) S_ .f32 0x00000000#32)
    reducesTo_S4x32x2x4x128x641_S4x32x2x4x128_d5 h_S_)))

/-- The weighted sums of the values. -/
def weighted (p : (⟨S4x32x2x4x128x641, .f32⟩ : BufTy).Contents (Elt Ideal)) (x2 : (⟨S4x4096x256, .bf16⟩ : BufTy).Contents (Elt Ideal)) (x4 : (⟨S4x256x256, .bf16⟩ : BufTy).Contents (Elt Ideal)) : (⟨S4x32x128x2x4x128, .f32⟩ : BufTy).Contents (Elt Ideal) :=
    addf (transpose S4x32x128x2x4x128 [0, 1, 5, 2, 4, 3] (Host.dotGeneral (F := Ideal) (φ₁ := .f32) (φ₂ := .f32) dot_S4x32x384x2x128_S4x32x2x4x128x384_S4x32x2x128x4x128_2_5_4_34_013_012
    none (band x2) (extractStridedSlice S4x32x2x4x128x384 ![0, 0, 0, 0, 0, 0] p slices_S4x32x2x4x128x641_S4x32x2x4x128x384_0_0_0_0_0_0))
    transposes_S4x32x2x128x4x128_S4x32x128x2x4x128_0_1_5_2_4_3) (transpose S4x32x128x2x4x128 [0, 3, 5, 1, 4, 2] (Host.dotGeneral (F := Ideal) (φ₁ := .f32) (φ₂ := .f32) dot_S4x256x2x128_S4x32x2x4x128x256_S4x2x128x32x4x128_1_5_3_134_02_02 none (heads x4) (extractStridedSlice S4x32x2x4x128x256 ![0, 0, 0, 0, 0, 384]
    p slices_S4x32x2x4x128x641_S4x32x2x4x128x256_0_0_0_0_0_384)) transposes_S4x2x128x32x4x128_S4x32x128x2x4x128_0_3_5_1_4_2)

/-- The attention of the layer. -/
def attention (x0 : (⟨S4x4096x1024, .f32⟩ : BufTy).Contents (Elt Ideal)) (x1 : (⟨S4x4096x256, .bf16⟩ : BufTy).Contents (Elt Ideal)) (x2 : (⟨S4x4096x256, .bf16⟩ : BufTy).Contents (Elt Ideal)) (x3 : (⟨S4x256x256, .bf16⟩ : BufTy).Contents (Elt Ideal)) (x4 : (⟨S4x256x256, .bf16⟩ : BufTy).Contents (Elt Ideal)) (x5 : (⟨S1x8, .f32⟩ : BufTy).Contents (Elt Ideal)) : (⟨S4x4096x1024, .bf16⟩ : BufTy).Contents (Elt Ideal) :=
    truncf (F := Ideal) (φ := .f32) .bf16 (shapeCast _ (weighted (probs (logits x0 x1 x3 x5)) x2 x4) shapeCasts_S4x32x128x2x4x128_S4x4096x1024) bitsLt_bf16_f32

/-- The program's result is these stages. -/
theorem result_eq (m : (ℓ : Loc nD τ sig) → Buf (Elt Ideal) ℓ) (c : Dev nD) :
    Cert.ReferenceIdeal.Value.res_main_v84 m c = attention (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5)) := by
  unfold Cert.ReferenceIdeal.Value.res_main_v84; rfl

end Cert.ReferenceIdeal.Attn

end
-- ==== Proof.Attn.StageReads.lean ====
module

public import proofs.«01_k».proof.Proof.Attn.Stages
public import proofs.«01_k».proof.Proof.Attn.UnitValue

@[expose] public section

set_option maxRecDepth 16384

noncomputable section

/-! The reference's stages, entry by entry. -/

namespace Cert.ReferenceIdeal.Attn

open Cert.ReferenceIdeal Cert.ReferenceIdeal.Gen Idealize.ShloMosaic Idealize.ShloMosaic.TcCoe Idealize.SL.Sem

/-- A block of the padded array: its keys are `128` places later. -/
theorem padded_in (x : (⟨S4x4096x256, .bf16⟩ : BufTy).Contents (Elt Ideal)) (b : Fin 4) (n : Fin 34) (k : Fin 128) (g : Fin 2)
    (e : Fin 128) (j : Fin 4096) (hj : n.val * 128 + k.val = j.val + 128) :
    padded x (ix5 b n k g e) = x (ix3 b j ⟨g.val * 128 + e.val, by omega⟩) := by
  pointwise [padded]
  rw [dif_pos (by omega)]
  refine congrArg x ?_
  congr 1
  exact Fin.ext (by simp only; omega)

/-- Before the first key and after the last one stands zero. -/
theorem padded_out (x : (⟨S4x4096x256, .bf16⟩ : BufTy).Contents (Elt Ideal)) (b : Fin 4) (n : Fin 34) (k : Fin 128) (g : Fin 2)
    (e : Fin 128) (hj : n.val * 128 + k.val < 128 ∨ 4224 ≤ n.val * 128 + k.val) :
    (padded x (ix5 b n k g e) : EReal) = 0 := by
  pointwise [padded]
  rw [dif_neg (by omega)]
  show ((((0#32 : BitVec 32).toInt : ℝ)) : EReal) = 0
  simp

/-- A band is three blocks of the padded array. -/
theorem band_at (x : (⟨S4x4096x256, .bf16⟩ : BufTy).Contents (Elt Ideal)) (b : Fin 4) (n : Fin 32) (k : Fin 384) (g : Fin 2)
    (e : Fin 128) (a : Fin 34) (r : Fin 128) (ha : a.val * 128 + r.val = n.val * 128 + k.val) :
    band x (ix5 b n k g e) = padded x (ix5 b a r g e) := by
  pointwise [band]
  split
  · refine congrArg (padded x) ?_
    congr 1 <;> exact Fin.ext (by simp only; omega)
  · split
    · refine congrArg (padded x) ?_
      congr 1 <;> exact Fin.ext (by simp only; omega)
    · refine congrArg (padded x) ?_
      congr 1 <;> exact Fin.ext (by simp only; omega)

/-- The queries, by block and head. -/
theorem queries_at (x : (⟨S4x4096x1024, .f32⟩ : BufTy).Contents (Elt Ideal)) (b : Fin 4) (n : Fin 32) (q : Fin 128) (g : Fin 2)
    (r : Fin 4) (e : Fin 128) (p : Fin 4096) (h : Fin 8) (hp : p.val = n.val * 128 + q.val) (hh : h.val = g.val * 4 + r.val) :
    queries x (ix6 b n q g r e) = x (ix3 b p ⟨h.val * 128 + e.val, by omega⟩) := by
  pointwise [queries]
  blk_ext

/-- The context keys or values, by head. -/
theorem heads_at (x : (⟨S4x256x256, .bf16⟩ : BufTy).Contents (Elt Ideal)) (b : Fin 4) (k : Fin 256) (g : Fin 2) (e : Fin 128) :
    (heads x (ix4 b k g e) : EReal) = x (ix3 b k ⟨g.val * 128 + e.val, by omega⟩) := by
  pointwise [heads]
  blk_ext

/-- The sinks, by head. -/
theorem sinks_at (x : (⟨S1x8, .f32⟩ : BufTy).Contents (Elt Ideal)) (b : Fin 4) (n : Fin 32) (g : Fin 2) (r : Fin 4) (q : Fin 128)
    (h : Fin 8) (hh : h.val = g.val * 4 + r.val) :
    sinks x (ix6 b n g r q 0) = x (ix2 0 h) := by
  pointwise [sinks]
  blk_ext

/-- The score of a key of the band. -/
theorem scores_at (x0 : (⟨S4x4096x1024, .f32⟩ : BufTy).Contents (Elt Ideal)) (x1 : (⟨S4x4096x256, .bf16⟩ : BufTy).Contents (Elt Ideal))
    (b : Fin 4) (n : Fin 32) (g : Fin 2) (r : Fin 4) (q : Fin 128) (k : Fin 384) :
    (scores x0 x1 (ix6 b n g r q k) : EReal) = if maskOf (ix6 b n g r q k) = 1#1 then (∑ e : Fin 128, (band x1 (ix5 b n k g e) : EReal) * queries x0 (ix6 b n q g r e)) * (Ideal.ofBits .f32 0x3DB504F3#32) else Ideal.ofBits .f32 0xFF800000#32 := by
  pointwise [scores]
  rfl

/-- The score of a context key. -/
theorem ctxScores_at (x0 : (⟨S4x4096x1024, .f32⟩ : BufTy).Contents (Elt Ideal)) (x3 : (⟨S4x256x256, .bf16⟩ : BufTy).Contents (Elt Ideal))
    (b : Fin 4) (n : Fin 32) (g : Fin 2) (r : Fin 4) (q : Fin 128) (k : Fin 256) :
    (ctxScores x0 x3 (ix6 b n g r q k) : EReal) = (∑ e : Fin 128, (heads x3 (ix4 b k g e) : EReal) * queries x0 (ix6 b n q g r e)) * (Ideal.ofBits .f32 0x3DB504F3#32) := by
  pointwise [ctxScores]

/-- The exponentials. -/
theorem exps_at (y : (⟨S4x32x2x4x128x641, .f32⟩ : BufTy).Contents (Elt Ideal))
    (b : Fin 4) (n : Fin 32) (g : Fin 2) (r : Fin 4) (q : Fin 128) (k : Fin 641) :
    (exps y (ix6 b n g r q k) : EReal) = Ideal.exp (y (ix6 b n g r q k) - largest y (ix5 b n g r q)) := by
  pointwise [exps]

/-- The shapes of the reductions over the logits. -/
theorem red : S4x32x2x4x128x641.Reduces [5] S4x32x2x4x128 := by decide

/-- The logits of one query. -/
theorem lift_at (b : Fin 4) (n : Fin 32) (g : Fin 2) (r : Fin 4) (q : Fin 128) (k : Fin 641) :
    red.lift (ix5 b n g r q) k = ix6 b n g r q k := by
  funext a
  match a with
  | 0 => rfl
  | 1 => rfl
  | 2 => rfl
  | 3 => rfl
  | 4 => rfl
  | 5 => rfl

/-- The softmax. -/
theorem probs_at (y : (⟨S4x32x2x4x128x641, .f32⟩ : BufTy).Contents (Elt Ideal))
    (b : Fin 4) (n : Fin 32) (g : Fin 2) (r : Fin 4) (q : Fin 128) (k : Fin 641) :
    (probs y (ix6 b n g r q k) : EReal) = Ideal.div (exps y (ix6 b n g r q k)) (∑ k : Fin 641, (exps y (ix6 b n g r q k) : EReal)) := by
  pointwise [probs]
  rw [Ideal.hostReduceAdd_single _ red, zero_add]
  exact congrArg _ (Finset.sum_congr rfl fun k _ => congrArg (exps y) (lift_at b n g r q k))

/-- The largest of a query's logits, as a fold. -/
theorem reduce_at (f : EReal → EReal → EReal) (hf : f = max) (y : S4x32x2x4x128x641.Idx → EReal) (init : S_.Idx → EReal)
    (b : Fin 4) (n : Fin 32) (g : Fin 2) (r : Fin 4) (q : Fin 128) :
    (Host.reduce (α := EReal) f y init reducesTo_S4x32x2x4x128x641_S4x32x2x4x128_d5 h_S_ (ix5 b n g r q) : EReal)
      = Finset.fold max (init (Shape.Idx.first h_S_)) (fun k : Fin 641 => (y (ix6 b n g r q k) : EReal)) Finset.univ := by
  subst hf
  refine (Host.reduce_eq_fold_single (α := EReal) max y init _ red _ _).trans ?_
  refine congrArg (fun f : Fin 641 → EReal => Finset.fold max (init (Shape.Idx.first h_S_)) f Finset.univ) ?_
  funext k
  exact congrArg y (lift_at b n g r q k)

/-- The larger of two arrays, entry by entry. -/
theorem max_at (x y : S4x32x2x4x128.Idx → EReal) (j : S4x32x2x4x128.Idx) :
    (maximumf (F := Ideal) (φ := .f32) x y j : EReal) = max (x j) (y j) := by
  pointwise

/-- A number spread over the queries. -/
theorem spread_at (z : S_.Idx → EReal) (j : S4x32x2x4x128.Idx) (e : EReal) (he : z = fun _ => e) :
    broadcastInDim S4x32x2x4x128 ![] bcast_S_S4x32x2x4x128 z j = e := by
  subst he
  rfl

/-- The largest logit of a query. -/
theorem largest_at (y : (⟨S4x32x2x4x128x641, .f32⟩ : BufTy).Contents (Elt Ideal))
    (b : Fin 4) (n : Fin 32) (g : Fin 2) (r : Fin 4) (q : Fin 128) (z : EReal)
    (hz : constant (F := Ideal) S_ .f32 0xFF800000#32 = fun _ => z) :
    (largest y (ix5 b n g r q) : EReal) = max z
      (Finset.fold max z (fun k : Fin 641 => (y (ix6 b n g r q k) : EReal)) Finset.univ) := by
  unfold largest
  rw [hz]
  refine (max_at _ _ _).trans ?_
  rw [spread_at _ _ z rfl]
  exact congrArg (max z) (reduce_at _ Ideal.maximumf_eq_max y (fun _ => z) b n g r q)

/-- The logits of the band. -/
theorem logits_loc (x0 : (⟨S4x4096x1024, .f32⟩ : BufTy).Contents (Elt Ideal)) (x1 : (⟨S4x4096x256, .bf16⟩ : BufTy).Contents (Elt Ideal))
    (x3 : (⟨S4x256x256, .bf16⟩ : BufTy).Contents (Elt Ideal)) (x5 : (⟨S1x8, .f32⟩ : BufTy).Contents (Elt Ideal))
    (b : Fin 4) (n : Fin 32) (g : Fin 2) (r : Fin 4) (q : Fin 128) (k : Fin 384) :
    logits x0 x1 x3 x5 (ix6 b n g r q ⟨k.val, by omega⟩) = scores x0 x1 (ix6 b n g r q k) := by
  pointwise [logits]

/-- The logits of the context keys. -/
theorem logits_ctx (x0 : (⟨S4x4096x1024, .f32⟩ : BufTy).Contents (Elt Ideal)) (x1 : (⟨S4x4096x256, .bf16⟩ : BufTy).Contents (Elt Ideal))
    (x3 : (⟨S4x256x256, .bf16⟩ : BufTy).Contents (Elt Ideal)) (x5 : (⟨S1x8, .f32⟩ : BufTy).Contents (Elt Ideal))
    (b : Fin 4) (n : Fin 32) (g : Fin 2) (r : Fin 4) (q : Fin 128) (k : Fin 256) :
    logits x0 x1 x3 x5 (ix6 b n g r q ⟨384 + k.val, by omega⟩) = ctxScores x0 x3 (ix6 b n g r q k) := by
  pointwise [logits]

/-- The logit of the sink. -/
theorem logits_sink (x0 : (⟨S4x4096x1024, .f32⟩ : BufTy).Contents (Elt Ideal)) (x1 : (⟨S4x4096x256, .bf16⟩ : BufTy).Contents (Elt Ideal))
    (x3 : (⟨S4x256x256, .bf16⟩ : BufTy).Contents (Elt Ideal)) (x5 : (⟨S1x8, .f32⟩ : BufTy).Contents (Elt Ideal))
    (b : Fin 4) (n : Fin 32) (g : Fin 2) (r : Fin 4) (q : Fin 128) :
    logits x0 x1 x3 x5 (ix6 b n g r q ⟨640, by omega⟩) = sinks x5 (ix6 b n g r q 0) := by
  pointwise [logits]

end Cert.ReferenceIdeal.Attn

end
-- ==== Proof.Attn.Weighted.lean ====
module

public import proofs.«01_k».proof.Proof.Attn.Stages
public import proofs.«01_k».proof.Proof.Attn.UnitValue

@[expose] public section

set_option maxRecDepth 16384

noncomputable section

/-! The reference's weighted sums and result, entry by entry. -/

namespace Cert.ReferenceIdeal.Attn

open Cert.ReferenceIdeal Cert.ReferenceIdeal.Gen Idealize.ShloMosaic Idealize.ShloMosaic.TcCoe Idealize.SL.Sem

/-- The weighted sum over the band, as the program lays it out. -/
theorem dot_loc (y0 : (⟨S4x32x384x2x128, .f32⟩ : BufTy).Contents (Elt Ideal)) (y1 : (⟨S4x32x2x4x128x384, .f32⟩ : BufTy).Contents (Elt Ideal)) (b : Fin 4) (n : Fin 32) (g : Fin 2) (d : Fin 128) (q : Fin 128) (r : Fin 4) :
   Host.dotGeneral (F := Ideal) (φ₁ := .f32) (φ₂ := .f32) dot_S4x32x384x2x128_S4x32x2x4x128x384_S4x32x2x128x4x128_2_5_4_34_013_012 none y0 y1 (ix6 b n g d r q) = ∑ k : Fin 384, (y0 (ix5 b n k g d) : EReal) * y1 (ix6 b n g r q k) := by
  pointwise

/-- The weighted sum over the context, as the program lays it out. -/
theorem dot_ctx (y0 : (⟨S4x256x2x128, .f32⟩ : BufTy).Contents (Elt Ideal)) (y1 : (⟨S4x32x2x4x128x256, .f32⟩ : BufTy).Contents (Elt Ideal)) (b : Fin 4) (n : Fin 32) (g : Fin 2) (d : Fin 128) (q : Fin 128) (r : Fin 4) :
   Host.dotGeneral (F := Ideal) (φ₁ := .f32) (φ₂ := .f32) dot_S4x256x2x128_S4x32x2x4x128x256_S4x2x128x32x4x128_1_5_3_134_02_02 none y0 y1 (ix6 b g d n r q) = ∑ k : Fin 256, (y0 (ix4 b k g d) : EReal) * y1 (ix6 b n g r q k) := by
  pointwise

/-- The layout of the first sum. -/
theorem turn_loc (y : (⟨S4x32x2x128x4x128, .f32⟩ : BufTy).Contents (Elt Ideal)) (b : Fin 4) (n : Fin 32) (q : Fin 128) (g : Fin 2)
    (r : Fin 4) (d : Fin 128) :
    transpose S4x32x128x2x4x128 [0, 1, 5, 2, 4, 3] y transposes_S4x32x2x128x4x128_S4x32x128x2x4x128_0_1_5_2_4_3 (ix6 b n q g r d)
      = y (ix6 b n g d r q) := by
  pointwise

/-- The layout of the second sum. -/
theorem turn_ctx (y : (⟨S4x2x128x32x4x128, .f32⟩ : BufTy).Contents (Elt Ideal)) (b : Fin 4) (n : Fin 32) (q : Fin 128) (g : Fin 2)
    (r : Fin 4) (d : Fin 128) :
    transpose S4x32x128x2x4x128 [0, 3, 5, 1, 4, 2] y transposes_S4x2x128x32x4x128_S4x32x128x2x4x128_0_3_5_1_4_2 (ix6 b n q g r d)
      = y (ix6 b g d n r q) := by
  pointwise

/-- The two weighted sums of the values. -/
theorem weighted_at (p : (⟨S4x32x2x4x128x641, .f32⟩ : BufTy).Contents (Elt Ideal)) (x2 : (⟨S4x4096x256, .bf16⟩ : BufTy).Contents (Elt Ideal))
    (x4 : (⟨S4x256x256, .bf16⟩ : BufTy).Contents (Elt Ideal)) (b : Fin 4) (n : Fin 32) (q : Fin 128) (g : Fin 2) (r : Fin 4) (d : Fin 128) :
    (weighted p x2 x4 (ix6 b n q g r d) : EReal)
      = (∑ k : Fin 384, (band x2 (ix5 b n k g d) : EReal) * p (ix6 b n g r q ⟨k.val, by omega⟩))
        + ∑ k : Fin 256, (heads x4 (ix4 b k g d) : EReal) * p (ix6 b n g r q ⟨384 + k.val, by omega⟩) := by
  refine congrArg₂ (fun u v : EReal => u + v) ((turn_loc _ b n q g r d).trans ((dot_loc _ _ b n g d q r).trans ?_))
    ((turn_ctx _ b n q g r d).trans ((dot_ctx _ _ b n g d q r).trans ?_))
  · exact Finset.sum_congr rfl fun k _ => congrArg (fun u : EReal => band x2 (ix5 b n k g d) * u) (by pointwise)
  · exact Finset.sum_congr rfl fun k _ => congrArg (fun u : EReal => heads x4 (ix4 b k g d) * u) (by pointwise)

/-- An entry of the result. -/
theorem attention_at (x0 : (⟨S4x4096x1024, .f32⟩ : BufTy).Contents (Elt Ideal)) (x1 : (⟨S4x4096x256, .bf16⟩ : BufTy).Contents (Elt Ideal))
    (x2 : (⟨S4x4096x256, .bf16⟩ : BufTy).Contents (Elt Ideal))
    (x3 : (⟨S4x256x256, .bf16⟩ : BufTy).Contents (Elt Ideal)) (x4 : (⟨S4x256x256, .bf16⟩ : BufTy).Contents (Elt Ideal)) (x5 : (⟨S1x8, .f32⟩ : BufTy).Contents (Elt Ideal))
    (b : Fin 4) (p : Fin 4096) (e : Fin 1024) :
    attention x0 x1 x2 x3 x4 x5 (ix3 b p e) = weighted (probs (logits x0 x1 x3 x5)) x2 x4
      (ix6 b ⟨p.val / 128, by omega⟩ ⟨p.val % 128, by omega⟩ ⟨e.val / 512, by omega⟩ ⟨e.val / 128 % 4, by omega⟩ ⟨e.val % 128, by omega⟩) := by
  pointwise [attention]

end Cert.ReferenceIdeal.Attn

end
-- ==== Proof.Attn.Mask.lean ====
module

public import proofs.«01_k».proof.Proof.Attn.Stages
public import proofs.«01_k».proof.Proof.Attn.UnitValue

@[expose] public section

set_option maxRecDepth 16384

noncomputable section

/-! The reference's mask, entry by entry. -/

namespace Cert.ReferenceIdeal.Attn

open Cert.ReferenceIdeal Cert.ReferenceIdeal.Gen Idealize.ShloMosaic Idealize.ShloMosaic.TcCoe Idealize.SL.Sem

/-- A conjunction of truth values. -/
theorem andi_iff : ∀ a b : BitVec 1, IntOp.andi a b = 1#1 ↔ a = 1#1 ∧ b = 1#1 := by decide

/-- The mask: the key is there, and at a distance of at most 128 from the query. -/
theorem valid_at (b : Fin 4) (n : Fin 32) (g : Fin 2) (r : Fin 4) (q : Fin 128) (k : Fin 384) :
    maskOf (ix6 b n g r q k) = 1#1 ↔ 128 ≤ n.val * 128 + k.val ∧ n.val * 128 + k.val < 4224
      ∧ n.val * 128 + q.val ≤ n.val * 128 + k.val ∧ n.val * 128 + k.val ≤ n.val * 128 + q.val + 256 := by
  have e : maskOf (ix6 b n g r q k) = IntOp.andi (IntOp.andi
      (IntOp.cmpi .sle (IntOp.absi (IntOp.subi (BitVec.ofNat 32 (n.val * 128 + q.val))
        (IntOp.subi (BitVec.ofNat 32 (n.val * 128 + k.val)) 128#32))) 128#32)
      (IntOp.cmpi .sge (IntOp.subi (BitVec.ofNat 32 (n.val * 128 + k.val)) 128#32) 0#32))
      (IntOp.cmpi .slt (IntOp.subi (BitVec.ofNat 32 (n.val * 128 + k.val)) 128#32) 4096#32) := by
    pointwise [maskOf, valid]
    simp only [IntOp.addi, IntOp.muli, BitVec.ofNat_add, BitVec.ofNat_mul]
  rw [e, andi_iff, andi_iff]
  clear e
  by_cases hu : 128 ≤ n.val * 128 + k.val
  · have w : IntOp.subi (BitVec.ofNat 32 (n.val * 128 + k.val)) 128#32 = BitVec.ofNat 32 (n.val * 128 + k.val - 128) := by
      apply BitVec.eq_of_toNat_eq
      simp only [IntOp.subi, BitVec.toNat_sub, BitVec.toNat_ofNat]; omega
    rw [w, Cert.KernelIdeal.Attn.near_word _ _ (by omega) (by omega)]
    have w2 : (BitVec.ofNat 32 (n.val * 128 + k.val - 128)).toNat = n.val * 128 + k.val - 128 := by
      rw [BitVec.toNat_ofNat]; omega
    generalize BitVec.ofNat 32 (n.val * 128 + k.val - 128) = y at w2 ⊢
    have hy : y.toNat < 5000 := by omega
    have k1 : IntOp.cmpi .sge y 0#32 = 1#1 := by word_omega
    have k2 : IntOp.cmpi .slt y 4096#32 = 1#1 ↔ y.toNat < 4096 := by word_omega
    simp only [k1, k2, w2, and_true]; omega
  · have w2 : (BitVec.ofNat 32 (n.val * 128 + k.val)).toNat = n.val * 128 + k.val := by
      rw [BitVec.toNat_ofNat]; omega
    generalize BitVec.ofNat 32 (n.val * 128 + k.val) = y at w2 ⊢
    have hz : 2147483648 ≤ (IntOp.subi y 128#32).toNat := by
      simp only [IntOp.subi, BitVec.toNat_sub, BitVec.toNat_ofNat]; omega
    have k1 : IntOp.cmpi .sge (IntOp.subi y 128#32) 0#32 ≠ 1#1 := by
      generalize IntOp.subi y 128#32 = z at hz ⊢
      have key : IntOp.cmpi .sge z 0#32 = 1#1 ↔ z.toNat < 2147483648 := by
        clear hz w2
        word_omega
      rw [Ne, key]; omega
    simp only [k1, and_false, false_and, false_iff]; omega

end Cert.ReferenceIdeal.Attn

end
-- ==== Proof.Attn.Softmax.lean ====
module

public import proofs.«01_k».proof.Proof.Attn.Spec

@[expose] public section

noncomputable section

/-! A softmax over the logits of a band of keys, of the context keys and of the sink. -/

namespace Cert.AttnSpec

open Idealize.ShloMosaic

/-- A sum over the logits of the band, of the context and of the sink. -/
theorem sum_logits {M : Type} [AddCommMonoid M] (f : Fin 641 → M) :
    ∑ k, f k = (∑ k : Fin 384, f ⟨k.val, by omega⟩) + (∑ k : Fin 256, f ⟨384 + k.val, by omega⟩) + f ⟨640, by omega⟩ := by
  refine (Fin.sum_univ_castSucc (n := 640) f).trans ?_
  exact congrArg (fun x => x + f ⟨640, by omega⟩) (Fin.sum_univ_add (a := 384) (b := 256) fun k => f k.castSucc)

/-- The softmax, shifted by the largest logit and normalized before the weighted sums, is the attention. -/
theorem softmax_attend (X V : Fin 384 → EReal) (Y W : Fin 256 → EReal) (s : ℝ) (L : Fin 641 → EReal) (hX : ∀ k, X k ≠ ⊤)
    (hY : ∀ k, Y k ≠ ⊤) (h0 : ∀ k : Fin 384, L ⟨k.val, by omega⟩ = X k) (h1 : ∀ k : Fin 256, L ⟨384 + k.val, by omega⟩ = Y k)
    (h2 : L ⟨640, by omega⟩ = (s : EReal)) (M : EReal) (hM : M = max ⊥ (Finset.fold max ⊥ L Finset.univ)) :
    (∑ k : Fin 384, V k * Ideal.div (Ideal.exp (L ⟨k.val, by omega⟩ - M)) (∑ k, Ideal.exp (L k - M)))
      + (∑ k : Fin 256, W k * Ideal.div (Ideal.exp (L ⟨384 + k.val, by omega⟩ - M)) (∑ k, Ideal.exp (L k - M)))
      = attend X V Y W (s : EReal) := by
  have hL : ∀ k, L k ≠ ⊤ := by
    intro k
    by_cases hk : k.val < 384
    · exact fun h => hX ⟨k.val, hk⟩ ((h0 ⟨k.val, hk⟩).symm.trans h)
    · by_cases hk' : k.val < 640
      · have e : k = ⟨384 + (⟨k.val - 384, by omega⟩ : Fin 256).val, by simp only; omega⟩ := Fin.ext (by simp only; omega)
        exact fun h => hY ⟨k.val - 384, by omega⟩ ((h1 _).symm.trans ((congrArg L e.symm).trans h))
      · have e : k = ⟨640, by omega⟩ := Fin.ext (by simp only; omega)
        rw [e, h2]; exact EReal.coe_ne_top s
  have hM1 : M ≠ ⊤ := by
    rw [hM, bot_sup_eq]
    exact fold_max_ne_top bot_ne_top L hL
  have hM2 : M ≠ ⊥ := by
    rw [hM, bot_sup_eq]
    intro h
    have hs : (s : EReal) ≤ Finset.fold max ⊥ L Finset.univ :=
      (Finset.le_fold_max _).mpr (Or.inr ⟨⟨640, by omega⟩, Finset.mem_univ _, le_of_eq h2.symm⟩)
    rw [h] at hs
    exact EReal.coe_ne_bot s (le_bot_iff.mp hs)
  lift M to ℝ using ⟨hM1, hM2⟩
  simp only [fun k => exp_shift (hL k) M]
  have hD : (∑ k, ((Real.exp (-M) * wt (L k) : ℝ) : EReal))
      = ((Real.exp (-M) * ((∑ k, wt (X k)) + (∑ k, wt (Y k)) + wt (s : EReal)) : ℝ) : EReal) := by
    rw [coe_sum, ← Finset.mul_sum, sum_logits, h2]
    simp only [h0, h1]
  rw [← attend_of_normalized X V Y W hX hY s (Real.exp_pos (-M)) _ hD]
  simp only [h0, h1]
  exact congrArg₂ (fun u v : EReal => u + v) (Finset.sum_congr rfl fun k _ => mul_comm _ _) (Finset.sum_congr rfl fun k _ => mul_comm _ _)

end Cert.AttnSpec

end
-- ==== Proof.Attn.Reference.lean ====
module

public import proofs.«01_k».proof.Proof.Attn.StageReads
public import proofs.«01_k».proof.Proof.Attn.Weighted
public import proofs.«01_k».proof.Proof.Attn.Mask
public import proofs.«01_k».proof.Proof.Attn.Softmax
public import proofs.«01_k».proof.Proof.Attn.Entry

@[expose] public section

set_option maxRecDepth 16384

noncomputable section

/-! The reference computes the attention. -/

namespace Cert.ReferenceIdeal.Attn

open Cert.ReferenceIdeal Cert.ReferenceIdeal.Gen Cert.AttnSpec Idealize.ShloMosaic Idealize.ShloMosaic.TcCoe Idealize.SL.Sem

theorem neg_inf : (Ideal.ofBits .f32 0xFF800000#32 : EReal) = ⊥ := by simp [Ideal.ofBits, Ideal.ieee, -EReal.coe_mul]

/-- The key `j`, in the band of the block `n`. -/
theorem band_in (x : (⟨S4x4096x256, .bf16⟩ : BufTy).Contents (Elt Ideal)) (b : Fin 4) (n : Fin 32) (k : Fin 384) (g : Fin 2)
    (e : Fin 128) (j : Fin 4096) (hj : n.val * 128 + k.val = j.val + 128) :
    (band x (ix5 b n k g e) : EReal) = x (ix3 b j ⟨g.val * 128 + e.val, by omega⟩) := by
  rw [band_at x b n k g e ⟨(n.val * 128 + k.val) / 128, by omega⟩ ⟨(n.val * 128 + k.val) % 128, by omega⟩ (by simp only; omega)]
  exact padded_in x b _ _ g e j (by simp only; omega)

/-- Where there is no key the band is zero. -/
theorem band_out (x : (⟨S4x4096x256, .bf16⟩ : BufTy).Contents (Elt Ideal)) (b : Fin 4) (n : Fin 32) (k : Fin 384) (g : Fin 2)
    (e : Fin 128) (hj : n.val * 128 + k.val < 128 ∨ 4224 ≤ n.val * 128 + k.val) :
    (band x (ix5 b n k g e) : EReal) = 0 := by
  rw [band_at x b n k g e ⟨(n.val * 128 + k.val) / 128, by omega⟩ ⟨(n.val * 128 + k.val) % 128, by omega⟩ (by simp only; omega)]
  exact padded_out x b _ _ g e (by simp only; omega)

variable (x0 : (⟨S4x4096x1024, .f32⟩ : BufTy).Contents (Elt Ideal)) (x1 x2 : (⟨S4x4096x256, .bf16⟩ : BufTy).Contents (Elt Ideal))
  (x3 x4 : (⟨S4x256x256, .bf16⟩ : BufTy).Contents (Elt Ideal)) (x5 : (⟨S1x8, .f32⟩ : BufTy).Contents (Elt Ideal))

/-- The score of a key of the band is its logit. -/
theorem score_in (b : Fin 4) (n : Fin 32) (g : Fin 2) (r : Fin 4) (q : Fin 128) (k : Fin 384) (p : Fin 4096) (h : Fin 8)
    (hp : p.val = n.val * 128 + q.val) (hh : h.val = g.val * 4 + r.val) (j : Fin 4096) (hj : n.val * 128 + k.val = j.val + 128) :
    (scores x0 x1 (ix6 b n g r q k) : EReal)
      = logit (Ideal.ofBits .f32 0x3DB504F3#32) (p.val ≤ j.val + 128 ∧ j.val ≤ p.val + 128)
          (fun e => x0 (ix3 b p ⟨h.val * 128 + e.val, by omega⟩)) (fun e => x1 (ix3 b j ⟨h.val / 4 * 128 + e.val, by omega⟩)) := by
  have hg : h.val / 4 = g.val := by omega
  rw [scores_at, neg_inf, logit]
  refine ite_congr (propext ((valid_at b n g r q k).trans (by omega))) (fun _ => ?_) (fun _ => rfl)
  refine congrArg (fun u : EReal => u * _) (Finset.sum_congr rfl fun e _ => ?_)
  rw [band_in x1 b n k g e j hj, queries_at x0 b n q g r e p h hp hh, mul_comm]
  simp only [hg]

/-- Where there is no key the score is `⊥`. -/
theorem score_out (b : Fin 4) (n : Fin 32) (g : Fin 2) (r : Fin 4) (q : Fin 128) (k : Fin 384)
    (hj : n.val * 128 + k.val < 128 ∨ 4224 ≤ n.val * 128 + k.val) : (scores x0 x1 (ix6 b n g r q k) : EReal) = ⊥ := by
  rw [scores_at, neg_inf]
  exact if_neg fun h => by have := (valid_at b n g r q k).mp h; omega

/-- The score of a context key is its logit. -/
theorem score_ctx (b : Fin 4) (n : Fin 32) (g : Fin 2) (r : Fin 4) (q : Fin 128) (k : Fin 256) (p : Fin 4096) (h : Fin 8)
    (hp : p.val = n.val * 128 + q.val) (hh : h.val = g.val * 4 + r.val) :
    (ctxScores x0 x3 (ix6 b n g r q k) : EReal)
      = logit (Ideal.ofBits .f32 0x3DB504F3#32) True
          (fun e => x0 (ix3 b p ⟨h.val * 128 + e.val, by omega⟩)) (fun e => x3 (ix3 b k ⟨h.val / 4 * 128 + e.val, by omega⟩)) := by
  have hg : h.val / 4 = g.val := by omega
  rw [ctxScores_at, logit, if_pos trivial]
  refine congrArg (fun u : EReal => u * _) (Finset.sum_congr rfl fun e _ => ?_)
  rw [heads_at x3 b k g e, queries_at x0 b n q g r e p h hp hh, mul_comm]
  simp only [hg]

/-- An entry of the reference's result is an entry of the layer's attention. -/
theorem attention_value (f0 : ∀ b n e, ∃ x : ℝ, (x0 (ix3 b n e) : EReal) = (x : EReal))
    (f1 : ∀ b n e, ∃ x : ℝ, (x1 (ix3 b n e) : EReal) = (x : EReal)) (f3 : ∀ b n e, ∃ x : ℝ, (x3 (ix3 b n e) : EReal) = (x : EReal))
    (f5 : ∀ h, ∃ x : ℝ, (x5 (ix2 0 h) : EReal) = (x : EReal)) (b : Fin 4) (p : Fin 4096) (h : Fin 8) (d : Fin 128)
    (col : Fin 1024) (hcol : col.val = h.val * 128 + d.val) :
    (attention x0 x1 x2 x3 x4 x5 (ix3 b p col) : EReal)
      = resultAt (Ideal.ofBits .f32 0x3DB504F3#32) (fun b n e => x0 (ix3 b n e)) (fun b n e => x1 (ix3 b n e))
          (fun b n e => x2 (ix3 b n e)) (fun b n e => x3 (ix3 b n e)) (fun b n e => x4 (ix3 b n e)) (fun h => x5 (ix2 0 h)) b p h d := by
  choose q hq using f0
  choose k hk using f1
  choose kc hkc using f3
  choose s hs using f5
  have top : ∀ (near : Prop) [Decidable near] (u v : Fin 128 → EReal) (y z : Fin 128 → ℝ), (∀ e, u e = (y e : EReal)) →
      (∀ e, v e = (z e : EReal)) → logit (Ideal.ofBits .f32 0x3DB504F3#32) near u v ≠ ⊤ := by
    intro near _ u v y z hu hv
    rw [Cert.KernelIdeal.Attn.scale_eq, logit_coe _ near hu hv]
    split
    · exact EReal.coe_ne_top _
    · exact bot_ne_top
  have e1 : (⟨col.val / 512, by omega⟩ : Fin 2) = ⟨h.val / 4, by omega⟩ := Fin.ext (by simp only; omega)
  have e2 : (⟨col.val / 128 % 4, by omega⟩ : Fin 4) = ⟨h.val % 4, by omega⟩ := Fin.ext (by simp only; omega)
  have e3 : (⟨col.val % 128, by omega⟩ : Fin 128) = d := Fin.ext (by simp only; omega)
  rw [attention_at, e1, e2, e3, weighted_at]
  generalize hn : (⟨p.val / 128, by omega⟩ : Fin 32) = n
  generalize hw : (⟨p.val % 128, by omega⟩ : Fin 128) = w
  generalize hgg : (⟨h.val / 4, by omega⟩ : Fin 2) = g
  generalize hr : (⟨h.val % 4, by omega⟩ : Fin 4) = r
  have hp : p.val = n.val * 128 + w.val := by rw [← hn, ← hw]; simp only; omega
  have hh : h.val = g.val * 4 + r.val := by rw [← hgg, ← hr]; simp only; omega
  have hg : h.val / 4 = g.val := by omega
  simp only [probs_at, exps_at]
  unfold resultAt result
  beta_reduce
  rw [hs h]
  refine (softmax_attend (fun k => scores x0 x1 (ix6 b n g r w k)) (fun k => band x2 (ix5 b n k g d))
    (fun k => ctxScores x0 x3 (ix6 b n g r w k)) (fun k => heads x4 (ix4 b k g d)) (s h)
    (fun k => logits x0 x1 x3 x5 (ix6 b n g r w k)) ?_ ?_ (fun k => logits_loc x0 x1 x3 x5 b n g r w k)
    (fun k => logits_ctx x0 x1 x3 x5 b n g r w k)
    ((logits_sink x0 x1 x3 x5 b n g r w).trans ((sinks_at x5 b n g r w h hh).trans (hs h))) _
    (largest_at _ b n g r w ⊥ (funext fun _ => neg_inf))).trans ?_
  · intro k
    by_cases hj : n.val * 128 + k.val < 128 ∨ 4224 ≤ n.val * 128 + k.val
    · rw [score_out x0 x1 b n g r w k hj]; exact bot_ne_top
    · rw [score_in x0 x1 b n g r w k p h hp hh ⟨n.val * 128 + k.val - 128, by omega⟩ (by simp only; omega)]
      exact top _ _ _ _ _ (fun e => hq _ _ _) (fun e => hk _ _ _)
  · intro k
    rw [score_ctx x0 x3 b n g r w k p h hp hh]
    exact top _ _ _ _ _ (fun e => hq _ _ _) (fun e => hkc _ _ _)
  · refine (attend_band (n.val * 128) _ _ (fun j : Fin 4096 => logit (Ideal.ofBits .f32 0x3DB504F3#32)
        (p.val ≤ j.val + 128 ∧ j.val ≤ p.val + 128) (fun e => x0 (ix3 b p ⟨h.val * 128 + e.val, by omega⟩))
        (fun e => x1 (ix3 b j ⟨h.val / 4 * 128 + e.val, by omega⟩))) (fun j => x2 (ix3 b j ⟨h.val / 4 * 128 + d.val, by omega⟩))
      _ _ (fun i => x4 (ix3 b i ⟨h.val / 4 * 128 + d.val, by omega⟩)) _
      (fun k j hkj => score_in x0 x1 b n g r w k p h hp hh j hkj) (fun k j hkj => ?_) (fun k hk' => score_out x0 x1 b n g r w k hk')
      (fun j hj => ?_) (fun i => ?_)).trans ?_
    · simp only [hg]; exact band_in x2 b n k g d j hkj
    · have hnear : p.val ≤ j.val + 128 ∧ j.val ≤ p.val + 128 := by
        by_contra hc
        exact hj (if_neg hc)
      omega
    · simp only [hg]; exact heads_at x4 b i g d
    · exact congrArg (fun Y : Fin 256 → EReal => attend _ _ Y _ _) (funext fun i => score_ctx x0 x3 b n g r w i p h hp hh)

end Cert.ReferenceIdeal.Attn

end
-- ==== Proof.Attn.Precondition.lean ====
module

public import proofs.«01_k».proof.Pre_finite
public import proofs.«01_k».proof.Proof.Attn.Entry
public import Idealize.ShloMosaic.Lib.ReduceAll

@[expose] public section

set_option maxRecDepth 16384

noncomputable section

/-! The precondition: queries, keys, context keys and sinks are finite. -/

namespace Cert.Attn

open Idealize.ShloMosaic Idealize.ShloMosaic.TcCoe Idealize.SL.Sem

/-- The side conditions of the precondition's operations. -/
theorem pre_facts : Cert.Pre_finite.Facts where
  bcast_S_S4x4096x1024 := by decide
  reducesTo_S4x4096x1024_S_d0_1_2 := by decide
  h_S_ := by decide
  bitsLt_bf16_f32 := by decide
  bcast_S_S4x4096x256 := by decide
  reducesTo_S4x4096x256_S_d0_1_2 := by decide
  bcast_S_S4x256x256 := by decide
  reducesTo_S4x256x256_S_d0_1_2 := by decide
  bcast_S_S1x8 := by decide
  reducesTo_S1x8_S_d0_1 := by decide

instance : Subsingleton Cert.Pre_finite.S_.Idx := ⟨fun a b => funext fun k => k.elim0⟩

/-- An extended real whose absolute value is below infinity is a real number. -/
theorem finite_of_word (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have e : (Ideal.ofBits .f32 0x7F800000#32 : EReal) = ⊤ := by simp [Ideal.ofBits, Ideal.ieee, -EReal.coe_mul]
  rw [e] at h
  have h' : Ideal.cmp .olt (max x (-x)) ⊤ = 1#1 := h
  have hx : max x (-x) ≠ ⊤ := by
    intro ht
    rw [ht] at h'
    simp [Ideal.cmp] at h'
  induction x with
  | bot => exact absurd (by simp) hx
  | coe x => exact ⟨x, rfl⟩
  | top => exact absurd (by simp) hx

/-- One conjunct of the precondition: an array all of whose absolute values are below infinity. -/
theorem finite_of_all {s : Shape} {axes : List (Fin s.rank)} (x : s.Idx → EReal) (h : s.ReducesTo axes Cert.Pre_finite.S_)
    (hb : Cert.Pre_finite.S_.BroadcastsInDim s (![] : Fin 0 → Fin s.rank)) (hu : 0 < Cert.Pre_finite.S_.numel)
    (j : Cert.Pre_finite.S_.Idx)
    (e : Host.reduce IntOp.andi (cmpf (F := Ideal) (φ := .f32) .olt (Host.absf (F := Ideal) (φ := .f32) x)
      (broadcastInDim s ![] hb (constant (F := Ideal) Cert.Pre_finite.S_ .f32 0x7F800000#32)))
      (constantI Cert.Pre_finite.S_ 1 1#1) h hu j = 1#1) (i : s.Idx) : ∃ r : ℝ, x i = (r : EReal) :=
  finite_of_word (x i) (Host.reduce_andi_all _ _ _ _ j e i)

theorem andi_iff : ∀ a b : BitVec 1, IntOp.andi a b = 1#1 ↔ a = 1#1 ∧ b = 1#1 := by decide

/-- The precondition says that these four arguments are finite. -/
theorem finite_of_pre [Cert.Pre_finite.Facts] (m : (ℓ : Loc Cert.KernelIdeal.nD Cert.KernelIdeal.τ Cert.KernelIdeal.sig) → Buf (Elt Ideal) ℓ)
    (c : Dev Cert.KernelIdeal.nD)
    (h : Cert.Pre_finite.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1) :
    Cert.KernelIdeal.Attn.Finite m c := by
  have h0 := congrFun h ix0
  unfold Cert.Pre_finite.fn Cert.Pre_finite.fn_part1 at h0
  obtain ⟨h1, h5⟩ := (andi_iff _ _).mp h0
  obtain ⟨h1, h3⟩ := (andi_iff _ _).mp h1
  obtain ⟨h0, h1⟩ := (andi_iff _ _).mp h1
  exact ⟨fun b n e => finite_of_all _ _ _ _ _ h0 (ix3 b n e), fun b n e => finite_of_all _ _ _ _ _ h1 (ix3 b n e),
    fun b n e => finite_of_all _ _ _ _ _ h3 (ix3 b n e), fun e => finite_of_all _ _ _ _ _ h5 (ix2 0 e)⟩

end Cert.Attn

end
-- ==== Proof.Attn.Claims.lean ====
module

public import proofs.«01_k».proof.Defs
public import proofs.«01_k».proof.Proof.Attn.Array
public import proofs.«01_k».proof.Proof.Attn.Reference
public import proofs.«01_k».proof.Proof.Attn.Precondition
public import proofs.«01_k».proof.Proof.Gen.Kernel.Frame
public import proofs.«01_k».proof.Proof.Gen.KernelIdeal.Value

@[expose] public section

set_option maxRecDepth 16384

noncomputable section

/-! The claims of the attention call. -/

namespace Cert.Attn

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_pi_pre [Cert.Pre_finite.Facts] : Cert.quiescent_KernelIdeal_pre_finite := fun m ρ _ => Cert.KernelIdeal.Gen.frame m ρ

theorem frame_ri_pre [Cert.Pre_finite.Facts] : Cert.quiescent_ReferenceIdeal_pre_finite := fun m ρ _ => frame_ri m ρ trivial

theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- Over equal finite arguments the reference's attention is the kernel's. -/
theorem equal (m : (ℓ : Loc Cert.KernelIdeal.nD Cert.KernelIdeal.τ Cert.KernelIdeal.sig) → Buf (Elt Ideal) ℓ)
    (c : Dev Cert.KernelIdeal.nD) (hfin : Cert.KernelIdeal.Attn.Finite m c) (i : Cert.KernelIdeal.S4x4096x1024.Idx) :
    (Cert.ReferenceIdeal.Attn.attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) i : EReal)
    = Cert.KernelIdeal.Attn.attnAt m c (i 0) (i 1) ⟨(i 2).val / 128, by have h : (i 2).val < 1024 := (i 2).isLt; omega⟩
        ⟨(i 2).val % 128, by omega⟩ := by
  have e : i = ix3 (i 0) (i 1) (i 2) := by blk_ext
  obtain ⟨f0, f1, f3, f5⟩ := hfin
  refine (congrArg _ e).trans ?_
  exact Cert.ReferenceIdeal.Attn.attention_value _ _ _ _ _ _ f0 f1 f3 f5 (i 0) (i 1) _ _ (i 2) (by simp only; omega)

/-- A weight array cast, from its layer. -/
theorem layer0 (x : (⟨Cert.ReferenceIdeal.S2x8192x2048, .f32⟩ : BufTy).Contents (Elt Ideal)) (i : Cert.ReferenceIdeal.S8192x2048.Idx) :
    (truncf (F := Ideal) (φ := .f32) .bf16 (shapeCast _ (extractStridedSlice Cert.ReferenceIdeal.S1x8192x2048 ![0, 0, 0] x
      Cert.ReferenceIdeal.Gen.slices_S2x8192x2048_S1x8192x2048_0_0_0) Cert.ReferenceIdeal.Gen.shapeCasts_S1x8192x2048_S8192x2048)
      Cert.ReferenceIdeal.Gen.bitsLt_bf16_f32 i : EReal) = x (ix3 0 (i 0) (i 1)) := by
  have e : i = ix2 (i 0) (i 1) := by blk_ext
  rw [e]
  pointwise

/-- The second layer. -/
theorem layer1 (x : (⟨Cert.ReferenceIdeal.S2x8192x2048, .f32⟩ : BufTy).Contents (Elt Ideal)) (i : Cert.ReferenceIdeal.S8192x2048.Idx) :
    (truncf (F := Ideal) (φ := .f32) .bf16 (shapeCast _ (extractStridedSlice Cert.ReferenceIdeal.S1x8192x2048 ![1, 0, 0] x
      Cert.ReferenceIdeal.Gen.slices_S2x8192x2048_S1x8192x2048_1_0_0) Cert.ReferenceIdeal.Gen.shapeCasts_S1x8192x2048_S8192x2048)
      Cert.ReferenceIdeal.Gen.bitsLt_bf16_f32 i : EReal) = x (ix3 1 (i 0) (i 1)) := by
  have e : i = ix2 (i 0) (i 1) := by blk_ext
  rw [e]
  pointwise

/-- A square weight array cast. -/
theorem square (x : (⟨Cert.ReferenceIdeal.S1x2048x2048, .f32⟩ : BufTy).Contents (Elt Ideal)) (i : Cert.ReferenceIdeal.S2048x2048.Idx) :
    (truncf (F := Ideal) (φ := .f32) .bf16 (shapeCast _ x Cert.ReferenceIdeal.Gen.shapeCasts_S1x2048x2048_S2048x2048)
      Cert.ReferenceIdeal.Gen.bitsLt_bf16_f32 i : EReal) = x (ix3 0 (i 0) (i 1)) := by
  have e : i = ix2 (i 0) (i 1) := by blk_ext
  rw [e]
  pointwise

/-- The kernel and the reference end with equal results. -/
theorem algebraic [Cert.Pre_finite.Facts] : Cert.algebraic_KernelIdeal_ReferenceIdeal_pre_finite := by
  intro m ρ m' ρ' hpre hagree
  refine ⟨_, _, _, _, Cert.KernelIdeal.Value.run_blocks (F := Ideal) m ρ, ?_⟩
  refine (θ_run Cert.ReferenceIdeal.defs _ _).mono (fun r h c =>
    ⟨(h c).1.trans ?_, (h c).2.1.trans ?_, (h c).2.2.1.trans ?_, (h c).2.2.2.1.trans ?_, (h c).2.2.2.2⟩)
    (Cert.ReferenceIdeal.Value.run (F := Ideal) m' ρ')
  · obtain ⟨h0, h1, h2, h3, h4, h5, h6, h7⟩ := hagree c
    have hfin := finite_of_pre m c (hpre c)
    rw [Cert.ReferenceIdeal.Attn.result_eq, h0, h1, h2, h3, h4, h5]
    exact (funext fun i => equal m c hfin i).trans (Cert.KernelIdeal.Attn.final_attn m c hfin).symm
  · obtain ⟨h0, h1, h2, h3, h4, h5, h6, h7⟩ := hagree c
    rw [h6]
    exact (funext fun i => layer0 _ i).trans (Cert.KernelIdeal.Attn.final_w2 m c).symm
  · obtain ⟨h0, h1, h2, h3, h4, h5, h6, h7⟩ := hagree c
    rw [h6]
    exact (funext fun i => layer1 _ i).trans (Cert.KernelIdeal.Attn.final_w2' m c).symm
  · obtain ⟨h0, h1, h2, h3, h4, h5, h6, h7⟩ := hagree c
    rw [h7]
    exact (funext fun i => square _ i).trans (Cert.KernelIdeal.Attn.final_wo m c).symm

end Cert.Attn

end
-- ==== Proof.Ffn.Spec.lean ====
module

public import Idealize.ShloMosaic.Lib.Pipeline.ValueKit

@[expose] public section

set_option maxRecDepth 16384

noncomputable section

/-! The feed-forward half of a layer, element by element: a modulated row, a hidden unit (the square of a rectified
affine form), the residual sum, and the layer norm of a row of width 2048. -/

namespace Cert.FfnSpec

open Idealize.ShloMosaic

/-- The mean of a row. -/
def mean (z : Fin 2048 → EReal) : EReal := Ideal.div (∑ e, z e) (Ideal.ofBits FTy.f32 1157627904#32)

/-- Entry `d` of the layer norm of the row `z`, scaled by `g` and shifted by `b`. -/
def lnorm (z : Fin 2048 → EReal) (g b : EReal) (d : Fin 2048) : EReal :=
  (z d - mean z) * Ideal.rsqrt (mean (fun e => (z e - mean z) * (z e - mean z)) + Ideal.ofBits FTy.f32 925353388#32)
    * g + b

/-- An entry of the modulated input. -/
def modulated (x sc sh : EReal) : EReal := x * (1 + sc) + sh

/-- A hidden unit: the row `h` against the column `w`, plus the bias, rectified and squared. -/
def unitOf (h w : Fin 2048 → EReal) (b : EReal) : EReal := max (∑ k, h k * w k + b) 0 * max (∑ k, h k * w k + b) 0

/-- The scaled residual plus the gated output of the block. -/
def resid (x g f : EReal) : EReal := Ideal.ofBits FTy.f32 1068827891#32 * x + g * f

/-- The block's output before its bias: row `h` through the hidden units. -/
def mlp (h : Fin 2048 → EReal) (w1 : Fin 2048 → Fin 8192 → EReal) (b1 : Fin 8192 → EReal)
    (w2 : Fin 8192 → Fin 2048 → EReal) (d : Fin 2048) : EReal :=
  ∑ l, unitOf h (fun k => w1 k l) (b1 l) * w2 l d

/-- The row of the residual sum: input row `x`, its shift, scale and gate rows, and the block's weights. -/
def row (x sh sc g : Fin 2048 → EReal) (w1 : Fin 2048 → Fin 8192 → EReal) (b1 : Fin 8192 → EReal)
    (w2 : Fin 8192 → Fin 2048 → EReal) (b2 : Fin 2048 → EReal) (d : Fin 2048) : EReal :=
  resid (x d) (g d) (mlp (fun k => modulated (x k) (sc k) (sh k)) w1 b1 w2 d + b2 d)

end Cert.FfnSpec

end
-- ==== Proof.In1.Block.lean ====
module

public import proofs.«01_k».proof.Proof.Gen.Kernel3Ideal.Frame
public import Idealize.ShloMosaic.Lib.Pipeline.ReadBack
public import proofs.«01_k».proof.Proof.Ffn.Spec

@[expose] public section

set_option maxRecDepth 16384

noncomputable section

/-! What one grid point of the second layer's input projection computes, entry by entry. -/

namespace Cert.Kernel3Ideal.In

open Cert.Kernel3Ideal Cert.Kernel3Ideal.Gen Cert.FfnSpec Idealize.ShloMosaic Idealize.ShloMosaic.TcCoe Idealize.SL.Sem
open Idealize.ShloMosaic.View (Piece)

/-- Rows scaled by one plus the scale and shifted. -/
theorem pay4_at (x : Vec Ideal S1x1024x2048 .f32) (sc sh : Vec Ideal S1x1x2048 .f32) (r : Fin 1024) (e : Fin 2048) :
    k0_pay4 (F := Ideal) x sc sh (ix2 r e) = modulated (x (ix3 0 r e)) (sc (ix3 0 0 e)) (sh (ix3 0 0 e)) := by
  pointwise [k0_pay4, modulated]

/-- A block of the projection without its second factor. -/
theorem pay10_at (a : FVec Ideal S1024x2048 .bf16) (w : Vec Ideal S2048x512 .bf16) (r : Fin 1024) (d : Fin 512) :
    k0_pay10 (F := Ideal) a w (ix3 0 r d) = ∑ k, a (ix2 r k) * w (ix2 k d) := by
  pointwise [k0_pay10]

/-- A block of products of two projections. -/
theorem pay11_at (a : FVec Ideal S1024x2048 .bf16) (w w' : Vec Ideal S2048x512 .bf16) (r : Fin 1024) (d : Fin 512) :
    k0_pay11 (F := Ideal) a w w' (ix3 0 r d) = (∑ k, a (ix2 r k) * w (ix2 k d)) * ∑ k, a (ix2 r k) * w' (ix2 k d) := by
  pointwise [k0_pay11]

/-- The first block before it is rounded. -/
theorem pay5_at (x : Vec Ideal S1x1024x2048 .f32) (sc sh : Vec Ideal S1x1x2048 .f32) (w : Vec Ideal S2048x512 .bf16)
    (r : Fin 1024) (d : Fin 512) :
    k0_pay5 (F := Ideal) x sc sh w (ix2 r d) = ∑ k, k0_pay4 (F := Ideal) x sc sh (ix2 r k) * w (ix2 k d) := by
  unfold k0_pay5
  generalize k0_pay4 (F := Ideal) x sc sh = a
  pointwise

/-- The first block. -/
theorem pay6_at (x : Vec Ideal S1x1024x2048 .f32) (sc sh : Vec Ideal S1x1x2048 .f32) (w : Vec Ideal S2048x512 .bf16)
    (r : Fin 1024) (d : Fin 512) :
    k0_pay6 (F := Ideal) x sc sh w (ix3 0 r d) = k0_pay5 (F := Ideal) x sc sh w (ix2 r d) := by
  unfold k0_pay6
  generalize k0_pay5 (F := Ideal) x sc sh w = u
  pointwise

/-- A block's columns kept as four slabs of 128 columns. -/
abbrev slabs (u : FVec Ideal S1024x512 .f32) : List (Piece (Elt Ideal) S4x1024x128 .f32) :=
  [⟨Rect.unit (s := S4x1024x128) ![3, 0, 0] S1x1024x128.size inb_S4x1024x128_S1x1024x128_3_0_0, k0_pay18 (F := Ideal) u⟩,
    ⟨Rect.unit (s := S4x1024x128) ![2, 0, 0] S1x1024x128.size inb_S4x1024x128_S1x1024x128_2_0_0, k0_pay17 (F := Ideal) u⟩,
    ⟨Rect.unit (s := S4x1024x128) ![1, 0, 0] S1x1024x128.size inb_S4x1024x128_S1x1024x128_1_0_0, k0_pay16 (F := Ideal) u⟩,
    ⟨Rect.unit (s := S4x1024x128) ![0, 0, 0] S1x1024x128.size inb_S4x1024x128_S1x1024x128_0_0_0, k0_pay15 (F := Ideal) u⟩]

/-- An entry of the slabs. -/
theorem slabs_at (u : FVec Ideal S1024x512 .f32) (z : S4x1024x128.Idx) (r : Fin 1024) (d : Fin 512)
    (hr : r.val = (z 1).val) (hd : d.val = (z 0).val * 128 + (z 2).val) :
    View.canon (slabs u) z = u (ix2 r d) := by
  have ku : ∀ (r r' : Fin 1024) (d d' : Fin 512), r.val = r'.val → d.val = d'.val → u (ix2 r d) = u (ix2 r' d') :=
    fun r r' d d' e e' => by rw [Fin.ext e, Fin.ext e']
  canon_tiles z h
  all_goals
    pointwise [k0_pay15, k0_pay16, k0_pay17, k0_pay18]
    refine ku _ _ _ _ ?_ ?_ <;> first | omega | (simp only; omega)

/-- The first block with sixteen of its rows in one row. -/
def flatOut (u : FVec Ideal S1024x512 .f32) : Vec Ideal S1x64x8192 .bf16 := fun z =>
  u (ix2 ⟨(z 1).val * 16 + (z 2).val / 512, by
    have h1 : (z 1).val < 64 := (z 1).isLt
    have h2 : (z 2).val < 8192 := (z 2).isLt
    omega⟩ ⟨(z 2).val % 512, by omega⟩)

/-- Every sixteenth row of a slab, from row `n`, is a block of columns of the flat form. -/
theorem flat_at (u : FVec Ideal S1024x512 .f32) {k n : Nat} {inb} (hk : k < 4) (hn : n < 16) {y : S1x64x128.Idx}
    {z : S1x64x8192.Idx} (h1 : (z 1).val = (y 1).val) (h2 : (z 2).val = n * 512 + k * 128 + (y 2).val) :
    k0_pay19 (F := Ideal) ((View.whole cc0_scratch0).readCov (slabs u)
      (⟨![k, n, 0], S1x64x128.size, ![1, 16, 1], inb⟩ : LoadRect S4x1024x128)) y = flatOut u z := by
  have l0 : (y 0).val < 1 := (y 0).isLt
  have l1 : (y 1).val < 64 := (y 1).isLt
  have l2 : (y 2).val < 128 := (y 2).isLt
  have e : ∀ v : Vec Ideal S1x64x128 .f32, k0_pay19 (F := Ideal) v y = v (ix3 0 (y 1) (y 2)) := by
    intro v
    pointwise [k0_pay19]
    exact congrArg v (by blk_ext)
  rw [e, View.readCov_eq_canon']
  refine slabs_at u _ _ _ ?_ ?_
  · simp [LoadRect.idx]
    omega
  · simp [LoadRect.idx]
    omega

variable (m : (ℓ : Loc nD τ sig) → Buf (Elt Ideal) ℓ)

/-- The scale row of a point. -/
abbrev scl (c : Dev nD) (t : Fin cfg0.N) : Vec Ideal S1x1x2048 .f32 :=
  View.ld (iblk m c 1 t) (Rect.unit (s := S1x8x2048) (k0_off1 (grid0.coords t)) S1x1x2048.size (k0_off1_inb _))

/-- The shift row of a point. -/
abbrev shf (c : Dev nD) (t : Fin cfg0.N) : Vec Ideal S1x1x2048 .f32 :=
  View.ld (iblk m c 2 t) (Rect.unit (s := S1x8x2048) (k0_off1 (grid0.coords t)) S1x1x2048.size (k0_off1_inb _))

/-- The modulated rows of a point. -/
abbrev rows (c : Dev nD) (t : Fin cfg0.N) : FVec Ideal S1024x2048 .bf16 :=
  k0_pay4 (F := Ideal) (iblk m c 0 t) (scl m c t) (shf m c t)

/-- The first block of a point before it is rounded. -/
abbrev first (c : Dev nD) (t : Fin cfg0.N) : FVec Ideal S1024x512 .f32 :=
  k0_pay5 (F := Ideal) (iblk m c 0 t) (scl m c t) (shf m c t) (iblk m c 3 t)

set_option maxHeartbeats 4000000 in
/-- The first output block. -/
theorem core13 (c : Dev nD) (t : Fin cfg0.N) : (outsAt0 m c t).1
    = k0_pay6 (F := Ideal) (iblk m c 0 t) (scl m c t) (shf m c t) (iblk m c 3 t) := by
  frame_out
  rfl

set_option maxHeartbeats 4000000 in
/-- The second output block: the first, sixteen rows in one. -/
theorem core14 (c : Dev nD) (t : Fin cfg0.N) : (outsAt0 m c t).2.1 = flatOut (first m c t) := by
  frame_out
  funext y
  canon_tiles y h
  all_goals exact flat_at (first m c t) (by decide) (by decide) h1 (by omega)

/-- The weights of the three blocks of the third output. -/
def wB (c : Dev nD) (t : Fin cfg0.N) (j : Fin 3) : Vec Ideal S2048x512 .bf16 :=
  ![iblk m c 4 t, iblk m c 5 t, iblk m c 6 t] j

/-- The weights of the three blocks of the first factor of the fourth output. -/
def wC (c : Dev nD) (t : Fin cfg0.N) (j : Fin 3) : Vec Ideal S2048x512 .bf16 :=
  ![iblk m c 7 t, iblk m c 8 t, iblk m c 9 t] j

/-- The weights of the three blocks of the second factor of the fourth output. -/
def wX (c : Dev nD) (t : Fin cfg0.N) (j : Fin 3) : Vec Ideal S2048x512 .bf16 :=
  ![iblk m c 10 t, iblk m c 11 t, iblk m c 12 t] j

/-- Three blocks of 512 columns side by side. -/
def side (f : Fin 3 → FVec Ideal S1x1024x512 .bf16) : Vec Ideal S1x1024x1536 .bf16 := fun z =>
  f ⟨(z 2).val / 512, by have h : (z 2).val < 1536 := (z 2).isLt; omega⟩ (ix3 0 (z 1) ⟨(z 2).val % 512, by omega⟩)

theorem side_at (f : Fin 3 → FVec Ideal S1x1024x512 .bf16) (j : Fin 3) {y : S1x1024x512.Idx} {z : S1x1024x1536.Idx}
    (h1 : (z 1).val = (y 1).val) (h2 : (z 2).val = j.val * 512 + (y 2).val) : f j y = side f z := by
  have l2 : (y 2).val < 512 := (y 2).isLt
  have ey : y = ix3 0 (y 1) (y 2) := by blk_ext
  have key : ∀ (p p' : Fin 3) (a a' : Fin 1024) (b b' : Fin 512), p' = p → a' = a → b' = b →
      f p (ix3 0 a b) = f p' (ix3 0 a' b') := by
    rintro _ _ _ _ _ _ rfl rfl rfl; rfl
  exact (congrArg _ ey).trans (key _ _ _ _ _ _ (Fin.ext (by simp only; omega)) (Fin.ext h1) (Fin.ext (by simp only; omega)))

set_option maxHeartbeats 4000000 in
/-- The third output block. -/
theorem core15 (c : Dev nD) (t : Fin cfg0.N) :
    (outsAt0 m c t).2.2.1 = side fun j => k0_pay10 (F := Ideal) (rows m c t) (wB m c t j) := by
  frame_out
  funext y
  canon_tiles y h
  · exact side_at (fun j => k0_pay10 (F := Ideal) (rows m c t) (wB m c t j)) 2 h1 h2
  · exact side_at (fun j => k0_pay10 (F := Ideal) (rows m c t) (wB m c t j)) 1 h1 h2
  · exact side_at (fun j => k0_pay10 (F := Ideal) (rows m c t) (wB m c t j)) 0 h1 (h2.trans (Nat.zero_add _).symm)

set_option maxHeartbeats 4000000 in
/-- The fourth output block. -/
theorem core16 (c : Dev nD) (t : Fin cfg0.N) :
    (outsAt0 m c t).2.2.2 = side fun j => k0_pay11 (F := Ideal) (rows m c t) (wC m c t j) (wX m c t j) := by
  frame_out
  funext y
  canon_tiles y h
  · exact side_at (fun j => k0_pay11 (F := Ideal) (rows m c t) (wC m c t j) (wX m c t j)) 2 h1 h2
  · exact side_at (fun j => k0_pay11 (F := Ideal) (rows m c t) (wC m c t j) (wX m c t j)) 1 h1 h2
  · exact side_at (fun j => k0_pay11 (F := Ideal) (rows m c t) (wC m c t j) (wX m c t j)) 0 h1 (h2.trans (Nat.zero_add _).symm)

end Cert.Kernel3Ideal.In

end
-- ==== Proof.In1.Array.lean ====
module

public import proofs.«01_k».proof.Proof.In1.Block
public import proofs.«01_k».proof.Proof.Gen.Kernel3Ideal.Value
public import Idealize.ShloMosaic.Lib.Claim

@[expose] public section

set_option maxRecDepth 16384

noncomputable section

/-! Where each input block of the second layer's input projection lies in its array, and its four output arrays, entry
by entry. -/

namespace Cert.Kernel3Ideal.In

open Cert.Kernel3Ideal Cert.Kernel3Ideal.Gen Cert.FfnSpec Idealize.ShloMosaic Idealize.ShloMosaic.TcCoe Idealize.SL.Sem

variable (m : (ℓ : Loc nD τ sig) → Buf (Elt Ideal) ℓ)

/-- The index maps of the windows on the rows and the modulation, and the row of the modulation a point reads. -/
theorem idx : ∀ t : Fin cfg0.N, win0_0.index t = ![t.val / 4, t.val % 4, 0] ∧ win0_1.index t = ![0, 0, 1]
    ∧ win0_2.index t = ![0, 0, 0] ∧ win0_13.index t = ![t.val / 4, t.val % 4, 0]
    ∧ win0_14.index t = ![t.val / 4, t.val % 4, 0] ∧ win0_15.index t = ![t.val / 4, t.val % 4, 0]
    ∧ win0_16.index t = ![t.val / 4, t.val % 4, 0] ∧ k0_off1 (grid0.coords t) = ![0, t.val / 4, 0] :=
  (by decide +kernel : ∀ t : Fin grid0.N, _)

/-- The index maps of the windows on the weight: its ten blocks of 512 columns in turn. -/
theorem idw : ∀ t : Fin cfg0.N, win0_3.index t = ![0, 0] ∧ win0_4.index t = ![0, 1] ∧ win0_5.index t = ![0, 2]
    ∧ win0_6.index t = ![0, 3] ∧ win0_7.index t = ![0, 4] ∧ win0_8.index t = ![0, 5] ∧ win0_9.index t = ![0, 6]
    ∧ win0_10.index t = ![0, 7] ∧ win0_11.index t = ![0, 8] ∧ win0_12.index t = ![0, 9] :=
  (by decide +kernel : ∀ t : Fin grid0.N, _)

/-- The input rows. -/
theorem read0 (c : Dev nD) (t : Fin cfg0.N) (b : Fin 4) (n : Fin 4096) (r : Fin 1024) (d : Fin 2048)
    (hb : b.val = t.val / 4) (hn : n.val = t.val % 4 * 1024 + r.val) :
    iblk m c 0 t (ix3 0 r d) = m ((c : Thread nD τ).loc main_arg0) (ix3 b n d) := by
  blk_ext [iblk, V, idx t]

/-- The scale row. -/
theorem read1 (c : Dev nD) (t : Fin cfg0.N) (b : Fin 4) (k : Fin 2048) (hb : b.val = t.val / 4) :
    scl m c t (ix3 0 0 k) = m ((c : Thread nD τ).loc main_arg1) (ix3 0 ⟨b.val, by omega⟩ ⟨2048 + k.val, by omega⟩) := by
  unfold scl
  pointwise [idx t]
  blk_ext [iblk, V, idx t]

/-- The shift row. -/
theorem read2 (c : Dev nD) (t : Fin cfg0.N) (b : Fin 4) (k : Fin 2048) (hb : b.val = t.val / 4) :
    shf m c t (ix3 0 0 k) = m ((c : Thread nD τ).loc main_arg1) (ix3 0 ⟨b.val, by omega⟩ ⟨k.val, by omega⟩) := by
  unfold shf
  pointwise [idx t]
  blk_ext [iblk, V, idx t]

/-- The first block of the weight. -/
theorem read3 (c : Dev nD) (t : Fin cfg0.N) (k : Fin 2048) (d : Fin 512) :
    iblk m c 3 t (ix2 k d) = m ((c : Thread nD τ).loc main_arg2) (ix2 k ⟨d.val, by omega⟩) := by
  blk_ext [iblk, V, idw t]

theorem readB (c : Dev nD) (t : Fin cfg0.N) (j : Fin 3) (k : Fin 2048) (d : Fin 512) :
    wB m c t j (ix2 k d) = m ((c : Thread nD τ).loc main_arg2) (ix2 k ⟨512 + (j.val * 512 + d.val), by omega⟩) :=
  match j with
  | 0 => (by blk_ext [iblk, V, idw t] : iblk m c 4 t (ix2 k d) = _)
  | 1 => (by blk_ext [iblk, V, idw t] : iblk m c 5 t (ix2 k d) = _)
  | 2 => (by blk_ext [iblk, V, idw t] : iblk m c 6 t (ix2 k d) = _)

theorem readC (c : Dev nD) (t : Fin cfg0.N) (j : Fin 3) (k : Fin 2048) (d : Fin 512) :
    wC m c t j (ix2 k d) = m ((c : Thread nD τ).loc main_arg2) (ix2 k ⟨2048 + (j.val * 512 + d.val), by omega⟩) :=
  match j with
  | 0 => (by blk_ext [iblk, V, idw t] : iblk m c 7 t (ix2 k d) = _)
  | 1 => (by blk_ext [iblk, V, idw t] : iblk m c 8 t (ix2 k d) = _)
  | 2 => (by blk_ext [iblk, V, idw t] : iblk m c 9 t (ix2 k d) = _)

theorem readX (c : Dev nD) (t : Fin cfg0.N) (j : Fin 3) (k : Fin 2048) (d : Fin 512) :
    wX m c t j (ix2 k d) = m ((c : Thread nD τ).loc main_arg2) (ix2 k ⟨3584 + (j.val * 512 + d.val), by omega⟩) :=
  match j with
  | 0 => (by blk_ext [iblk, V, idw t] : iblk m c 10 t (ix2 k d) = _)
  | 1 => (by blk_ext [iblk, V, idw t] : iblk m c 11 t (ix2 k d) = _)
  | 2 => (by blk_ext [iblk, V, idw t] : iblk m c 12 t (ix2 k d) = _)

/-- Entry `(b, n, j)` of the projection of the modulated rows. -/
def proj (c : Dev nD) (b : Fin 4) (n : Fin 4096) (j : Fin 5120) : EReal :=
  ∑ k : Fin 2048, modulated (m ((c : Thread nD τ).loc main_arg0) (ix3 b n k))
      (m ((c : Thread nD τ).loc main_arg1) (ix3 0 ⟨b.val, by omega⟩ ⟨2048 + k.val, by omega⟩))
      (m ((c : Thread nD τ).loc main_arg1) (ix3 0 ⟨b.val, by omega⟩ ⟨k.val, by omega⟩))
    * m ((c : Thread nD τ).loc main_arg2) (ix2 k j)

/-- A row of a point's modulated rows. -/
theorem rows_at (c : Dev nD) (t : Fin cfg0.N) (b : Fin 4) (n : Fin 4096) (r : Fin 1024) (k : Fin 2048)
    (hb : b.val = t.val / 4) (hn : n.val = t.val % 4 * 1024 + r.val) :
    rows m c t (ix2 r k) = modulated (m ((c : Thread nD τ).loc main_arg0) (ix3 b n k))
      (m ((c : Thread nD τ).loc main_arg1) (ix3 0 ⟨b.val, by omega⟩ ⟨2048 + k.val, by omega⟩))
      (m ((c : Thread nD τ).loc main_arg1) (ix3 0 ⟨b.val, by omega⟩ ⟨k.val, by omega⟩)) :=
  (pay4_at _ _ _ r k).trans (congr (congr (congrArg modulated (read0 m c t b n r k hb hn)) (read1 m c t b k hb))
    (read2 m c t b k hb))

/-- A row of a point's rows against a block of columns of the weight. -/
theorem dot_at (c : Dev nD) (t : Fin cfg0.N) (b : Fin 4) (n : Fin 4096) (r : Fin 1024) (d : Fin 512) (j : Fin 5120)
    (w : Vec Ideal S2048x512 .bf16) (hb : b.val = t.val / 4) (hn : n.val = t.val % 4 * 1024 + r.val)
    (hw : ∀ k, w (ix2 k d) = m ((c : Thread nD τ).loc main_arg2) (ix2 k j)) :
    ∑ k, rows m c t (ix2 r k) * w (ix2 k d) = proj m c b n j :=
  Finset.sum_congr rfl fun k _ => congr (congrArg HMul.hMul (rows_at m c t b n r k hb hn)) (hw k)

theorem first_at (c : Dev nD) (t : Fin cfg0.N) (b : Fin 4) (n : Fin 4096) (r : Fin 1024) (d : Fin 512)
    (hb : b.val = t.val / 4) (hn : n.val = t.val % 4 * 1024 + r.val) :
    first m c t (ix2 r d) = proj m c b n ⟨d.val, by omega⟩ :=
  (pay5_at _ _ _ _ r d).trans (dot_at m c t b n r d _ _ hb hn fun k => read3 m c t k d)

theorem third_at (c : Dev nD) (t : Fin cfg0.N) (j : Fin 3) (b : Fin 4) (n : Fin 4096) (r : Fin 1024) (d : Fin 512)
    (hb : b.val = t.val / 4) (hn : n.val = t.val % 4 * 1024 + r.val) :
    k0_pay10 (F := Ideal) (rows m c t) (wB m c t j) (ix3 0 r d) = proj m c b n ⟨512 + (j.val * 512 + d.val), by omega⟩ :=
  (pay10_at _ _ r d).trans (dot_at m c t b n r d _ _ hb hn fun k => readB m c t j k d)

theorem fourth_at (c : Dev nD) (t : Fin cfg0.N) (j : Fin 3) (b : Fin 4) (n : Fin 4096) (r : Fin 1024) (d : Fin 512)
    (hb : b.val = t.val / 4) (hn : n.val = t.val % 4 * 1024 + r.val) :
    k0_pay11 (F := Ideal) (rows m c t) (wC m c t j) (wX m c t j) (ix3 0 r d)
      = proj m c b n ⟨2048 + (j.val * 512 + d.val), by omega⟩ * proj m c b n ⟨3584 + (j.val * 512 + d.val), by omega⟩ :=
  (pay11_at _ _ _ r d).trans (congr (congrArg HMul.hMul (dot_at m c t b n r d _ _ hb hn fun k => readC m c t j k d))
    (dot_at m c t b n r d _ _ hb hn fun k => readX m c t j k d))

theorem proj_congr (c : Dev nD) {b b' : Fin 4} {n n' : Fin 4096} {j j' : Fin 5120} (hb : b.val = b'.val)
    (hn : n.val = n'.val) (hj : j.val = j'.val) : proj m c b n j = proj m c b' n' j' := by
  rw [Fin.ext hb, Fin.ext hn, Fin.ext hj]

/-- The first output array after the run. -/
theorem final13 (c : Dev nD) : (dats m 0 c).arrAt 13 cfg0.N
    = fun i => proj m c (i 0) (i 1) ⟨(i 2).val, by have h : (i 2).val < 512 := (i 2).isLt; omega⟩ := by
  refine (dats m 0 c).arrAt_eq_of_covers 13 _ (by decide +kernel) fun t hf y => ?_
  blk_simp
  rw [after0_13, core13]
  have hN : t.val < 16 := t.isLt
  have key : ∀ z : S1x1024x512.Idx, k0_pay6 (F := Ideal) (iblk m c 0 t) (scl m c t) (shf m c t) (iblk m c 3 t) z
      = proj m c ⟨t.val / 4, by omega⟩ ⟨t.val % 4 * 1024 + (z 1).val, by
        have h : (z 1).val < 1024 := (z 1).isLt; omega⟩ ⟨(z 2).val, by have h : (z 2).val < 512 := (z 2).isLt; omega⟩ := by
    intro z
    refine (congrArg _ (by blk_ext : z = ix3 0 (z 1) (z 2))).trans ((pay6_at _ _ _ _ (z 1) (z 2)).trans ?_)
    exact first_at m c t _ _ (z 1) (z 2) rfl rfl
  refine (key y).trans (proj_congr m c ?_ ?_ ?_) <;> blk_simp [idx t]

/-- The second output array after the run. -/
theorem final14 (c : Dev nD) : (dats m 0 c).arrAt 14 cfg0.N
    = fun i => proj m c (i 0) ⟨(i 1).val * 16 + (i 2).val / 512, by
        have h1 : (i 1).val < 256 := (i 1).isLt
        have h2 : (i 2).val < 8192 := (i 2).isLt
        omega⟩ ⟨(i 2).val % 512, by omega⟩ := by
  refine (dats m 0 c).arrAt_eq_of_covers 14 _ (by decide +kernel) fun t hf y => ?_
  blk_simp
  rw [after0_14, core14]
  have hN : t.val < 16 := t.isLt
  have key : ∀ z : S1x64x8192.Idx, flatOut (first m c t) z
      = proj m c ⟨t.val / 4, by omega⟩ ⟨(t.val % 4 * 64 + (z 1).val) * 16 + (z 2).val / 512, by
        have h1 : (z 1).val < 64 := (z 1).isLt
        have h2 : (z 2).val < 8192 := (z 2).isLt
        omega⟩ ⟨(z 2).val % 512, by omega⟩ := by
    intro z
    have h1 : (z 1).val < 64 := (z 1).isLt
    have h2 : (z 2).val < 8192 := (z 2).isLt
    exact first_at m c t _ _ _ _ rfl (by simp only; omega)
  refine (key y).trans (proj_congr m c ?_ ?_ ?_) <;> blk_simp [idx t]

/-- The third output array after the run. -/
theorem final15 (c : Dev nD) : (dats m 0 c).arrAt 15 cfg0.N
    = fun i => proj m c (i 0) (i 1) ⟨512 + (i 2).val, by have h : (i 2).val < 1536 := (i 2).isLt; omega⟩ := by
  refine (dats m 0 c).arrAt_eq_of_covers 15 _ (by decide +kernel) fun t hf y => ?_
  blk_simp
  rw [after0_15, core15]
  have hN : t.val < 16 := t.isLt
  have key : ∀ z : S1x1024x1536.Idx, side (fun j => k0_pay10 (F := Ideal) (rows m c t) (wB m c t j)) z
      = proj m c ⟨t.val / 4, by omega⟩ ⟨t.val % 4 * 1024 + (z 1).val, by
        have h : (z 1).val < 1024 := (z 1).isLt; omega⟩
        ⟨512 + (z 2).val, by have h : (z 2).val < 1536 := (z 2).isLt; omega⟩ := by
    intro z
    have h1 : (z 1).val < 1024 := (z 1).isLt
    have h2 : (z 2).val < 1536 := (z 2).isLt
    refine (third_at m c t _ ⟨t.val / 4, by omega⟩ ⟨t.val % 4 * 1024 + (z 1).val, by omega⟩ _ _ rfl rfl).trans
      (proj_congr m c rfl rfl ?_)
    simp only
    omega
  refine (key y).trans (proj_congr m c ?_ ?_ ?_) <;> blk_simp [idx t]

/-- The fourth output array after the run. -/
theorem final16 (c : Dev nD) : (dats m 0 c).arrAt 16 cfg0.N
    = fun i => proj m c (i 0) (i 1) ⟨2048 + (i 2).val, by have h : (i 2).val < 1536 := (i 2).isLt; omega⟩
        * proj m c (i 0) (i 1) ⟨3584 + (i 2).val, by have h : (i 2).val < 1536 := (i 2).isLt; omega⟩ := by
  refine (dats m 0 c).arrAt_eq_of_covers 16 _ (by decide +kernel) fun t hf y => ?_
  blk_simp
  rw [after0_16, core16]
  have hN : t.val < 16 := t.isLt
  have key : ∀ z : S1x1024x1536.Idx, side (fun j => k0_pay11 (F := Ideal) (rows m c t) (wC m c t j) (wX m c t j)) z
      = proj m c ⟨t.val / 4, by omega⟩ ⟨t.val % 4 * 1024 + (z 1).val, by
        have h : (z 1).val < 1024 := (z 1).isLt; omega⟩
        ⟨2048 + (z 2).val, by have h : (z 2).val < 1536 := (z 2).isLt; omega⟩
        * proj m c ⟨t.val / 4, by omega⟩ ⟨t.val % 4 * 1024 + (z 1).val, by
        have h : (z 1).val < 1024 := (z 1).isLt; omega⟩
        ⟨3584 + (z 2).val, by have h : (z 2).val < 1536 := (z 2).isLt; omega⟩ := by
    intro z
    have h1 : (z 1).val < 1024 := (z 1).isLt
    have h2 : (z 2).val < 1536 := (z 2).isLt
    refine (fourth_at m c t _ ⟨t.val / 4, by omega⟩ ⟨t.val % 4 * 1024 + (z 1).val, by omega⟩ _ _ rfl rfl).trans
      (congr (congrArg HMul.hMul (proj_congr m c rfl rfl ?_)) (proj_congr m c rfl rfl ?_)) <;> simp only <;> omega
  refine (key y).trans (congr (congrArg HMul.hMul (proj_congr m c ?_ ?_ ?_)) (proj_congr m c ?_ ?_ ?_)) <;> blk_simp [idx t]

end Cert.Kernel3Ideal.In

end
-- ==== Proof.In1.Reference.lean ====
module

public import proofs.«01_k».proof.Proof.Gen.Reference3Ideal.Read
public import proofs.«01_k».proof.Proof.Ffn.Spec

@[expose] public section

set_option maxRecDepth 16384

noncomputable section

/-! The second layer's reference input projection, entry by entry. -/

namespace Cert.Reference3Ideal.In

open Cert.Reference3Ideal Cert.Reference3Ideal.Read Cert.FfnSpec Idealize.ShloMosaic Idealize.ShloMosaic.TcCoe Idealize.SL.Sem

variable (x0 : (⟨S4x4096x2048, .f32⟩ : BufTy).Contents (Elt Ideal)) (x1 : (⟨S1x8x12288, .f32⟩ : BufTy).Contents (Elt Ideal))
  (x2 : (⟨S2048x5120, .bf16⟩ : BufTy).Contents (Elt Ideal))

/-- Entry `(b, n, j)` of the projection of the modulated rows. -/
def proj (b : Fin 4) (n : Fin 4096) (j : Fin 5120) : EReal :=
  ∑ k : Fin 2048, modulated (x0 (ix3 b n k)) (x1 (ix3 0 ⟨b.val, by omega⟩ ⟨2048 + k.val, by omega⟩))
    (x1 (ix3 0 ⟨b.val, by omega⟩ ⟨k.val, by omega⟩)) * x2 (ix2 k j)

/-- A modulated row. -/
theorem row_at (b : Fin 4) (n : Fin 4096) (k : Fin 2048) :
    val_main_v14 (F := Ideal) x0 x1 (ix3 b n k) = modulated (x0 (ix3 b n k))
      (x1 (ix3 0 ⟨b.val, by omega⟩ ⟨2048 + k.val, by omega⟩)) (x1 (ix3 0 ⟨b.val, by omega⟩ ⟨k.val, by omega⟩)) := by
  pointwise [val_main_v14, val_main_v13, val_main_v12, val_main_v11, val_main_v10, val_main_v9, val_main_v4, val_main_v3,
    val_main_v2, val_main_v1, val_main_v0, val_main_cst, modulated]

/-- The projection. -/
theorem proj_at (b : Fin 4) (n : Fin 4096) (j : Fin 5120) :
    val_main_v16 (F := Ideal) x0 x1 x2 (ix3 b n j) = proj x0 x1 x2 b n j := by
  pointwise [val_main_v16, val_main_v15, row_at, proj]

theorem first_at (b : Fin 4) (n : Fin 4096) (d : Fin 512) :
    val_main_v21 (F := Ideal) x0 x1 x2 (ix3 b n d) = proj x0 x1 x2 b n ⟨d.val, by omega⟩ := by
  rw [← proj_at]
  pointwise [val_main_v21, val_main_v17]

theorem second_at (b : Fin 4) (n : Fin 256) (d : Fin 8192) :
    val_main_v22 (F := Ideal) x0 x1 x2 (ix3 b n d)
      = proj x0 x1 x2 b ⟨n.val * 16 + d.val / 512, by omega⟩ ⟨d.val % 512, by omega⟩ := by
  refine Eq.trans ?_ (first_at x0 x1 x2 b ⟨n.val * 16 + d.val / 512, by omega⟩ ⟨d.val % 512, by omega⟩)
  unfold val_main_v22
  generalize val_main_v21 (F := Ideal) x0 x1 x2 = u
  pointwise

theorem third_at (b : Fin 4) (n : Fin 4096) (d : Fin 1536) :
    val_main_v23 (F := Ideal) x0 x1 x2 (ix3 b n d) = proj x0 x1 x2 b n ⟨512 + d.val, by omega⟩ := by
  rw [← proj_at]
  pointwise [val_main_v23, val_main_v18]

theorem fourth_at (b : Fin 4) (n : Fin 4096) (d : Fin 1536) :
    val_main_v25 (F := Ideal) x0 x1 x2 (ix3 b n d)
      = proj x0 x1 x2 b n ⟨2048 + d.val, by omega⟩ * proj x0 x1 x2 b n ⟨3584 + d.val, by omega⟩ := by
  rw [← proj_at, ← proj_at]
  pointwise [val_main_v25, val_main_v24, val_main_v20, val_main_v19]

end Cert.Reference3Ideal.In

end
-- ==== Proof.In1.Claims.lean ====
module

public import proofs.«01_k».proof.Defs
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.In1.Array
public import proofs.«01_k».proof.Proof.In1.Reference

@[expose] public section

set_option maxRecDepth 16384

noncomputable section

/-! The claims of the second layer's input projection. -/

namespace Cert.In1

open Cert.FfnSpec Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

theorem preserves : Cert.preserves_Kernel3_Kernel3Ideal := trivial

/-- The kernel and the reference end with equal results. -/
theorem algebraic : Cert.algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun r h c =>
    ⟨(h c).1.trans ?_, (h c).2.1.trans ?_, (h c).2.2.1.trans ?_, (h c).2.2.2.1.trans ?_, (h c).2.2.2.2⟩)
    (Cert.Reference3Ideal.Value.run (F := Ideal) m' ρ')
  all_goals obtain ⟨h0, h1, h2⟩ := hagree c
  · rw [Cert.Reference3Ideal.Read.val_main_v21_eq, h0, h1, h2, Cert.Kernel3Ideal.In.final13]
    exact funext fun i => (congrArg _ (by blk_ext : i = ix3 (i 0) (i 1) (i 2))).trans
      (Cert.Reference3Ideal.In.first_at _ _ _ (i 0) (i 1) (i 2))
  · rw [Cert.Reference3Ideal.Read.val_main_v22_eq, h0, h1, h2, Cert.Kernel3Ideal.In.final14]
    exact funext fun i => (congrArg _ (by blk_ext : i = ix3 (i 0) (i 1) (i 2))).trans
      (Cert.Reference3Ideal.In.second_at _ _ _ (i 0) (i 1) (i 2))
  · rw [Cert.Reference3Ideal.Read.val_main_v23_eq, h0, h1, h2, Cert.Kernel3Ideal.In.final15]
    exact funext fun i => (congrArg _ (by blk_ext : i = ix3 (i 0) (i 1) (i 2))).trans
      (Cert.Reference3Ideal.In.third_at _ _ _ (i 0) (i 1) (i 2))
  · rw [Cert.Reference3Ideal.Read.val_main_v25_eq, h0, h1, h2, Cert.Kernel3Ideal.In.final16]
    exact funext fun i => (congrArg _ (by blk_ext : i = ix3 (i 0) (i 1) (i 2))).trans
      (Cert.Reference3Ideal.In.fourth_at _ _ _ (i 0) (i 1) (i 2))

end Cert.In1

end
-- ==== Proof.Out0.Block.lean ====
module

public import proofs.«01_k».proof.Proof.Gen.Kernel4Ideal.Frame
public import proofs.«01_k».proof.Proof.Ffn.Spec
public import Idealize.ShloMosaic.Lib.Pipeline.ReadBack

@[expose] public section

set_option maxRecDepth 16384

noncomputable section

/-! What one grid point of the output projection computes, entry by entry: four parts of 256 rows. -/

namespace Cert.Kernel4Ideal.Out

open Cert.Kernel4Ideal Cert.Kernel4Ideal.Gen Cert.FfnSpec Idealize.ShloMosaic Idealize.ShloMosaic.TcCoe Idealize.SL.Sem

/-- Column `k` of a row that holds eight heads of width 128 and then 1024 further entries. -/
def joined (a : Fin 8 → Fin 128 → EReal) (b : Fin 1024 → EReal) (k : Fin 2048) : EReal :=
  if h : k.val < 1024 then a ⟨k.val / 128, by omega⟩ ⟨k.val % 128, by omega⟩ else b ⟨k.val - 1024, by omega⟩

/-- The heads laid side by side, then the attended values. -/
theorem cat_at (v : Fin 8 → FVec Ideal S256x128 .bf16) (b : FVec Ideal S256x1024 .bf16) (r : Fin 256) (k : Fin 2048) :
    concatenate S256x2048 1 [⟨S256x128, v 0⟩, ⟨S256x128, v 1⟩, ⟨S256x128, v 2⟩, ⟨S256x128, v 3⟩, ⟨S256x128, v 4⟩,
      ⟨S256x128, v 5⟩, ⟨S256x128, v 6⟩, ⟨S256x128, v 7⟩, ⟨S256x1024, b⟩]
      concatenates_S256x128_S256x128_S256x128_S256x128_S256x128_S256x128_S256x128_S256x128_S256x1024_S256x2048_d1 (ix2 r k)
      = joined (fun h d => v h (ix2 r d)) (fun d => b (ix2 r d)) k := by
  have kv : ∀ (h h' : Fin 8) (d d' : Fin 128), h.val = h'.val → d.val = d'.val → v h (ix2 r d) = v h' (ix2 r d') :=
    fun h h' d d' e e' => by rw [Fin.ext e, Fin.ext e']
  have kb : ∀ d d' : Fin 1024, d.val = d'.val → b (ix2 r d) = b (ix2 r d') := fun d d' e => by rw [Fin.ext e]
  pointwise [joined]
  repeat' split
  all_goals
    first
      | omega
      | refine kv _ _ _ _ ?_ ?_ <;> first | omega | (simp; omega)
      | refine kb _ _ ?_; first | omega | (simp; omega)

/-- The projection of one part of the rows. -/
theorem pay12_at (v : Fin 8 → FVec Ideal S256x128 .bf16) (b : FVec Ideal S256x1024 .bf16)
    (w : Vec Ideal S2048x2048 .bf16) (r : Fin 256) (e : Fin 2048) :
    k0_pay12 (F := Ideal) (v 0) (v 1) (v 2) (v 3) (v 4) (v 5) (v 6) (v 7) b w (ix2 r e)
      = ∑ k, joined (fun h d => v h (ix2 r d)) (fun d => b (ix2 r d)) k * w (ix2 k e) := by
  simp only [← cat_at]
  unfold k0_pay12
  generalize concatenate S256x2048 1 _ _ = y
  pointwise

/-- One part of a point's rows: the projection, the gated residual and the layer norm. -/
def partOut (g : Vec Ideal S1x1x2048 .f32) (a : Fin 8 → Vec Ideal S1x1x256x128 .bf16) (b : Vec Ideal S1x256x1024 .bf16)
    (w : Vec Ideal S2048x2048 .bf16) (x : Vec Ideal S1x256x2048 .f32) (lg lb : Vec Ideal S1x2048 .f32) :
    FVec Ideal S1x256x2048 .f32 :=
  k0_pay15 (F := Ideal) (k0_pay2 (F := Ideal) g) (k0_pay12 (F := Ideal) (k0_pay3 (F := Ideal) (a 0))
    (k0_pay3 (F := Ideal) (a 1)) (k0_pay3 (F := Ideal) (a 2)) (k0_pay3 (F := Ideal) (a 3)) (k0_pay3 (F := Ideal) (a 4))
    (k0_pay3 (F := Ideal) (a 5)) (k0_pay3 (F := Ideal) (a 6)) (k0_pay3 (F := Ideal) (a 7)) (k0_pay11 (F := Ideal) b) w) x lg lb

/-- The layer norm of the gated residual, over any projection `o`. -/
theorem pay15_at (g : Vec Ideal S1x1x2048 .f32) (o : FVec Ideal S256x2048 .f32) (x : Vec Ideal S1x256x2048 .f32)
    (lg lb : Vec Ideal S1x2048 .f32) (r : Fin 256) (d : Fin 2048) :
    k0_pay15 (F := Ideal) (k0_pay2 (F := Ideal) g) o x lg lb (ix3 0 r d)
      = lnorm (fun e => resid (x (ix3 0 r e)) (g (ix3 0 0 e)) (o (ix2 r e))) (lg (ix2 0 d)) (lb (ix2 0 d)) d := by
  pointwise [k0_pay15, k0_pay2, lnorm, mean, resid]

theorem pay3_at (a : Vec Ideal S1x1x256x128 .bf16) (r : Fin 256) (d : Fin 128) :
    k0_pay3 (F := Ideal) a (ix2 r d) = a (ix4 0 0 r d) := by
  pointwise [k0_pay3]

theorem pay11_at (b : Vec Ideal S1x256x1024 .bf16) (r : Fin 256) (d : Fin 1024) :
    k0_pay11 (F := Ideal) b (ix2 r d) = b (ix3 0 r d) := by
  pointwise [k0_pay11]

/-- An entry of a part. -/
theorem partOut_at (g : Vec Ideal S1x1x2048 .f32) (a : Fin 8 → Vec Ideal S1x1x256x128 .bf16)
    (b : Vec Ideal S1x256x1024 .bf16) (w : Vec Ideal S2048x2048 .bf16) (x : Vec Ideal S1x256x2048 .f32)
    (lg lb : Vec Ideal S1x2048 .f32) (r : Fin 256) (d : Fin 2048) :
    partOut g a b w x lg lb (ix3 0 r d) = lnorm (fun e => resid (x (ix3 0 r e)) (g (ix3 0 0 e))
      (∑ k, joined (fun h d => a h (ix4 0 0 r d)) (fun d => b (ix3 0 r d)) k * w (ix2 k e)))
      (lg (ix2 0 d)) (lb (ix2 0 d)) d := by
  unfold partOut
  rw [pay15_at]
  refine congrArg (fun z => lnorm z _ _ _) (funext fun e => congrArg _ ?_)
  refine (pay12_at (fun h => k0_pay3 (F := Ideal) (a h)) _ w r e).trans ?_
  simp only [pay3_at, pay11_at]

variable (m : (ℓ : Loc nD τ sig) → Buf (Elt Ideal) ℓ)

theorem headOff_inb (p : Fin 4) (h : Fin 8) :
    ∀ a, (![0, h.val, p.val * 256, 0] : Fin 4 → Nat) a + S1x1x256x128.size a ≤ S1x8x1024x128.size a := by
  revert p h; decide +kernel

theorem attOff_inb (p : Fin 4) :
    ∀ a, (![0, p.val * 256, 0] : Fin 3 → Nat) a + S1x256x1024.size a ≤ S1x1024x1024.size a := by
  revert p; decide +kernel

theorem rowOff_inb (p : Fin 4) :
    ∀ a, (![0, p.val * 256, 0] : Fin 3 → Nat) a + S1x256x2048.size a ≤ S1x1024x2048.size a := by
  revert p; decide +kernel

/-- Part `p` of point `t`'s rows. -/
def partArr (c : Dev nD) (t : Fin cfg0.N) (p : Fin 4) : FVec Ideal S1x256x2048 .f32 :=
  partOut (View.ld (iblk m c 3 t) (Rect.unit (s := S1x8x2048) (k0_off1 (grid0.coords t)) S1x1x2048.size (k0_off1_inb _)))
    (fun h => View.ld (iblk m c 0 t) (Rect.unit (s := S1x8x1024x128) ![0, h.val, p.val * 256, 0] S1x1x256x128.size
      (headOff_inb p h)))
    (View.ld (iblk m c 1 t) (Rect.unit (s := S1x1024x1024) ![0, p.val * 256, 0] S1x256x1024.size (attOff_inb p)))
    (iblk m c 4 t)
    (View.ld (iblk m c 2 t) (Rect.unit (s := S1x1024x2048) ![0, p.val * 256, 0] S1x256x2048.size (rowOff_inb p)))
    (iblk m c 5 t) (iblk m c 6 t)

/-- The output block of a point: entry by entry, the part the entry's row belongs to. -/
def blockOut (c : Dev nD) (t : Fin cfg0.N) : Vec Ideal S1x1024x2048 .f32 := fun y =>
  partArr m c t ⟨(y 1).val / 256, by have h : (y 1).val < 1024 := (y 1).isLt; omega⟩
    (ix3 0 ⟨(y 1).val % 256, by omega⟩ (y 2))

/-- An entry of the output block, by the corner of its part. -/
theorem blockOut_at (c : Dev nD) (t : Fin cfg0.N) (p : Fin 4) {y : S1x256x2048.Idx} {z : S1x1024x2048.Idx}
    (h1 : (z 1).val = p.val * 256 + (y 1).val) (h2 : (z 2).val = (y 2).val) :
    partArr m c t p y = blockOut m c t z := by
  have l1 : (y 1).val < 256 := (y 1).isLt
  have ey : y = ix3 0 (y 1) (y 2) := by blk_ext
  have key : ∀ (p p' : Fin 4) (a a' : Fin 256) (b b' : Fin 2048), p' = p → a' = a → b' = b →
      partArr m c t p (ix3 0 a b) = partArr m c t p' (ix3 0 a' b') := by
    rintro _ _ _ _ _ _ rfl rfl rfl; rfl
  exact (congrArg _ ey).trans (key _ _ _ _ _ _ (Fin.ext (by simp only; omega)) (Fin.ext (by simp only; omega)) (Fin.ext h2))

set_option maxHeartbeats 4000000 in
/-- The output block after a point. -/
theorem core (c : Dev nD) (t : Fin cfg0.N) : outsAt0 m c t = blockOut m c t := by
  unfold outsAt0
  frame_out
  funext y
  canon_tiles y h
  · exact Eq.trans (congrFun (rfl : _ = partArr m c t 3) y) (blockOut_at m c t 3 h1 h2)
  · exact Eq.trans (congrFun (rfl : _ = partArr m c t 2) y) (blockOut_at m c t 2 h1 h2)
  · exact Eq.trans (congrFun (rfl : _ = partArr m c t 1) y) (blockOut_at m c t 1 (h1.trans rfl) h2)
  · exact Eq.trans (congrFun (rfl : _ = partArr m c t 0) y) (blockOut_at m c t 0 (h1.trans (Nat.zero_add _).symm) h2)

end Cert.Kernel4Ideal.Out

end
-- ==== Proof.Out0.Array.lean ====
module

public import proofs.«01_k».proof.Proof.Out0.Block
public import proofs.«01_k».proof.Proof.Gen.Kernel4Ideal.Value
public import Idealize.ShloMosaic.Lib.Claim

@[expose] public section

set_option maxRecDepth 16384

noncomputable section

/-! Where each input block of the output projection lies in its array, and its whole output array, entry by entry. -/

namespace Cert.Kernel4Ideal.Out

open Cert.Kernel4Ideal Cert.Kernel4Ideal.Gen Cert.FfnSpec Idealize.ShloMosaic Idealize.ShloMosaic.TcCoe Idealize.SL.Sem

variable (m : (ℓ : Loc nD τ sig) → Buf (Elt Ideal) ℓ)

/-- The index map of every window, and the row of the modulation a point reads. -/
theorem idx : ∀ t : Fin cfg0.N, win0_0.index t = ![t.val / 4, 0, t.val % 4, 0] ∧ win0_1.index t = ![t.val / 4, t.val % 4, 0]
    ∧ win0_2.index t = ![t.val / 4, t.val % 4, 0] ∧ win0_3.index t = ![0, 0, 2] ∧ win0_4.index t = ![0, 0]
    ∧ win0_5.index t = ![0, 0] ∧ win0_6.index t = ![0, 0] ∧ win0_7.index t = ![t.val / 4, t.val % 4, 0]
    ∧ k0_off1 (grid0.coords t) = ![0, t.val / 4, 0] :=
  (by decide +kernel : ∀ t : Fin grid0.N, _)

/-- The entries of one head. -/
theorem read0 (c : Dev nD) (t : Fin cfg0.N) (p : Fin 4) (b : Fin 4) (n : Fin 4096) (h : Fin 8) (r : Fin 256) (d : Fin 128) (hi)
    (hb : b.val = t.val / 4) (hn : n.val = t.val % 4 * 1024 + (p.val * 256 + r.val)) :
    View.ld (iblk m c 0 t) (Rect.unit (s := S1x8x1024x128) ![0, h.val, p.val * 256, 0] S1x1x256x128.size hi) (ix4 0 0 r d)
      = m ((c : Thread nD τ).loc main_arg0) (ix4 b h n d) := by
  pointwise
  blk_ext [iblk, V, idx t]

/-- The attended values. -/
theorem read1 (c : Dev nD) (t : Fin cfg0.N) (p : Fin 4) (b : Fin 4) (n : Fin 4096) (r : Fin 256) (d : Fin 1024) (hi)
    (hb : b.val = t.val / 4) (hn : n.val = t.val % 4 * 1024 + (p.val * 256 + r.val)) :
    View.ld (iblk m c 1 t) (Rect.unit (s := S1x1024x1024) ![0, p.val * 256, 0] S1x256x1024.size hi) (ix3 0 r d)
      = m ((c : Thread nD τ).loc main_arg1) (ix3 b n d) := by
  pointwise
  blk_ext [iblk, V, idx t]

/-- The input rows. -/
theorem read2 (c : Dev nD) (t : Fin cfg0.N) (p : Fin 4) (b : Fin 4) (n : Fin 4096) (r : Fin 256) (d : Fin 2048) (hi)
    (hb : b.val = t.val / 4) (hn : n.val = t.val % 4 * 1024 + (p.val * 256 + r.val)) :
    View.ld (iblk m c 2 t) (Rect.unit (s := S1x1024x2048) ![0, p.val * 256, 0] S1x256x2048.size hi) (ix3 0 r d)
      = m ((c : Thread nD τ).loc main_arg2) (ix3 b n d) := by
  pointwise
  blk_ext [iblk, V, idx t]

/-- The gate row. -/
theorem read3 (c : Dev nD) (t : Fin cfg0.N) (b : Fin 4) (k : Fin 2048) (h) (hb : b.val = t.val / 4) :
    View.ld (iblk m c 3 t) (Rect.unit (s := S1x8x2048) (k0_off1 (grid0.coords t)) S1x1x2048.size h) (ix3 0 0 k)
      = m ((c : Thread nD τ).loc main_arg3) (ix3 0 ⟨b.val, by omega⟩ ⟨4096 + k.val, by omega⟩) := by
  pointwise [idx t]
  blk_ext [iblk, V, idx t]

/-- The weight. -/
theorem read4 (c : Dev nD) (t : Fin cfg0.N) (k l : Fin 2048) :
    iblk m c 4 t (ix2 k l) = m ((c : Thread nD τ).loc main_arg4) (ix2 k l) := by
  blk_ext [iblk, V, idx t]

/-- The norm's scale. -/
theorem read5 (c : Dev nD) (t : Fin cfg0.N) (d : Fin 2048) :
    iblk m c 5 t (ix2 0 d) = m ((c : Thread nD τ).loc main_arg5) (ix1 d) := by
  blk_simp [iblk]
  entry_read
  refine (congrArg _ (show _ = ix2 0 d by blk_ext [idx t])).trans ?_
  pointwise

/-- The norm's shift. -/
theorem read6 (c : Dev nD) (t : Fin cfg0.N) (d : Fin 2048) :
    iblk m c 6 t (ix2 0 d) = m ((c : Thread nD τ).loc main_arg6) (ix1 d) := by
  blk_simp [iblk]
  entry_read
  refine (congrArg _ (show _ = ix2 0 d by blk_ext [idx t])).trans ?_
  pointwise

/-- Entry `(b, n, d)` of the result. -/
def result (c : Dev nD) (b : Fin 4) (n : Fin 4096) (d : Fin 2048) : EReal :=
  lnorm (fun e => resid (m ((c : Thread nD τ).loc main_arg2) (ix3 b n e))
      (m ((c : Thread nD τ).loc main_arg3) (ix3 0 ⟨b.val, by omega⟩ ⟨4096 + e.val, by omega⟩))
      (∑ k, joined (fun h d => m ((c : Thread nD τ).loc main_arg0) (ix4 b h n d))
        (fun d => m ((c : Thread nD τ).loc main_arg1) (ix3 b n d)) k * m ((c : Thread nD τ).loc main_arg4) (ix2 k e)))
    (m ((c : Thread nD τ).loc main_arg5) (ix1 d)) (m ((c : Thread nD τ).loc main_arg6) (ix1 d)) d

theorem result_congr (c : Dev nD) {b b' : Fin 4} {n n' : Fin 4096} {d d' : Fin 2048} (hb : b.val = b'.val)
    (hn : n.val = n'.val) (hd : d.val = d'.val) : result m c b n d = result m c b' n' d' := by
  rw [Fin.ext hb, Fin.ext hn, Fin.ext hd]

/-- An entry of a part, from the arrays. -/
theorem partArr_at (c : Dev nD) (t : Fin cfg0.N) (p : Fin 4) (b : Fin 4) (n : Fin 4096) (r : Fin 256) (d : Fin 2048)
    (hb : b.val = t.val / 4) (hn : n.val = t.val % 4 * 1024 + (p.val * 256 + r.val)) :
    partArr m c t p (ix3 0 r d) = result m c b n d := by
  unfold partArr result
  rw [partOut_at]
  refine congrFun (congr (congr (congrArg lnorm (funext fun e => ?_)) (read5 m c t d)) (read6 m c t d)) d
  refine congr (congr (congrArg resid (read2 m c t p b n r e _ hb hn)) (read3 m c t b e _ hb)) ?_
  refine Finset.sum_congr rfl fun k _ => congr (congrArg HMul.hMul ?_) (read4 m c t k e)
  exact congrFun (congr (congrArg joined (funext fun h => funext fun d => read0 m c t p b n h r d _ hb hn))
    (funext fun d => read1 m c t p b n r d _ hb hn)) k

/-- The output array after the run. -/
theorem final (c : Dev nD) : (dats m 0 c).arrAt 7 cfg0.N = fun i => result m c (i 0) (i 1) (i 2) := by
  refine (dats m 0 c).arrAt_eq_of_covers 7 _ (by decide +kernel) fun t hf y => ?_
  blk_simp
  rw [after0_7, core]
  have hN : t.val < 16 := t.isLt
  have key : ∀ z : S1x1024x2048.Idx, blockOut m c t z
      = result m c ⟨t.val / 4, by omega⟩ ⟨t.val % 4 * 1024 + (z 1).val, by
        have h : (z 1).val < 1024 := (z 1).isLt; omega⟩ (z 2) := by
    intro z
    have h1 : (z 1).val < 1024 := (z 1).isLt
    exact partArr_at m c t _ _ _ _ (z 2) rfl (by simp only; omega)
  refine (key y).trans (result_congr m c ?_ ?_ ?_) <;> blk_simp [idx t]

end Cert.Kernel4Ideal.Out

end
-- ==== Proof.Out0.Reference.lean ====
module

public import proofs.«01_k».proof.Proof.Gen.Reference4Ideal.Read
public import proofs.«01_k».proof.Proof.Out0.Array

@[expose] public section

set_option maxRecDepth 16384

noncomputable section

/-! The reference output projection, entry by entry. -/

namespace Cert.Reference4Ideal.Out

open Cert.Reference4Ideal Cert.Reference4Ideal.Read Cert.FfnSpec Idealize.ShloMosaic Idealize.ShloMosaic.TcCoe Idealize.SL.Sem
open Cert.Kernel4Ideal.Out (joined)

variable (x0 : (⟨S4x8x4096x128, .bf16⟩ : BufTy).Contents (Elt Ideal)) (x1 : (⟨S4x4096x1024, .bf16⟩ : BufTy).Contents (Elt Ideal))
  (x2 : (⟨S4x4096x2048, .f32⟩ : BufTy).Contents (Elt Ideal)) (x3 : (⟨S1x8x12288, .f32⟩ : BufTy).Contents (Elt Ideal))
  (x4 : (⟨S2048x2048, .bf16⟩ : BufTy).Contents (Elt Ideal)) (x5 x6 : (⟨S2048, .f32⟩ : BufTy).Contents (Elt Ideal))

/-- The heads laid side by side, then the attended values. -/
theorem joined_at (b : Fin 4) (n : Fin 4096) (k : Fin 2048) :
    val_main_v12 (F := Ideal) x0 x1 (ix3 b n k)
      = joined (fun h d => x0 (ix4 b h n d)) (fun d => x1 (ix3 b n d)) k := by
  pointwise [val_main_v12, val_main_v11, val_main_v10, val_main_v9, joined]

/-- The residual sum. -/
theorem row_at (b : Fin 4) (n : Fin 4096) (d : Fin 2048) :
    val_main_v19 (F := Ideal) x0 x1 x2 x3 x4 (ix3 b n d) = resid (x2 (ix3 b n d))
      (x3 (ix3 0 ⟨b.val, by omega⟩ ⟨4096 + d.val, by omega⟩))
      (∑ k, joined (fun h d => x0 (ix4 b h n d)) (fun d => x1 (ix3 b n d)) k * x4 (ix2 k d)) := by
  pointwise [val_main_v19, val_main_v18, val_main_v17, val_main_v16, val_main_v15, val_main_cst, val_main_v14,
    val_main_v13, val_main_v5, val_main_v2, val_main_v1, val_main_v0, resid, joined_at]

/-- The layer norm of the residual sum. -/
theorem result_at (b : Fin 4) (n : Fin 4096) (d : Fin 2048) :
    val_main_v43 (F := Ideal) x0 x1 x2 x3 x4 x5 x6 (ix3 b n d)
      = lnorm (fun e => val_main_v19 (F := Ideal) x0 x1 x2 x3 x4 (ix3 b n e)) (x5 (ix1 d)) (x6 (ix1 d)) d := by
  pointwise [val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_cst_0, val_main_cst_1, val_main_cst_2, val_main_cst_3, val_main_cst_4, lnorm, mean]

end Cert.Reference4Ideal.Out

end
-- ==== Proof.Out0.Claims.lean ====
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Out0.Array
public import proofs.«01_k».proof.Proof.Out0.Reference

@[expose] public section

set_option maxRecDepth 16384

noncomputable section

/-! The claims of the output projection. -/

namespace Cert.Out

open Cert.FfnSpec Idealize.ShloMosaic Idealize.ShloMosaic.TcCoe Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

section
open Cert.Kernel4Ideal

/-- Over equal arguments the kernel's array and the reference's are one function of them. -/
theorem equal (m : (ℓ : Loc nD τ sig) → Buf (Elt Ideal) ℓ) (c : Dev nD) (i : S4x4096x2048.Idx) :
    Cert.Reference4Ideal.Read.val_main_v43 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) i
    = Out.result m c (i 0) (i 1) (i 2) := by
  have e : i = ix3 (i 0) (i 1) (i 2) := by blk_ext
  refine (congrArg _ e).trans ((Cert.Reference4Ideal.Out.result_at _ _ _ _ _ _ _ (i 0) (i 1) (i 2)).trans ?_)
  exact congrArg (fun z => lnorm z _ _ _) (funext fun k => Cert.Reference4Ideal.Out.row_at _ _ _ _ _ (i 0) (i 1) k)

end

/-- The kernel and the reference end with equal results. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun r h c => ⟨(h c).1.trans ?_, (h c).2⟩)
    (Cert.Reference4Ideal.Value.run (F := Ideal) m' ρ')
  obtain ⟨h0, h1, h2, h3, h4, h5, h6⟩ := hagree c
  rw [Cert.Reference4Ideal.Read.val_main_v43_eq, h0, h1, h2, h3, h4, h5, h6]
  exact (funext fun i => equal m c i).trans (Cert.Kernel4Ideal.Out.final m c).symm

end Cert.Out

end
-- ==== Proof.Ffn.Block.lean ====
module

public import proofs.«01_k».proof.Proof.Gen.Kernel2Ideal.Frame
public import proofs.«01_k».proof.Proof.Ffn.Spec
public import Idealize.ShloMosaic.Lib.Pipeline.ReadBack

@[expose] public section

set_option maxRecDepth 16384

noncomputable section

/-! What one grid point of the feed-forward kernel computes, entry by entry, and what its output block and its scratch
hold after the first, the middle and the last of the four points that share a block. -/

namespace Cert.Kernel2Ideal.Ffn

open Cert.Kernel2Ideal Cert.Kernel2Ideal.Gen Cert.FfnSpec Idealize.ShloMosaic Idealize.ShloMosaic.TcCoe Idealize.SL.Sem

/-- The modulated rows. -/
theorem pay1_at (x : Vec Ideal S1x512x2048 .f32) (sc sh : Vec Ideal S1x1x2048 .f32) (j : S512x2048.Idx) :
    k0_pay1 (F := Ideal) x sc sh j = modulated (x (ix3 0 (j 0) (j 1))) (sc (ix3 0 0 (j 1))) (sh (ix3 0 0 (j 1))) := by
  pointwise [k0_pay1, modulated]

/-- The zero fill. -/
theorem pay2_at (j : S1x512x2048.Idx) : k0_pay2 (F := Ideal) j = 0 := by
  pointwise [k0_pay2]

/-- One block of hidden units, added into the accumulator. -/
theorem pay3_at (h : Vec Ideal S512x2048 .bf16) (w1 : Vec Ideal S2048x2048 .bf16) (b1 : Vec Ideal S1x2048 .f32)
    (acc : Vec Ideal S1x512x2048 .f32) (w2 : Vec Ideal S2048x2048 .bf16) (j : S1x512x2048.Idx) :
    k0_pay3 (F := Ideal) h w1 b1 acc w2 j = acc j + ∑ l : Fin 2048,
      unitOf (fun k => h (ix2 (j 1) k)) (fun k => w1 (ix2 k l)) (b1 (ix2 0 l)) * w2 (ix2 l (j 2)) := by
  pointwise [k0_pay3, unitOf]

/-- The layer norm of the gated residual. -/
theorem pay5_at (o : Vec Ideal S1x512x2048 .f32) (b2 : Vec Ideal S1x2048 .f32) (x : Vec Ideal S1x512x2048 .f32)
    (g : Vec Ideal S1x1x2048 .f32) (lg lb : Vec Ideal S1x2048 .f32) (j : S1x512x2048.Idx) :
    k0_pay4 (F := Ideal) (k0_pay5 (F := Ideal) o b2 x g lg lb) j
      = lnorm (fun e => resid (x (ix3 0 (j 1) e)) (g (ix3 0 0 e)) (o (ix3 0 (j 1) e) + b2 (ix2 0 e)))
          (lg (ix2 0 (j 2))) (lb (ix2 0 (j 2))) (j 2) := by
  have e : j = ix3 0 (j 1) (j 2) := by blk_ext
  generalize j 1 = r at e ⊢
  generalize j 2 = d at e ⊢
  subst e
  pointwise [k0_pay4, k0_pay5, lnorm, mean, resid]

variable (m : (ℓ : Loc nD τ sig) → Buf (Elt Ideal) ℓ)

/-- The modulated rows of point `t`'s block. -/
def rows (c : Dev nD) (t : Fin cfg0.N) (h : k0_cond1 (grid0.coords t) = 1#1) : Vec Ideal S512x2048 .bf16 :=
  k0_pay1 (F := Ideal) (iblk m c 0 t)
    (View.ld (iblk m c 1 t) (Rect.unit (s := S1x8x2048) (k0_off1 (grid0.coords t)) S1x1x2048.size (k0_off1_inb _ h)))
    (View.ld (iblk m c 2 t) (Rect.unit (s := S1x8x2048) (k0_off1 (grid0.coords t)) S1x1x2048.size (k0_off1_inb _ h)))

/-- After the first point of a run: the first block of hidden units, and the modulated rows in the scratch. -/
theorem first (c : Dev nD) (t : Fin cfg0.N) (h0 : t.val % 4 = 0) :
    (outsAt0 m c t.val t.isLt).1 = k0_pay3 (F := Ideal) (rows m c t ((hcond0_0 t).mpr h0)) (iblk m c 4 t) (iblk m c 5 t)
      (k0_pay2 (F := Ideal)) (iblk m c 6 t)
    ∧ (outsAt0 m c t.val t.isLt).2 = rows m c t ((hcond0_0 t).mpr h0) := by
  rw [outsAt0_A m c t h0 (by omega)]
  constructor
  · frame_out
    rfl
  · dsimp only
    unfold sout0_A_0
    frame_out
    rfl

/-- After a middle point: one more block of hidden units, the scratch as it was. -/
theorem mid (c : Dev nD) (t : Fin cfg0.N) (h0 : ¬ t.val % 4 = 0) (h1 : ¬ t.val % 4 = 3) :
    (outsAt0 m c t.val t.isLt).1 = k0_pay3 (F := Ideal) (outsAt0 m c (t.val - 1) (by omega)).2 (iblk m c 4 t)
      (iblk m c 5 t) (outsAt0 m c (t.val - 1) (by omega)).1 (iblk m c 6 t)
    ∧ (outsAt0 m c t.val t.isLt).2 = (outsAt0 m c (t.val - 1) (by omega)).2 := by
  rw [outsAt0_B m c t h0 h1]
  constructor
  · frame_out
    rw [Idealize.ShloMosaic.read_unread_whole]
  · dsimp only
    unfold sout0_B_0
    rfl

/-- After the last point: the last block of hidden units, then the layer norm. -/
theorem last (c : Dev nD) (t : Fin cfg0.N) (h1 : t.val % 4 = 3) :
    (outsAt0 m c t.val t.isLt).1 = k0_pay4 (F := Ideal) (k0_pay5 (F := Ideal)
      (k0_pay3 (F := Ideal) (outsAt0 m c (t.val - 1) (by omega)).2 (iblk m c 4 t)
        (iblk m c 5 t) (outsAt0 m c (t.val - 1) (by omega)).1 (iblk m c 6 t))
      (iblk m c 7 t) (iblk m c 0 t)
      (View.ld (iblk m c 3 t) (Rect.unit (s := S1x8x2048) (k0_off2 (grid0.coords t)) S1x1x2048.size
        (k0_off2_inb _ ((hcond0_1 t).mpr h1))))
      (iblk m c 8 t) (iblk m c 9 t)) := by
  rw [outsAt0_C m c t (by omega) h1]
  frame_out
  rw [Idealize.ShloMosaic.read_unread_whole]
  rfl

end Cert.Kernel2Ideal.Ffn

end
-- ==== Proof.Ffn.Reads.lean ====
module

public import proofs.«01_k».proof.Proof.Ffn.Block
public import Idealize.ShloMosaic.Lib.Claim

@[expose] public section

set_option maxRecDepth 16384

noncomputable section

/-! Where each input block of a grid point lies in its array. -/

namespace Cert.Kernel2Ideal.Ffn

open Cert.Kernel2Ideal Cert.Kernel2Ideal.Gen Cert.FfnSpec Idealize.ShloMosaic Idealize.ShloMosaic.TcCoe Idealize.SL.Sem

variable (m : (ℓ : Loc nD τ sig) → Buf (Elt Ideal) ℓ)

/-- The index map of every window that moves, and of the fixed modulation chunks. -/
theorem idx : ∀ t : Fin cfg0.N, win0_0.index t = ![t.val / 32, t.val / 4 % 8, 0] ∧ win0_1.index t = ![0, 0, 4]
    ∧ win0_2.index t = ![0, 0, 3] ∧ win0_3.index t = ![0, 0, 5] ∧ win0_4.index t = ![0, t.val % 4]
    ∧ win0_5.index t = ![0, t.val % 4] ∧ win0_6.index t = ![t.val % 4, 0] ∧ win0_7.index t = ![0, 0]
    ∧ win0_8.index t = ![0, 0] ∧ win0_9.index t = ![0, 0] ∧ win0_10.index t = ![t.val / 32, t.val / 4 % 8, 0]
    ∧ k0_off1 (grid0.coords t) = ![0, t.val / 32, 0] ∧ k0_off2 (grid0.coords t) = ![0, t.val / 32, 0] :=
  (by decide +kernel : ∀ t : Fin grid0.N, _)

theorem N_eq : cfg0.N = 128 := rfl

/-- The input rows. -/
theorem read0 (c : Dev nD) (t : Fin cfg0.N) (b : Fin 4) (n : Fin 4096) (r : Fin 512) (k : Fin 2048)
    (hb : b.val = t.val / 32) (hn : n.val = t.val / 4 % 8 * 512 + r.val) :
    iblk m c 0 t (ix3 0 r k) = m ((c : Thread nD τ).loc main_arg0) (ix3 b n k) := by
  blk_ext [iblk, V, idx t]

/-- The scale row. -/
theorem read1 (c : Dev nD) (t : Fin cfg0.N) (b : Fin 4) (k : Fin 2048) (h) (hb : b.val = t.val / 32) :
    View.ld (iblk m c 1 t) (Rect.unit (s := S1x8x2048) (k0_off1 (grid0.coords t)) S1x1x2048.size h) (ix3 0 0 k)
      = m ((c : Thread nD τ).loc main_arg1) (ix3 0 ⟨b.val, by omega⟩ ⟨8192 + k.val, by omega⟩) := by
  pointwise [idx t]
  blk_ext [iblk, V, idx t]

/-- The shift row. -/
theorem read2 (c : Dev nD) (t : Fin cfg0.N) (b : Fin 4) (k : Fin 2048) (h) (hb : b.val = t.val / 32) :
    View.ld (iblk m c 2 t) (Rect.unit (s := S1x8x2048) (k0_off1 (grid0.coords t)) S1x1x2048.size h) (ix3 0 0 k)
      = m ((c : Thread nD τ).loc main_arg1) (ix3 0 ⟨b.val, by omega⟩ ⟨6144 + k.val, by omega⟩) := by
  pointwise [idx t]
  blk_ext [iblk, V, idx t]

/-- The gate row. -/
theorem read3 (c : Dev nD) (t : Fin cfg0.N) (b : Fin 4) (k : Fin 2048) (h) (hb : b.val = t.val / 32) :
    View.ld (iblk m c 3 t) (Rect.unit (s := S1x8x2048) (k0_off2 (grid0.coords t)) S1x1x2048.size h) (ix3 0 0 k)
      = m ((c : Thread nD τ).loc main_arg1) (ix3 0 ⟨b.val, by omega⟩ ⟨10240 + k.val, by omega⟩) := by
  pointwise [idx t]
  blk_ext [iblk, V, idx t]

/-- The columns of the first weight. -/
theorem read4 (c : Dev nD) (t : Fin cfg0.N) (k : Fin 2048) (l : Fin 2048) :
    iblk m c 4 t (ix2 k l) = m ((c : Thread nD τ).loc main_arg2) (ix2 k ⟨t.val % 4 * 2048 + l.val, by omega⟩) := by
  blk_ext [iblk, V, idx t]

/-- The entries of the first bias. -/
theorem read5 (c : Dev nD) (t : Fin cfg0.N) (l : Fin 2048) :
    iblk m c 5 t (ix2 0 l) = m ((c : Thread nD τ).loc main_arg3) (ix1 ⟨t.val % 4 * 2048 + l.val, by omega⟩) := by
  blk_simp [iblk]
  entry_read
  refine (congrArg _ (show _ = ix2 0 ⟨t.val % 4 * 2048 + l.val, by omega⟩ by blk_ext [idx t])).trans ?_
  pointwise

/-- The rows of the second weight. -/
theorem read6 (c : Dev nD) (t : Fin cfg0.N) (l d : Fin 2048) :
    iblk m c 6 t (ix2 l d) = m ((c : Thread nD τ).loc main_arg4) (ix2 ⟨t.val % 4 * 2048 + l.val, by omega⟩ d) := by
  blk_ext [iblk, V, idx t]

/-- The second bias. -/
theorem read7 (c : Dev nD) (t : Fin cfg0.N) (d : Fin 2048) :
    iblk m c 7 t (ix2 0 d) = m ((c : Thread nD τ).loc main_arg5) (ix1 d) := by
  blk_simp [iblk]
  entry_read
  refine (congrArg _ (show _ = ix2 0 d by blk_ext [idx t])).trans ?_
  pointwise

/-- The norm's scale. -/
theorem read8 (c : Dev nD) (t : Fin cfg0.N) (d : Fin 2048) :
    iblk m c 8 t (ix2 0 d) = m ((c : Thread nD τ).loc main_arg6) (ix1 d) := by
  blk_simp [iblk]
  entry_read
  refine (congrArg _ (show _ = ix2 0 d by blk_ext [idx t])).trans ?_
  pointwise

/-- The norm's shift. -/
theorem read9 (c : Dev nD) (t : Fin cfg0.N) (d : Fin 2048) :
    iblk m c 9 t (ix2 0 d) = m ((c : Thread nD τ).loc main_arg7) (ix1 d) := by
  blk_simp [iblk]
  entry_read
  refine (congrArg _ (show _ = ix2 0 d by blk_ext [idx t])).trans ?_
  pointwise

end Cert.Kernel2Ideal.Ffn

end
-- ==== Proof.Ffn.Array.lean ====
module

public import proofs.«01_k».proof.Proof.Ffn.Reads
public import proofs.«01_k».proof.Proof.Gen.Kernel2Ideal.Value

@[expose] public section

set_option maxRecDepth 16384

noncomputable section

/-! The feed-forward kernel's whole output array, entry by entry. -/

namespace Cert.Kernel2Ideal.Ffn

open Cert.Kernel2Ideal Cert.Kernel2Ideal.Gen Cert.FfnSpec Idealize.ShloMosaic Idealize.ShloMosaic.TcCoe Idealize.SL.Sem

variable (m : (ℓ : Loc nD τ sig) → Buf (Elt Ideal) ℓ)

/-- The modulated input row `(b, n)` of the argument arrays. -/
def inRow (c : Dev nD) (b : Fin 4) (n : Fin 4096) (k : Fin 2048) : EReal :=
  modulated (m ((c : Thread nD τ).loc main_arg0) (ix3 b n k))
    (m ((c : Thread nD τ).loc main_arg1) (ix3 0 ⟨b.val, by omega⟩ ⟨8192 + k.val, by omega⟩))
    (m ((c : Thread nD τ).loc main_arg1) (ix3 0 ⟨b.val, by omega⟩ ⟨6144 + k.val, by omega⟩))

/-- Term `l` of the sum over the hidden units. -/
def term (c : Dev nD) (b : Fin 4) (n : Fin 4096) (d : Fin 2048) (l : Fin 8192) : EReal :=
  unitOf (inRow m c b n) (fun k => m ((c : Thread nD τ).loc main_arg2) (ix2 k l))
    (m ((c : Thread nD τ).loc main_arg3) (ix1 l)) * m ((c : Thread nD τ).loc main_arg4) (ix2 l d)

/-- The row of the residual sum that the norm is taken of. -/
def resRow (c : Dev nD) (b : Fin 4) (n : Fin 4096) (d : Fin 2048) : EReal :=
  row (fun k => m ((c : Thread nD τ).loc main_arg0) (ix3 b n k))
    (fun k => m ((c : Thread nD τ).loc main_arg1) (ix3 0 ⟨b.val, by omega⟩ ⟨6144 + k.val, by omega⟩))
    (fun k => m ((c : Thread nD τ).loc main_arg1) (ix3 0 ⟨b.val, by omega⟩ ⟨8192 + k.val, by omega⟩))
    (fun k => m ((c : Thread nD τ).loc main_arg1) (ix3 0 ⟨b.val, by omega⟩ ⟨10240 + k.val, by omega⟩))
    (fun k l => m ((c : Thread nD τ).loc main_arg2) (ix2 k l)) (fun l => m ((c : Thread nD τ).loc main_arg3) (ix1 l))
    (fun l d => m ((c : Thread nD τ).loc main_arg4) (ix2 l d)) (fun d => m ((c : Thread nD τ).loc main_arg5) (ix1 d)) d

/-- Entry `(b, n, d)` of the result. -/
def result (c : Dev nD) (b : Fin 4) (n : Fin 4096) (d : Fin 2048) : EReal :=
  lnorm (resRow m c b n) (m ((c : Thread nD τ).loc main_arg6) (ix1 d)) (m ((c : Thread nD τ).loc main_arg7) (ix1 d)) d

theorem rows_at (c : Dev nD) (t : Fin cfg0.N) (h) (b : Fin 4) (n : Fin 4096) (r : Fin 512) (k : Fin 2048)
    (hb : b.val = t.val / 32) (hn : n.val = t.val / 4 % 8 * 512 + r.val) :
    rows m c t h (ix2 r k) = inRow m c b n k := by
  unfold rows inRow
  rw [pay1_at]
  exact congr (congr (congrArg modulated (read0 m c t b n r k hb hn)) (read1 m c t b k _ hb)) (read2 m c t b k _ hb)

/-- One point's block of hidden units, over the scratch `h` that holds the modulated rows. -/
theorem block_at (c : Dev nD) (t : Fin cfg0.N) (h : Vec Ideal S512x2048 .bf16) (acc : Vec Ideal S1x512x2048 .f32)
    (b : Fin 4) (n : Fin 4096) (r : Fin 512) (d : Fin 2048) (hh : ∀ k, h (ix2 r k) = inRow m c b n k) :
    k0_pay3 (F := Ideal) h (iblk m c 4 t) (iblk m c 5 t) acc (iblk m c 6 t) (ix3 0 r d)
      = acc (ix3 0 r d) + ∑ l : Fin 2048, term m c b n d ⟨t.val % 4 * 2048 + l.val, by omega⟩ := by
  rw [pay3_at]
  refine congrArg _ (Finset.sum_congr rfl fun l _ => ?_)
  refine congr (congrArg HMul.hMul ?_) (read6 m c t l d)
  refine congr (congr (congrArg unitOf (funext hh)) (funext fun k => read4 m c t k l)) (read5 m c t l)

/-- Before the norm, the block of the last point of a run holds the whole sum over the hidden units. -/
theorem sum_at (c : Dev nD) (t : Fin cfg0.N) (h3 : t.val % 4 = 3) (b : Fin 4) (n : Fin 4096) (r : Fin 512)
    (d : Fin 2048) (hb : b.val = t.val / 32) (hn : n.val = t.val / 4 % 8 * 512 + r.val) :
    k0_pay3 (F := Ideal) (outsAt0 m c (t.val - 1) (by omega)).2 (iblk m c 4 t)
        (iblk m c 5 t) (outsAt0 m c (t.val - 1) (by omega)).1 (iblk m c 6 t) (ix3 0 r d)
      = ∑ l, term m c b n d l := by
  have hN : t.val < 128 := t.isLt
  obtain ⟨a1, a2⟩ := first m c ⟨t.val - 3, by omega⟩ (by show (t.val - 3) % 4 = 0; omega)
  obtain ⟨b1, b2⟩ := mid m c ⟨t.val - 2, by omega⟩ (by show ¬ (t.val - 2) % 4 = 0; omega) (by show ¬ (t.val - 2) % 4 = 3; omega)
  obtain ⟨c1, c2⟩ := mid m c ⟨t.val - 1, by omega⟩ (by show ¬ (t.val - 1) % 4 = 0; omega) (by show ¬ (t.val - 1) % 4 = 3; omega)
  have e : ∀ (i j : ℕ) (hi : i < cfg0.N) (hj : j < cfg0.N), i = j → outsAt0 m c i hi = outsAt0 m c j hj := by
    rintro i j hi hj rfl; rfl
  dsimp only at a1 a2 b1 b2 c1 c2
  rw [e (t.val - 2 - 1) (t.val - 3) _ (by omega) (by omega)] at b1 b2
  rw [e (t.val - 1 - 1) (t.val - 2) _ (by omega) (by omega)] at c1 c2
  have hh : ∀ k, rows m c ⟨t.val - 3, by omega⟩ ((hcond0_0 _).mpr (by show (t.val - 3) % 4 = 0; omega)) (ix2 r k)
      = inRow m c b n k := fun k =>
    rows_at m c _ _ b n r k (by show _ = (t.val - 3) / 32; omega) (by show _ = (t.val - 3) / 4 % 8 * 512 + _; omega)
  rw [c2, b2, a2, block_at m c t _ _ b n r d hh, c1, b2, a2, block_at m c _ _ _ b n r d hh, b1, a2,
    block_at m c _ _ _ b n r d hh, a1, block_at m c _ _ _ b n r d hh, pay2_at, zero_add]
  rw [← Fin.sum_mul_add_fin 4 2048 (term m c b n d) rfl, Fin.sum_univ_four]
  refine congr (congrArg _ (congr (congrArg _ (congr (congrArg _ ?_) ?_)) ?_)) ?_ <;>
    refine Finset.sum_congr rfl fun l _ => congrArg _ (Fin.ext ?_)
  · show (t.val - 3) % 4 * 2048 + _ = 0 * 2048 + _; omega
  · show (t.val - 2) % 4 * 2048 + _ = 1 * 2048 + _; omega
  · show (t.val - 1) % 4 * 2048 + _ = 2 * 2048 + _; omega
  · show t.val % 4 * 2048 + _ = 3 * 2048 + _; omega

/-- What the last point of a run leaves in the output block. -/
theorem out_at (c : Dev nD) (t : Fin cfg0.N) (h3 : t.val % 4 = 3) (b : Fin 4) (n : Fin 4096) (r : Fin 512)
    (d : Fin 2048) (hb : b.val = t.val / 32) (hn : n.val = t.val / 4 % 8 * 512 + r.val) :
    (outsAt0 m c t.val t.isLt).1 (ix3 0 r d) = result m c b n d := by
  rw [last m c t h3, pay5_at]
  unfold result
  change lnorm _ (iblk m c 8 t (ix2 0 d)) (iblk m c 9 t (ix2 0 d)) d = _
  refine congrFun (congr (congr (congrArg lnorm (funext fun e => ?_)) (read8 m c t d)) (read9 m c t d)) d
  exact congr (congr (congrArg resid (read0 m c t b n r e hb hn)) (read3 m c t b e _ hb))
    (congr (congrArg HAdd.hAdd (sum_at m c t h3 b n r e hb hn)) (read7 m c t e))

theorem result_congr (c : Dev nD) {b b' : Fin 4} {n n' : Fin 4096} {d d' : Fin 2048} (hb : b.val = b'.val)
    (hn : n.val = n'.val) (hd : d.val = d'.val) : result m c b n d = result m c b' n' d' := by
  rw [Fin.ext hb, Fin.ext hn, Fin.ext hd]

/-- The output array after the run. -/
theorem final (c : Dev nD) : (dats m 0 c).arrAt 10 cfg0.N = fun i => result m c (i 0) (i 1) (i 2) := by
  refine (dats m 0 c).arrAt_eq_of_covers 10 _ (by decide +kernel) fun t hf y => ?_
  blk_simp
  rw [after0_10]
  have h3 := (flush0_10 t).mp hf
  have hN : t.val < 128 := t.isLt
  have key : ∀ z : S1x512x2048.Idx, (outsAt0 m c t.val t.isLt).1 z
      = result m c ⟨t.val / 32, by omega⟩ ⟨t.val / 4 % 8 * 512 + (z 1).val, by have := (z 1).isLt; change (z 1).val < 512 at this; omega⟩ (z 2) := by
    intro z
    have ez : z = ix3 0 (z 1) (z 2) := by blk_ext
    exact (congrArg _ ez).trans (out_at m c t h3 _ _ (z 1) (z 2) rfl rfl)
  refine (key y).trans (result_congr m c ?_ ?_ ?_) <;> blk_simp [idx t]

end Cert.Kernel2Ideal.Ffn

end
-- ==== Proof.Ffn.Reference.lean ====
module

public import proofs.«01_k».proof.Proof.Gen.Reference2Ideal.Read
public import proofs.«01_k».proof.Proof.Ffn.Spec

@[expose] public section

set_option maxRecDepth 16384

noncomputable section

/-! The reference feed-forward block, entry by entry. -/

namespace Cert.Reference2Ideal.Ffn

open Cert.Reference2Ideal Cert.Reference2Ideal.Read Cert.FfnSpec Idealize.ShloMosaic Idealize.ShloMosaic.TcCoe Idealize.SL.Sem

variable (x0 : (⟨S4x4096x2048, .f32⟩ : BufTy).Contents (Elt Ideal)) (x1 : (⟨S1x8x12288, .f32⟩ : BufTy).Contents (Elt Ideal))
  (x2 : (⟨S2048x8192, .bf16⟩ : BufTy).Contents (Elt Ideal)) (x3 : (⟨S8192, .f32⟩ : BufTy).Contents (Elt Ideal))
  (x4 : (⟨S8192x2048, .bf16⟩ : BufTy).Contents (Elt Ideal)) (x5 x6 x7 : (⟨S2048, .f32⟩ : BufTy).Contents (Elt Ideal))

/-- The modulated input. -/
theorem modulated_at (b : Fin 4) (n : Fin 4096) (k : Fin 2048) :
    val_main_v14 (F := Ideal) x0 x1 (ix3 b n k) = modulated (x0 (ix3 b n k))
      (x1 (ix3 0 ⟨b.val, by omega⟩ ⟨8192 + k.val, by omega⟩)) (x1 (ix3 0 ⟨b.val, by omega⟩ ⟨6144 + k.val, by omega⟩)) := by
  pointwise [val_main_v14, val_main_v13, val_main_v12, val_main_v11, val_main_v10, val_main_v9, val_main_cst,
    val_main_v7, val_main_v6, val_main_v2, val_main_v1, val_main_v0, modulated]

/-- The residual sum. -/
theorem row_at (b : Fin 4) (n : Fin 4096) (d : Fin 2048) :
    val_main_v31 (F := Ideal) x0 x1 x2 x3 x4 x5 (ix3 b n d) = row (fun k => x0 (ix3 b n k))
      (fun k => x1 (ix3 0 ⟨b.val, by omega⟩ ⟨6144 + k.val, by omega⟩))
      (fun k => x1 (ix3 0 ⟨b.val, by omega⟩ ⟨8192 + k.val, by omega⟩))
      (fun k => x1 (ix3 0 ⟨b.val, by omega⟩ ⟨10240 + k.val, by omega⟩))
      (fun k l => x2 (ix2 k l)) (fun l => x3 (ix1 l)) (fun l d => x4 (ix2 l d)) (fun d => x5 (ix1 d)) d := by
  pointwise [val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_call0_v0, val_main_call0_cst, val_main_cst_0,
    val_main_v8, val_main_v2, val_main_v1, val_main_v0, row, resid, mlp, unitOf, modulated_at]

/-- The layer norm of the residual sum. -/
theorem result_at (b : Fin 4) (n : Fin 4096) (d : Fin 2048) :
    val_main_v55 (F := Ideal) x0 x1 x2 x3 x4 x5 x6 x7 (ix3 b n d)
      = lnorm (fun e => val_main_v31 (F := Ideal) x0 x1 x2 x3 x4 x5 (ix3 b n e)) (x6 (ix1 d)) (x7 (ix1 d)) d := by
  pointwise [val_main_v55, val_main_v54, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_cst_1, val_main_cst_2, val_main_cst_3, val_main_cst_4, val_main_cst_5, lnorm, mean]

end Cert.Reference2Ideal.Ffn

end
-- ==== Proof.Ffn.Claims.lean ====
module

public import proofs.«01_k».proof.Defs
public import proofs.«01_k».proof.Proof.Gen.Kernel2
public import proofs.«01_k».proof.Proof.Gen.Kernel2.Frame
public import proofs.«01_k».proof.Proof.Ffn.Array
public import proofs.«01_k».proof.Proof.Ffn.Reference

@[expose] public section

set_option maxRecDepth 16384

noncomputable section

/-! The claims of the feed-forward call. -/

namespace Cert.Ffn

open Cert.FfnSpec Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- Over equal arguments the kernel's array and the reference's are one function of them. -/
theorem equal (m : (ℓ : Loc Cert.Kernel2Ideal.nD Cert.Kernel2Ideal.τ Cert.Kernel2Ideal.sig) → Buf (Elt Ideal) ℓ)
    (c : Dev Cert.Kernel2Ideal.nD) (i : Cert.Kernel2Ideal.S4x4096x2048.Idx) :
    Cert.Reference2Ideal.Read.val_main_v55 (F := Ideal)
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) i
    = Cert.Kernel2Ideal.Ffn.result m c (i 0) (i 1) (i 2) := by
  have e : i = ix3 (i 0) (i 1) (i 2) := by blk_ext
  refine (congrArg _ e).trans ((Cert.Reference2Ideal.Ffn.result_at _ _ _ _ _ _ _ _ (i 0) (i 1) (i 2)).trans ?_)
  exact congrArg (fun z => lnorm z _ _ _) (funext fun k => Cert.Reference2Ideal.Ffn.row_at _ _ _ _ _ _ (i 0) (i 1) k)

/-- The kernel and the reference end with equal results. -/
theorem algebraic : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun r h c => ⟨(h c).1.trans ?_, (h c).2⟩)
    (Cert.Reference2Ideal.Value.run (F := Ideal) m' ρ')
  obtain ⟨h0, h1, h2, h3, h4, h5, h6, h7⟩ := hagree c
  rw [Cert.Reference2Ideal.Read.val_main_v55_eq, h0, h1, h2, h3, h4, h5, h6, h7]
  refine (funext fun i => equal m c i).trans ?_
  exact (Cert.Kernel2Ideal.Ffn.final m c).symm.trans (Cert.Kernel2Ideal.Value.final10 m c)

end Cert.Ffn

end
-- ==== Proof.In0.Turn.lean ====
module

public import proofs.«01_k».proof.Proof.Ffn.Spec

@[expose] public section

noncomputable section

/-! The rotation of the queries and keys of a head of 128 lanes, and the gate of the first layer, on numbers. -/

namespace Cert.In0

open Idealize.ShloMosaic

/-- Four rows of 32 lanes side by side. -/
def quad (a b c e : Fin 32 → EReal) (d : Fin 128) : EReal :=
  if h1 : d.val < 32 then a ⟨d.val, h1⟩ else if h2 : d.val < 64 then b ⟨d.val - 32, by omega⟩
    else if h3 : d.val < 96 then c ⟨d.val - 64, by omega⟩ else e ⟨d.val - 96, by omega⟩

/-- A head's lanes turned: the first half by the angles of the rows, the second by the angles of the columns; each half
is 32 planes, lane `i` with lane `i + 32`. -/
def turned (x : Fin 128 → EReal) (cr sr cc sc : Fin 32 → EReal) : Fin 128 → EReal :=
  quad (fun i => x ⟨i.val, by omega⟩ * cr i - x ⟨32 + i.val, by omega⟩ * sr i)
    (fun i => x ⟨32 + i.val, by omega⟩ * cr i + x ⟨i.val, by omega⟩ * sr i)
    (fun i => x ⟨64 + i.val, by omega⟩ * cc i - x ⟨96 + i.val, by omega⟩ * sc i)
    (fun i => x ⟨96 + i.val, by omega⟩ * cc i + x ⟨64 + i.val, by omega⟩ * sc i)

/-- The lane in the same plane. -/
def mate (d : Fin 128) : Fin 128 :=
  if h : d.val % 64 < 32 then ⟨d.val + 32, by omega⟩ else ⟨d.val - 32, by omega⟩

/-- The turn written with one table of cosines and one of signed sines. -/
theorem turn_tables (x : Fin 128 → EReal) (cr sr cc sc : Fin 32 → EReal) (d : Fin 128) :
    x d * quad cr cr cc cc d + x (mate d) * quad (fun i => -sr i) sr (fun i => -sc i) sc d = turned x cr sr cc sc d := by
  have kx : ∀ a b : Fin 128, a.val = b.val → x a = x b := fun a b e => by rw [Fin.ext e]
  unfold turned quad mate
  by_cases h1 : d.val < 32
  · simp only [dif_pos h1, dif_pos (show d.val % 64 < 32 by omega), mul_neg, ← sub_eq_add_neg]
    rw [kx ⟨d.val + 32, _⟩ ⟨32 + d.val, by omega⟩ (by simp only; omega)]
  · by_cases h2 : d.val < 64
    · simp only [dif_neg h1, dif_pos h2, dif_neg (show ¬ d.val % 64 < 32 by omega)]
      rw [kx d ⟨32 + (d.val - 32), by omega⟩ (by simp only; omega)]
    · by_cases h3 : d.val < 96
      · simp only [dif_neg h1, dif_neg h2, dif_pos h3, dif_pos (show d.val % 64 < 32 by omega), mul_neg, ← sub_eq_add_neg]
        rw [kx d ⟨64 + (d.val - 64), by omega⟩ (by simp only; omega),
          kx ⟨d.val + 32, _⟩ ⟨96 + (d.val - 64), by omega⟩ (by simp only; omega)]
      · simp only [dif_neg h1, dif_neg h2, dif_neg h3, dif_neg (show ¬ d.val % 64 < 32 by omega)]
        rw [kx d ⟨96 + (d.val - 96), by omega⟩ (by simp only; omega),
          kx ⟨d.val - 32, _⟩ ⟨64 + (d.val - 96), by omega⟩ (by simp only; omega)]

/-- A finite factor that is not negative passes through the turn. -/
theorem turned_mul (x : Fin 128 → EReal) (cr sr cc sc : Fin 32 → EReal) (k : ℝ) (hk : 0 ≤ k) (d : Fin 128) :
    turned (fun e => x e * (k : EReal)) cr sr cc sc d = turned x cr sr cc sc d * (k : EReal) := by
  have h0 : (0 : EReal) ≤ (k : EReal) := by exact_mod_cast hk
  have add : ∀ a b : EReal, a * k + b * k = (a + b) * k := fun a b =>
    (EReal.right_distrib_of_nonneg_of_ne_top h0 (EReal.coe_ne_top k) a b).symm
  have sub : ∀ a b : EReal, a * k - b * k = (a - b) * k := fun a b => by
    rw [sub_eq_add_neg, ← neg_mul, add, ← sub_eq_add_neg]
  unfold turned quad
  simp only [mul_right_comm _ (k : EReal), add, sub]
  split_ifs <;> rfl

/-- The gate as the kernel writes it. -/
def gateK (g : EReal) : EReal :=
  Ideal.ofBits .f32 0x3F000000#32 * g * (Ideal.ofBits .f32 0x3F800000#32
    + Ideal.tanh (Ideal.ofBits .f32 0x3F4C422A#32 * (g + Ideal.ofBits .f32 0x3D372713#32 * (g * g * g))))

/-- The gate as the reference writes it. -/
def gateR (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * g * g)))))

theorem gate_eq (g : EReal) : gateK g = gateR g := by
  unfold gateK gateR
  rw [mul_comm _ g, mul_assoc]

/-- The scale of the scores over `log 2`, a positive number. -/
def qscale : ℝ := (11863283 / 134217728) * (Real.log 2)⁻¹

theorem qscale_nonneg : 0 ≤ qscale :=
  mul_nonneg (by norm_num) (inv_nonneg.mpr (Real.log_nonneg (by norm_num)))

/-- A query scaled and divided by `log 2`. -/
theorem scaled_eq (x : EReal) :
    Ideal.div (x * Ideal.ofBits .f32 0x3DB504F3#32) (Ideal.log (Ideal.ofBits .f32 0x40000000#32)) = x * (qscale : EReal) := by
  have h2 : (Ideal.ofBits .f32 0x40000000#32 : EReal) = ((2 : ℝ) : EReal) := by
    simp [Ideal.ofBits, Ideal.ieee, -EReal.coe_mul]; norm_num
  have h1 : (Ideal.ofBits .f32 0x3DB504F3#32 : EReal) = ((11863283 / 134217728 : ℝ) : EReal) := by
    simp [Ideal.ofBits, Ideal.ieee, -EReal.coe_mul]; norm_num
  have hl : 0 < Real.log 2 := Real.log_pos one_lt_two
  have h3 : Ideal.log ((2 : ℝ) : EReal) = ((Real.log 2 : ℝ) : EReal) := by
    show (if (2 : ℝ) ≤ 0 then (⊥ : EReal) else (Real.log 2 : ℝ)) = _
    rw [if_neg (by norm_num)]
  rw [h2, h3, h1, Ideal.div, if_neg (by exact_mod_cast hl.ne'), qscale, EReal.coe_mul, ← EReal.coe_inv, mul_assoc]

end Cert.In0

end
-- ==== Proof.In0.Block.lean ====
module

public import proofs.«01_k».proof.Proof.Gen.Kernel5Ideal.Frame
public import Idealize.ShloMosaic.Lib.Pipeline.ReadBack
public import proofs.«01_k».proof.Proof.In0.Turn

@[expose] public section

set_option maxRecDepth 16384

noncomputable section

/-! What one grid point of the first layer's input projection computes, entry by entry. -/

namespace Cert.Kernel5Ideal.In

open Cert.Kernel5Ideal Cert.Kernel5Ideal.Gen Cert.FfnSpec Cert.In0 Idealize.ShloMosaic Idealize.ShloMosaic.TcCoe
open Idealize.SL.Sem

/-- Rows scaled by one plus the scale and shifted. -/
theorem pay4_at (x : Vec Ideal S1x1024x2048 .f32) (sc sh : Vec Ideal S1x1x2048 .f32) (r : Fin 1024) (e : Fin 2048) :
    k0_pay4 (F := Ideal) x sc sh (ix2 r e) = modulated (x (ix3 0 r e)) (sc (ix3 0 0 e)) (sh (ix3 0 0 e)) := by
  pointwise [k0_pay4, modulated]

/-- The factor of the queries. -/
theorem scale_named : Named.named (F := Ideal) (φ := .f32) κ "scale_log2e" 0x3E0293EE#32 = (qscale : EReal) :=
  IdealRules.named_const.ideal_named_scalar _ _ _ _ rfl

/-- The queries before they are turned. -/
theorem pay5_at (x : Vec Ideal S1x1024x2048 .f32) (sc sh : Vec Ideal S1x1x2048 .f32) (w : Vec Ideal S2048x1024 .bf16)
    (r : Fin 1024) (d : Fin 1024) :
    k0_pay5 (F := Ideal) x sc sh w (ix2 r d)
      = (∑ k, k0_pay4 (F := Ideal) x sc sh (ix2 r k) * w (ix2 k d)) * (qscale : EReal) := by
  unfold k0_pay5
  rw [scale_named]
  generalize k0_pay4 (F := Ideal) x sc sh = a
  pointwise

/-- The keys before they are turned. -/
theorem pay6_at (x : Vec Ideal S1x1024x2048 .f32) (sc sh : Vec Ideal S1x1x2048 .f32) (w : Vec Ideal S2048x256 .bf16)
    (r : Fin 1024) (d : Fin 256) :
    k0_pay6 (F := Ideal) x sc sh w (ix2 r d) = ∑ k, k0_pay4 (F := Ideal) x sc sh (ix2 r k) * w (ix2 k d) := by
  unfold k0_pay6
  generalize k0_pay4 (F := Ideal) x sc sh = a
  pointwise

theorem pay37_at (a : FVec Ideal S1024x2048 .bf16) (w : Vec Ideal S2048x1024 .bf16) (r : Fin 1024) (d : Fin 1024) :
    k0_pay37 (F := Ideal) a w (ix2 r d) = ∑ k, a (ix2 r k) * w (ix2 k d) := by
  pointwise [k0_pay37]

theorem pay38_at (a : FVec Ideal S1024x2048 .bf16) (w : Vec Ideal S2048x1024 .bf16) (r : Fin 1024) (d : Fin 1024) :
    k0_pay38 (F := Ideal) a w (ix2 r d) = ∑ k, a (ix2 r k) * w (ix2 k d) := by
  pointwise [k0_pay38]

theorem pay3_at (a : FVec Ideal S1024x2048 .bf16) (w : Vec Ideal S2048x256 .bf16) (r : Fin 1024) (d : Fin 256) :
    k0_pay3 (F := Ideal) a w (ix3 0 r d) = ∑ k, a (ix2 r k) * w (ix2 k d) := by
  pointwise [k0_pay3]

/-- The lanes that turn with the lane 32 above, as the queries' heads count them. -/
theorem maskQ_at (r : Fin 1024) (d : Fin 128) : k0_pay12 (64#32) k0_pay9 k0_pay10 k0_pay11 (ix2 r d)
    = if d.val % 64 < 32 then 1#1 else 0#1 := by
  pointwise [k0_pay12, k0_pay9, k0_pay10, k0_pay11]
  revert d
  decide +kernel

/-- The same lanes, as the second head of the keys counts them. -/
theorem maskK_at (r : Fin 1024) (d : Fin 128) : k0_pay32 (ix2 r d) = if d.val % 64 < 32 then 1#1 else 0#1 := by
  pointwise [k0_pay32]
  revert d
  decide +kernel

/-- A head turned, as the kernel does it: a lane and its mate, each with its table. -/
def turn (v cs sn : FVec Ideal S1024x128 .f32) (b : IVec S1024x128 1) : FVec Ideal S1024x128 .f32 :=
  addf (mulf v cs) (mulf (select b (dynamicRotate 1 96#32 none v rotates_S1024x128_d1)
    (dynamicRotate 1 32#32 none v rotates_S1024x128_d1)) sn)

theorem turn_at (v cs sn : FVec Ideal S1024x128 .f32) (b : IVec S1024x128 1)
    (hb : ∀ r d, b (ix2 r d) = if d.val % 64 < 32 then 1#1 else 0#1) (r : Fin 1024) (d : Fin 128) :
    turn v cs sn b (ix2 r d) = v (ix2 r d) * cs (ix2 r d) + v (ix2 r (mate d)) * sn (ix2 r d) := by
  have kv : ∀ d d' : Fin 128, d.val = d'.val → v (ix2 r d) = v (ix2 r d') := fun d d' e => by rw [Fin.ext e]
  pointwise [turn]
  rw [hb]
  unfold mate
  by_cases h : d.val % 64 < 32
  · rw [if_pos h, dif_pos h, show ∀ p q : EReal, Scalar.select 1#1 p q = p from fun _ _ => rfl,
      kv ⟨(d.val + 128 - 96) % 128, _⟩ ⟨d.val + 32, by omega⟩ (by simp only; omega)]
  · rw [if_neg h, dif_neg h, show ∀ p q : EReal, Scalar.select 0#1 p q = q from fun _ _ => rfl,
      kv ⟨(d.val + 128 - 32) % 128, _⟩ ⟨d.val - 32, by omega⟩ (by simp only; omega)]

/-- The turn of a head's lanes by a row of cosines and a row of signed sines. -/
def byTables (x cs sn : Fin 128 → EReal) (d : Fin 128) : EReal := x d * cs d + x (mate d) * sn d

/-- The heads of the queries turned, side by side. -/
def turnedQ (v : FVec Ideal S1024x1024 .f32) (cs sn : FVec Ideal S1024x128 .f32) : Vec Ideal S1x1024x1024 .bf16 := fun z =>
  byTables (fun e => v (ix2 (z 1) ⟨(z 2).val / 128 * 128 + e.val, by
      have h : (z 2).val < 1024 := (z 2).isLt
      omega⟩)) (fun e => cs (ix2 (z 1) e)) (fun e => sn (ix2 (z 1) e)) ⟨(z 2).val % 128, by omega⟩

/-- The heads of the keys turned, side by side. -/
def turnedK (v : FVec Ideal S1024x256 .f32) (cs sn : FVec Ideal S1024x128 .f32) : Vec Ideal S1x1024x256 .bf16 := fun z =>
  byTables (fun e => v (ix2 (z 1) ⟨(z 2).val / 128 * 128 + e.val, by
      have h : (z 2).val < 256 := (z 2).isLt
      omega⟩)) (fun e => cs (ix2 (z 1) e)) (fun e => sn (ix2 (z 1) e)) ⟨(z 2).val % 128, by omega⟩

/-- The 128 columns from column `o` of a block of 1024 columns. -/
theorem cutQ_at (v : FVec Ideal S1024x1024 .f32) {o : Nat} (hs : S1024x1024.Slices ![0, o] S1024x128) (r : Fin 1024)
    (e : Fin 128) (j : Fin 1024) (hj : j.val = o + e.val) : extractStridedSlice S1024x128 ![0, o] v hs (ix2 r e) = v (ix2 r j) := by
  have kv : ∀ d d' : Fin 1024, d.val = d'.val → v (ix2 r d) = v (ix2 r d') := fun d d' e => by rw [Fin.ext e]
  pointwise
  blk_ext

/-- The 128 columns from column `o` of a block of 256 columns. -/
theorem cutK_at (v : FVec Ideal S1024x256 .f32) {o : Nat} (hs : S1024x256.Slices ![0, o] S1024x128) (r : Fin 1024)
    (e : Fin 128) (j : Fin 256) (hj : j.val = o + e.val) : extractStridedSlice S1024x128 ![0, o] v hs (ix2 r e) = v (ix2 r j) := by
  pointwise
  blk_ext

/-- A turned head as it is stored. -/
theorem store_at (u cs sn : FVec Ideal S1024x128 .f32) (b : IVec S1024x128 1)
    (hb : ∀ r d, b (ix2 r d) = if d.val % 64 < 32 then 1#1 else 0#1) (y : S1x1024x128.Idx) :
    k0_pay31 (F := Ideal) (turn u cs sn b) y
      = byTables (fun e => u (ix2 (y 1) e)) (fun e => cs (ix2 (y 1) e)) (fun e => sn (ix2 (y 1) e)) (y 2) := by
  have e : ∀ w : FVec Ideal S1024x128 .f32, k0_pay31 (F := Ideal) w y = w (ix2 (y 1) (y 2)) := by
    intro w
    have l0 : (y 0).val < 1 := (y 0).isLt
    rw [(by blk_ext : y = ix3 0 (y 1) (y 2))]
    pointwise [k0_pay31]
  rw [e]
  exact turn_at u cs sn b hb (y 1) (y 2)

/-- The same turn, the lanes named otherwise. -/
theorem byTables_congr {x x' : Fin 128 → EReal} {cs sn : FVec Ideal S1024x128 .f32} {r r' : Fin 1024} {d d' : Fin 128}
    (hx : ∀ e, x e = x' e) (hr : r = r') (hd : d = d') :
    byTables x (fun e => cs (ix2 r e)) (fun e => sn (ix2 r e)) d
      = byTables x' (fun e => cs (ix2 r' e)) (fun e => sn (ix2 r' e)) d' := by
  rw [funext hx, hr, hd]

/-- A stored head of the queries is its part of them. -/
theorem headQ_at (v : FVec Ideal S1024x1024 .f32) (cs sn : FVec Ideal S1024x128 .f32) {o : Nat}
    {hs : S1024x1024.Slices ![0, o] S1024x128} (ho : o % 128 = 0 ∧ o < 1024) {y : S1x1024x128.Idx} {z : S1x1024x1024.Idx}
    (h1 : (z 1).val = (y 1).val) (h2 : (z 2).val = o + (y 2).val) :
    k0_pay31 (F := Ideal) (turn (extractStridedSlice S1024x128 ![0, o] v hs) cs sn
      (k0_pay12 (64#32) k0_pay9 k0_pay10 k0_pay11)) y = turnedQ v cs sn z := by
  have l2 : (y 2).val < 128 := (y 2).isLt
  have e1 : z 1 = y 1 := Fin.ext h1
  rw [store_at _ _ _ _ maskQ_at, turnedQ]
  refine byTables_congr (fun e => (cutQ_at v hs (y 1) e ⟨o + e.val, by omega⟩ rfl).trans ?_) e1.symm (Fin.ext ?_)
  · rw [e1]
    exact congrArg v (congrArg (ix2 (y 1)) (Fin.ext (by simp only; omega)))
  · simp only
    omega

/-- A stored head of the keys is its part of them. -/
theorem headK_at (v : FVec Ideal S1024x256 .f32) (cs sn : FVec Ideal S1024x128 .f32) {o : Nat}
    {hs : S1024x256.Slices ![0, o] S1024x128} (ho : o % 128 = 0 ∧ o < 256) {y : S1x1024x128.Idx} {z : S1x1024x256.Idx}
    (h1 : (z 1).val = (y 1).val) (h2 : (z 2).val = o + (y 2).val) :
    k0_pay31 (F := Ideal) (turn (extractStridedSlice S1024x128 ![0, o] v hs) cs sn k0_pay32) y = turnedK v cs sn z := by
  have l2 : (y 2).val < 128 := (y 2).isLt
  have e1 : z 1 = y 1 := Fin.ext h1
  rw [store_at _ _ _ _ maskK_at, turnedK]
  refine byTables_congr (fun e => (cutK_at v hs (y 1) e ⟨o + e.val, by omega⟩ rfl).trans ?_) e1.symm (Fin.ext ?_)
  · rw [e1]
    exact congrArg v (congrArg (ix2 (y 1)) (Fin.ext (by simp only; omega)))
  · simp only
    omega

/-- Columns kept head by head. -/
def byHead (f : EReal → EReal) (v : FVec Ideal S1024x1024 .f32) : Vec Ideal S1x8x1024x128 .bf16 := fun z =>
  f (v (ix2 (z 2) ⟨(z 1).val * 128 + (z 3).val, by
    have h1 : (z 1).val < 8 := (z 1).isLt
    have h3 : (z 3).val < 128 := (z 3).isLt
    omega⟩))

/-- 128 columns as they are stored. -/
theorem pay1_at (v : FVec Ideal S1024x128 .bf16) (y : S1x1x1024x128.Idx) :
    k0_pay1 (F := Ideal) v y = v (ix2 (y 2) (y 3)) := by
  have l0 : (y 0).val < 1 := (y 0).isLt
  have l1 : (y 1).val < 1 := (y 1).isLt
  rw [(by blk_ext : y = ix4 0 0 (y 2) (y 3))]
  pointwise [k0_pay1]

theorem headU_at (v : FVec Ideal S1024x1024 .f32) {o : Nat} {hs : S1024x1024.Slices ![0, o] S1024x128} (ho : o % 128 = 0)
    {y : S1x1x1024x128.Idx} {z : S1x8x1024x128.Idx} (h1 : (z 1).val = o / 128 + (y 1).val)
    (h2 : (z 2).val = (y 2).val) (h3 : (z 3).val = (y 3).val) :
    k0_pay1 (F := Ideal) (truncf .bf16 (extractStridedSlice S1024x128 ![0, o] v hs) bitsLt_bf16_f32) y = byHead id v z := by
  have l1 : (y 1).val < 1 := (y 1).isLt
  have l1' : (z 1).val < 8 := (z 1).isLt
  have l3 : (y 3).val < 128 := (y 3).isLt
  have e2 : z 2 = y 2 := Fin.ext h2
  rw [pay1_at, byHead, e2]
  exact cutQ_at v hs (y 2) (y 3) _ (by simp only; omega)

/-- The gate of 128 columns. -/
def gate (u : FVec Ideal S1024x128 .f32) : FVec Ideal S1024x128 .f32 :=
  mulf (mulf (broadcast S1024x128 (Scalar.ofBits .f32 0x3F000000#32)) u)
    (addf (broadcast S1024x128 (Scalar.ofBits .f32 0x3F800000#32))
      (tanh (mulf (broadcast S1024x128 (Scalar.ofBits .f32 0x3F4C422A#32))
        (addf u (mulf (broadcast S1024x128 (Scalar.ofBits .f32 0x3D372713#32)) (mulf (mulf u u) u))))))

theorem gate_at (u : FVec Ideal S1024x128 .f32) (r : Fin 1024) (d : Fin 128) : gate u (ix2 r d) = gateK (u (ix2 r d)) := rfl

theorem headG_at (v : FVec Ideal S1024x1024 .f32) {o : Nat} {hs : S1024x1024.Slices ![0, o] S1024x128} (ho : o % 128 = 0)
    {y : S1x1x1024x128.Idx} {z : S1x8x1024x128.Idx} (h1 : (z 1).val = o / 128 + (y 1).val)
    (h2 : (z 2).val = (y 2).val) (h3 : (z 3).val = (y 3).val) :
    k0_pay1 (F := Ideal) (truncf .bf16 (gate (extractStridedSlice S1024x128 ![0, o] v hs)) bitsLt_bf16_f32) y
      = byHead gateK v z := by
  have l1 : (y 1).val < 1 := (y 1).isLt
  have l1' : (z 1).val < 8 := (z 1).isLt
  have l3 : (y 3).val < 128 := (y 3).isLt
  have e2 : z 2 = y 2 := Fin.ext h2
  rw [pay1_at, byHead, e2]
  exact (gate_at _ (y 2) (y 3)).trans (congrArg gateK (cutQ_at v hs (y 2) (y 3) _ (by simp only; omega)))

variable (m : (ℓ : Loc nD τ sig) → Buf (Elt Ideal) ℓ)

/-- The scale row of a point. -/
abbrev scl (c : Dev nD) (t : Fin cfg0.N) : Vec Ideal S1x1x2048 .f32 :=
  View.ld (iblk m c 1 t) (Rect.unit (s := S1x8x2048) (k0_off1 (grid0.coords t)) S1x1x2048.size (k0_off1_inb _))

/-- The shift row of a point. -/
abbrev shf (c : Dev nD) (t : Fin cfg0.N) : Vec Ideal S1x1x2048 .f32 :=
  View.ld (iblk m c 2 t) (Rect.unit (s := S1x8x2048) (k0_off1 (grid0.coords t)) S1x1x2048.size (k0_off1_inb _))

/-- The modulated rows of a point. -/
abbrev rows (c : Dev nD) (t : Fin cfg0.N) : FVec Ideal S1024x2048 .bf16 :=
  k0_pay4 (F := Ideal) (iblk m c 0 t) (scl m c t) (shf m c t)

/-- The queries of a point before they are turned. -/
abbrev qs (c : Dev nD) (t : Fin cfg0.N) : FVec Ideal S1024x1024 .f32 :=
  k0_pay5 (F := Ideal) (iblk m c 0 t) (scl m c t) (shf m c t) (X0_7 m c t)

/-- The keys of a point before they are turned. -/
abbrev ks (c : Dev nD) (t : Fin cfg0.N) : FVec Ideal S1024x256 .f32 :=
  k0_pay6 (F := Ideal) (iblk m c 0 t) (scl m c t) (shf m c t) (iblk m c 8 t)

/-- The cosines of a point. -/
abbrev cosB (c : Dev nD) (t : Fin cfg0.N) : FVec Ideal S1024x128 .f32 := k0_pay7 (F := Ideal) (iblk m c 3 t)

/-- The signed sines of a point. -/
abbrev sinB (c : Dev nD) (t : Fin cfg0.N) : FVec Ideal S1024x128 .f32 := k0_pay8 (F := Ideal) (iblk m c 4 t)

set_option maxHeartbeats 600000 in
/-- The first output block. -/
theorem core10 (c : Dev nD) (t : Fin cfg0.N) :
    (outsAt0 m c t).1 = byHead id (k0_pay37 (F := Ideal) (rows m c t) (X0_5 m c t)) := by
  frame_out
  funext y
  canon_tiles y h
  all_goals exact headU_at (k0_pay37 (F := Ideal) (rows m c t) (X0_5 m c t)) (by decide) (by omega) h2 h3

set_option maxHeartbeats 600000 in
/-- The second output block. -/
theorem core11 (c : Dev nD) (t : Fin cfg0.N) :
    (outsAt0 m c t).2.1 = byHead gateK (k0_pay38 (F := Ideal) (rows m c t) (X0_6 m c t)) := by
  frame_out
  funext y
  canon_tiles y h
  rotate_left 2
  · exact headG_at (hs := slices_S1024x1024_o0_640_S1024x128) (k0_pay38 (F := Ideal) (rows m c t) (X0_6 m c t)) (by decide)
      (by omega) h2 h3
  rotate_left 4
  · exact headG_at (hs := slices_S1024x1024_o0_0_S1024x128) (k0_pay38 (F := Ideal) (rows m c t) (X0_6 m c t)) (by decide)
      (by omega) h2 h3
  all_goals exact headG_at (k0_pay38 (F := Ideal) (rows m c t) (X0_6 m c t)) (by decide) (by omega) h2 h3

set_option maxHeartbeats 600000 in
/-- The third output block. -/
theorem core12 (c : Dev nD) (t : Fin cfg0.N) :
    (outsAt0 m c t).2.2.1 = turnedQ (qs m c t) (cosB m c t) (sinB m c t) := by
  frame_out
  funext y
  canon_tiles y h
  all_goals first
    | exact headQ_at (qs m c t) (cosB m c t) (sinB m c t) (by decide) h1 (by omega)
    | exact headQ_at (hs := slices_S1024x1024_o0_640_S1024x128) (qs m c t) (cosB m c t) (sinB m c t) (by decide) h1 (by omega)

set_option maxHeartbeats 600000 in
/-- The fourth output block. -/
theorem core13 (c : Dev nD) (t : Fin cfg0.N) :
    (outsAt0 m c t).2.2.2.1 = turnedK (ks m c t) (cosB m c t) (sinB m c t) := by
  frame_out
  funext y
  canon_tiles y h
  · exact headK_at (hs := slices_S1024x256_o0_128_S1024x128) (ks m c t) (cosB m c t) (sinB m c t) (by decide) h1 h2
  · exact headK_at (hs := slices_S1024x256_o0_0_S1024x128) (ks m c t) (cosB m c t) (sinB m c t) (by decide) h1 (by omega)

set_option maxHeartbeats 600000 in
/-- The fifth output block. -/
theorem core14 (c : Dev nD) (t : Fin cfg0.N) :
    (outsAt0 m c t).2.2.2.2 = k0_pay3 (F := Ideal) (rows m c t) (iblk m c 9 t) := by
  frame_out
  rfl

end Cert.Kernel5Ideal.In

end
-- ==== Proof.In0.Array.lean ====
module

public import proofs.«01_k».proof.Proof.In0.Block
public import proofs.«01_k».proof.Proof.Gen.Kernel5Ideal.Value
public import Idealize.ShloMosaic.Lib.Claim

@[expose] public section

set_option maxRecDepth 16384

noncomputable section

/-! Where each input block of the first layer's input projection lies in its array, and its five output arrays, entry
by entry. -/

namespace Cert.Kernel5Ideal.In

open Cert.Kernel5Ideal Cert.Kernel5Ideal.Gen Cert.FfnSpec Cert.In0 Idealize.ShloMosaic Idealize.ShloMosaic.TcCoe
open Idealize.SL.Sem

variable (m : (ℓ : Loc nD τ sig) → Buf (Elt Ideal) ℓ)

/-- The index maps of the windows on the rows, the modulation and the results, and the row of the modulation a point
reads. -/
theorem idx : ∀ t : Fin cfg0.N, win0_0.index t = ![t.val / 4, t.val % 4, 0] ∧ win0_1.index t = ![0, 0, 1]
    ∧ win0_2.index t = ![0, 0, 0] ∧ win0_3.index t = ![t.val % 4, 0] ∧ win0_4.index t = ![t.val % 4, 0]
    ∧ win0_10.index t = ![t.val / 4, 0, t.val % 4, 0]
    ∧ win0_11.index t = ![t.val / 4, 0, t.val % 4, 0] ∧ win0_12.index t = ![t.val / 4, t.val % 4, 0]
    ∧ win0_13.index t = ![t.val / 4, t.val % 4, 0] ∧ win0_14.index t = ![t.val / 4, t.val % 4, 0]
    ∧ k0_off1 (grid0.coords t) = ![0, t.val / 4, 0] :=
  (by decide +kernel : ∀ t : Fin grid0.N, _)

/-- The index maps of the windows on the weight. -/
theorem idw : ∀ t : Fin cfg0.N, win0_5.index t = ![0, 0] ∧ win0_6.index t = ![0, 1] ∧ win0_7.index t = ![0, 2]
    ∧ win0_8.index t = ![0, 12] ∧ win0_9.index t = ![0, 13] :=
  (by decide +kernel : ∀ t : Fin grid0.N, _)

/-- The input rows. -/
theorem read0 (c : Dev nD) (t : Fin cfg0.N) (b : Fin 4) (n : Fin 4096) (r : Fin 1024) (d : Fin 2048)
    (hb : b.val = t.val / 4) (hn : n.val = t.val % 4 * 1024 + r.val) :
    iblk m c 0 t (ix3 0 r d) = m ((c : Thread nD τ).loc main_arg0) (ix3 b n d) := by
  blk_ext [iblk, V, idx t]

/-- The scale row. -/
theorem read1 (c : Dev nD) (t : Fin cfg0.N) (b : Fin 4) (k : Fin 2048) (hb : b.val = t.val / 4) :
    scl m c t (ix3 0 0 k) = m ((c : Thread nD τ).loc main_arg1) (ix3 0 ⟨b.val, by omega⟩ ⟨2048 + k.val, by omega⟩) := by
  unfold scl
  pointwise [idx t]
  blk_ext [iblk, V, idx t]

/-- The shift row. -/
theorem read2 (c : Dev nD) (t : Fin cfg0.N) (b : Fin 4) (k : Fin 2048) (hb : b.val = t.val / 4) :
    shf m c t (ix3 0 0 k) = m ((c : Thread nD τ).loc main_arg1) (ix3 0 ⟨b.val, by omega⟩ ⟨k.val, by omega⟩) := by
  unfold shf
  pointwise [idx t]
  blk_ext [iblk, V, idx t]

/-- The columns of the weight that give the first output. -/
theorem read5 (c : Dev nD) (t : Fin cfg0.N) (k : Fin 2048) (d : Fin 1024) :
    X0_5 m c t (ix2 k d) = m ((c : Thread nD τ).loc main_arg2) (ix2 k ⟨d.val, by omega⟩) := by
  unfold X0_5 Pipeline.Window.fill
  rw [dif_pos (moved0_5 t _)]
  blk_ext [iblk, V, idw t]

theorem read6 (c : Dev nD) (t : Fin cfg0.N) (k : Fin 2048) (d : Fin 1024) :
    X0_6 m c t (ix2 k d) = m ((c : Thread nD τ).loc main_arg2) (ix2 k ⟨1024 + d.val, by omega⟩) := by
  unfold X0_6 Pipeline.Window.fill
  rw [dif_pos (moved0_6 t _)]
  blk_ext [iblk, V, idw t]

theorem read7 (c : Dev nD) (t : Fin cfg0.N) (k : Fin 2048) (d : Fin 1024) :
    X0_7 m c t (ix2 k d) = m ((c : Thread nD τ).loc main_arg2) (ix2 k ⟨2048 + d.val, by omega⟩) := by
  unfold X0_7 Pipeline.Window.fill
  rw [dif_pos (moved0_7 t _)]
  blk_ext [iblk, V, idw t]

theorem read8 (c : Dev nD) (t : Fin cfg0.N) (k : Fin 2048) (d : Fin 256) :
    iblk m c 8 t (ix2 k d) = m ((c : Thread nD τ).loc main_arg2) (ix2 k ⟨3072 + d.val, by omega⟩) := by
  blk_ext [iblk, V, idw t]

theorem read9 (c : Dev nD) (t : Fin cfg0.N) (k : Fin 2048) (d : Fin 256) :
    iblk m c 9 t (ix2 k d) = m ((c : Thread nD τ).loc main_arg2) (ix2 k ⟨3328 + d.val, by omega⟩) := by
  blk_ext [iblk, V, idw t]

/-- A table of 32 angles, a row of it. -/
abbrev ang (x : Vec Ideal S4096x32 .f32) (n : Fin 4096) (i : Fin 32) : EReal := x (ix2 n i)

/-- Four tables side by side. -/
theorem quad_at (p q u v : Vec Ideal S4096x32 .f32) (n : Fin 4096) (d : Fin 128) :
    (concatenate S4096x128 1 [⟨S4096x32, p⟩, ⟨S4096x32, q⟩, ⟨S4096x32, u⟩, ⟨S4096x32, v⟩]
      concatenates_S4096x32_S4096x32_S4096x32_S4096x32_S4096x128_d1 : Vec Ideal S4096x128 .f32) (ix2 n d)
      = quad (ang p n) (ang q n) (ang u n) (ang v n) d := by
  have kx : ∀ (x : Vec Ideal S4096x32 .f32) (i i' : Fin 32), i.val = i'.val → x (ix2 n i) = x (ix2 n i') :=
    fun x i i' e => by rw [Fin.ext e]
  pointwise [quad]
  repeat' split
  all_goals first | omega | refine kx _ _ _ ?_ <;> first | omega | (simp only; omega)

/-- The cosines of a point. -/
theorem cos_at (c : Dev nD) (t : Fin cfg0.N) (n : Fin 4096) (r : Fin 1024) (d : Fin 128)
    (hn : n.val = t.val % 4 * 1024 + r.val) :
    cosB m c t (ix2 r d) = quad (ang (m ((c : Thread nD τ).loc main_arg3)) n) (ang (m ((c : Thread nD τ).loc main_arg3)) n)
      (ang (m ((c : Thread nD τ).loc main_arg5)) n) (ang (m ((c : Thread nD τ).loc main_arg5)) n) d := by
  pointwise [k0_pay7]
  blk_simp [iblk]
  entry_read
  refine (congrArg _ (show _ = ix2 n d by blk_ext [idx t])).trans ?_
  exact quad_at _ _ _ _ n d

/-- A table with its sign changed. -/
abbrev neg (x : FVec Ideal S4096x32 .f32) : FVec Ideal S4096x32 .f32 := Host.negf x

theorem side_congr {p p' q q' u u' v v' : Vec Ideal S4096x32 .f32} (hp : p = p') (hq : q = q') (hu : u = u') (hv : v = v') :
    (concatenate S4096x128 1 [⟨S4096x32, p⟩, ⟨S4096x32, q⟩, ⟨S4096x32, u⟩, ⟨S4096x32, v⟩]
      concatenates_S4096x32_S4096x32_S4096x32_S4096x32_S4096x128_d1 : Vec Ideal S4096x128 .f32)
      = concatenate S4096x128 1 [⟨S4096x32, p'⟩, ⟨S4096x32, q'⟩, ⟨S4096x32, u'⟩, ⟨S4096x32, v'⟩]
        concatenates_S4096x32_S4096x32_S4096x32_S4096x32_S4096x128_d1 := by
  rw [hp, hq, hu, hv]

set_option maxHeartbeats 2000000 in
/-- The table of signed sines. -/
theorem sinV (c : Dev nD) : (V m c main_v3 : Vec Ideal S4096x128 .f32)
    = concatenate S4096x128 1 [⟨S4096x32, neg (m ((c : Thread nD τ).loc main_arg4))⟩,
      ⟨S4096x32, (m ((c : Thread nD τ).loc main_arg4) : Vec Ideal S4096x32 .f32)⟩,
      ⟨S4096x32, neg (m ((c : Thread nD τ).loc main_arg6))⟩,
      ⟨S4096x32, (m ((c : Thread nD τ).loc main_arg6) : Vec Ideal S4096x32 .f32)⟩]
      concatenates_S4096x32_S4096x32_S4096x32_S4096x32_S4096x128_d1 := by
  unfold_abbrev_sides
  after_results
  refine side_congr ?_ ?_ ?_ ?_
  · exact (StableHlo.unary_result_ne (h := by decide) ..).trans ((StableHlo.unary_result' ..).trans
      (congrArg neg (StableHlo.nary_result_ne (h := by decide) ..)))
  · exact (StableHlo.unary_result_ne (h := by decide) ..).trans ((StableHlo.unary_result_ne (h := by decide) ..).trans
      (StableHlo.nary_result_ne (h := by decide) ..))
  · exact (StableHlo.unary_result' ..).trans (congrArg neg ((StableHlo.unary_result_ne (h := by decide) ..).trans
      (StableHlo.nary_result_ne (h := by decide) ..)))
  · exact (StableHlo.unary_result_ne (h := by decide) ..).trans ((StableHlo.unary_result_ne (h := by decide) ..).trans
      (StableHlo.nary_result_ne (h := by decide) ..))

/-- The signed sines of a point. -/
theorem sin_at (c : Dev nD) (t : Fin cfg0.N) (n : Fin 4096) (r : Fin 1024) (d : Fin 128)
    (hn : n.val = t.val % 4 * 1024 + r.val) :
    sinB m c t (ix2 r d) = quad (fun i => -ang (m ((c : Thread nD τ).loc main_arg4)) n i)
      (ang (m ((c : Thread nD τ).loc main_arg4)) n) (fun i => -ang (m ((c : Thread nD τ).loc main_arg6)) n i)
      (ang (m ((c : Thread nD τ).loc main_arg6)) n) d := by
  pointwise [k0_pay8]
  exact (congrArg (V m c main_v3 : Vec Ideal S4096x128 .f32) (show _ = ix2 n d by blk_ext [idx t])).trans
    ((congrFun (sinV m c) (ix2 n d)).trans (quad_at _ _ _ _ n d))

/-- Entry `(b, n, j)` of the projection of the modulated rows. -/
def proj (c : Dev nD) (b : Fin 4) (n : Fin 4096) (j : Fin 3584) : EReal :=
  ∑ k : Fin 2048, modulated (m ((c : Thread nD τ).loc main_arg0) (ix3 b n k))
      (m ((c : Thread nD τ).loc main_arg1) (ix3 0 ⟨b.val, by omega⟩ ⟨2048 + k.val, by omega⟩))
      (m ((c : Thread nD τ).loc main_arg1) (ix3 0 ⟨b.val, by omega⟩ ⟨k.val, by omega⟩))
    * m ((c : Thread nD τ).loc main_arg2) (ix2 k j)

theorem proj_congr (c : Dev nD) {b b' : Fin 4} {n n' : Fin 4096} {j j' : Fin 3584} (hb : b.val = b'.val)
    (hn : n.val = n'.val) (hj : j.val = j'.val) : proj m c b n j = proj m c b' n' j' := by
  rw [Fin.ext hb, Fin.ext hn, Fin.ext hj]

/-- Lane `d` of the head whose columns of the projection begin at `o`, turned by the angles of row `n`. -/
def roped (c : Dev nD) (b : Fin 4) (n : Fin 4096) (o : Nat) (ho : o + 128 ≤ 3584) (d : Fin 128) : EReal :=
  turned (fun e => proj m c b n ⟨o + e.val, by omega⟩) (ang (m ((c : Thread nD τ).loc main_arg3)) n)
    (ang (m ((c : Thread nD τ).loc main_arg4)) n) (ang (m ((c : Thread nD τ).loc main_arg5)) n)
    (ang (m ((c : Thread nD τ).loc main_arg6)) n) d

theorem roped_congr (c : Dev nD) {b b' : Fin 4} {n n' : Fin 4096} {o o' : Nat} {ho ho'} {d d' : Fin 128}
    (hb : b.val = b'.val) (hn : n.val = n'.val) (h : o = o') (hd : d.val = d'.val) :
    roped m c b n o ho d = roped m c b' n' o' ho' d' := by
  subst h
  rw [Fin.ext hb, Fin.ext hn, Fin.ext hd]

/-- A row of a point's modulated rows. -/
theorem rows_at (c : Dev nD) (t : Fin cfg0.N) (b : Fin 4) (n : Fin 4096) (r : Fin 1024) (k : Fin 2048)
    (hb : b.val = t.val / 4) (hn : n.val = t.val % 4 * 1024 + r.val) :
    rows m c t (ix2 r k) = modulated (m ((c : Thread nD τ).loc main_arg0) (ix3 b n k))
      (m ((c : Thread nD τ).loc main_arg1) (ix3 0 ⟨b.val, by omega⟩ ⟨2048 + k.val, by omega⟩))
      (m ((c : Thread nD τ).loc main_arg1) (ix3 0 ⟨b.val, by omega⟩ ⟨k.val, by omega⟩)) :=
  (pay4_at _ _ _ r k).trans (congr (congr (congrArg modulated (read0 m c t b n r k hb hn)) (read1 m c t b k hb))
    (read2 m c t b k hb))

/-- A row of a point's rows against a column of the weight. -/
theorem dot_at (c : Dev nD) (t : Fin cfg0.N) (b : Fin 4) (n : Fin 4096) (r : Fin 1024) (j : Fin 3584)
    (w : Fin 2048 → EReal) (hb : b.val = t.val / 4) (hn : n.val = t.val % 4 * 1024 + r.val)
    (hw : ∀ k, w k = m ((c : Thread nD τ).loc main_arg2) (ix2 k j)) :
    ∑ k, rows m c t (ix2 r k) * w k = proj m c b n j :=
  Finset.sum_congr rfl fun k _ => congr (congrArg HMul.hMul (rows_at m c t b n r k hb hn)) (hw k)

/-- A turned head of a point. -/
theorem rope_at (c : Dev nD) (t : Fin cfg0.N) (n : Fin 4096) (r : Fin 1024) (x : Fin 128 → EReal) (d : Fin 128)
    (hn : n.val = t.val % 4 * 1024 + r.val) :
    byTables x (fun e => cosB m c t (ix2 r e)) (fun e => sinB m c t (ix2 r e)) d
      = turned x (ang (m ((c : Thread nD τ).loc main_arg3)) n) (ang (m ((c : Thread nD τ).loc main_arg4)) n)
        (ang (m ((c : Thread nD τ).loc main_arg5)) n) (ang (m ((c : Thread nD τ).loc main_arg6)) n) d := by
  unfold byTables
  beta_reduce
  rw [cos_at m c t n r d hn, sin_at m c t n r d hn]
  exact turn_tables x _ _ _ _ d

/-- The queries before they are turned. -/
theorem qs_at (c : Dev nD) (t : Fin cfg0.N) (b : Fin 4) (n : Fin 4096) (r : Fin 1024) (d : Fin 1024)
    (hb : b.val = t.val / 4) (hn : n.val = t.val % 4 * 1024 + r.val) :
    qs m c t (ix2 r d) = proj m c b n ⟨2048 + d.val, by omega⟩ * (qscale : EReal) :=
  (pay5_at _ _ _ _ r d).trans (congrArg (· * (qscale : EReal)) (dot_at m c t b n r _ _ hb hn fun k => read7 m c t k d))

/-- The keys before they are turned. -/
theorem ks_at (c : Dev nD) (t : Fin cfg0.N) (b : Fin 4) (n : Fin 4096) (r : Fin 1024) (d : Fin 256)
    (hb : b.val = t.val / 4) (hn : n.val = t.val % 4 * 1024 + r.val) :
    ks m c t (ix2 r d) = proj m c b n ⟨3072 + d.val, by omega⟩ :=
  (pay6_at _ _ _ _ r d).trans (dot_at m c t b n r _ _ hb hn fun k => read8 m c t k d)

/-- The first output array after the run. -/
theorem final10 (c : Dev nD) : (dats m 0 c).arrAt 10 cfg0.N
    = fun i => proj m c (i 0) (i 2) ⟨(i 1).val * 128 + (i 3).val, by
        have h1 : (i 1).val < 8 := (i 1).isLt
        have h3 : (i 3).val < 128 := (i 3).isLt
        omega⟩ := by
  refine (dats m 0 c).arrAt_eq_of_covers 10 _ (by decide +kernel) fun t hf y => ?_
  blk_simp
  rw [after0_10, core10]
  have hN : t.val < 16 := t.isLt
  have key : ∀ z : S1x8x1024x128.Idx, byHead id (k0_pay37 (F := Ideal) (rows m c t) (X0_5 m c t)) z
      = proj m c ⟨t.val / 4, by omega⟩ ⟨t.val % 4 * 1024 + (z 2).val, by
        have h : (z 2).val < 1024 := (z 2).isLt; omega⟩ ⟨(z 1).val * 128 + (z 3).val, by
        have h1 : (z 1).val < 8 := (z 1).isLt
        have h3 : (z 3).val < 128 := (z 3).isLt
        omega⟩ := fun z =>
    (pay37_at _ _ _ _).trans (dot_at m c t _ _ _ _ _ rfl rfl fun k => read5 m c t k _)
  refine (key y).trans (proj_congr m c ?_ ?_ ?_) <;> blk_simp [idx t]

/-- The second output array after the run. -/
theorem final11 (c : Dev nD) : (dats m 0 c).arrAt 11 cfg0.N
    = fun i => gateK (proj m c (i 0) (i 2) ⟨1024 + ((i 1).val * 128 + (i 3).val), by
        have h1 : (i 1).val < 8 := (i 1).isLt
        have h3 : (i 3).val < 128 := (i 3).isLt
        omega⟩) := by
  refine (dats m 0 c).arrAt_eq_of_covers 11 _ (by decide +kernel) fun t hf y => ?_
  blk_simp
  rw [after0_11, core11]
  have hN : t.val < 16 := t.isLt
  have key : ∀ z : S1x8x1024x128.Idx, byHead gateK (k0_pay38 (F := Ideal) (rows m c t) (X0_6 m c t)) z
      = gateK (proj m c ⟨t.val / 4, by omega⟩ ⟨t.val % 4 * 1024 + (z 2).val, by
        have h : (z 2).val < 1024 := (z 2).isLt; omega⟩ ⟨1024 + ((z 1).val * 128 + (z 3).val), by
        have h1 : (z 1).val < 8 := (z 1).isLt
        have h3 : (z 3).val < 128 := (z 3).isLt
        omega⟩) := fun z =>
    congrArg gateK ((pay38_at _ _ _ _).trans (dot_at m c t _ _ _ _ _ rfl rfl fun k => read6 m c t k _))
  refine (key y).trans (congrArg gateK (proj_congr m c ?_ ?_ ?_)) <;> blk_simp [idx t]

/-- The third output array after the run. -/
theorem final12 (c : Dev nD) : (dats m 0 c).arrAt 12 cfg0.N
    = fun i => roped m c (i 0) (i 1) (2048 + (i 2).val / 128 * 128) (by
        have h : (i 2).val < 1024 := (i 2).isLt
        omega) ⟨(i 2).val % 128, by omega⟩ * (qscale : EReal) := by
  refine (dats m 0 c).arrAt_eq_of_covers 12 _ (by decide +kernel) fun t hf y => ?_
  blk_simp
  rw [after0_12, core12]
  have hN : t.val < 16 := t.isLt
  have key : ∀ z : S1x1024x1024.Idx, turnedQ (qs m c t) (cosB m c t) (sinB m c t) z
      = roped m c ⟨t.val / 4, by omega⟩ ⟨t.val % 4 * 1024 + (z 1).val, by
        have h : (z 1).val < 1024 := (z 1).isLt; omega⟩ (2048 + (z 2).val / 128 * 128) (by
        have h : (z 2).val < 1024 := (z 2).isLt
        omega) ⟨(z 2).val % 128, by omega⟩ * (qscale : EReal) := by
    intro z
    have h1 : (z 1).val < 1024 := (z 1).isLt
    have h2 : (z 2).val < 1024 := (z 2).isLt
    refine (rope_at m c t ⟨t.val % 4 * 1024 + (z 1).val, by omega⟩ (z 1) _ _ rfl).trans
      (Eq.trans ?_ (turned_mul _ _ _ _ _ qscale qscale_nonneg _))
    refine congrArg (fun x => turned x _ _ _ _ _) (funext fun e => ?_)
    refine (qs_at m c t ⟨t.val / 4, by omega⟩ ⟨t.val % 4 * 1024 + (z 1).val, by omega⟩ (z 1) _ rfl rfl).trans ?_
    exact congrArg (· * (qscale : EReal)) (proj_congr m c rfl rfl (by simp only; omega))
  refine (key y).trans (congrArg (· * (qscale : EReal)) (roped_congr m c ?_ ?_ ?_ ?_)) <;> blk_simp [idx t]

/-- The fourth output array after the run. -/
theorem final13 (c : Dev nD) : (dats m 0 c).arrAt 13 cfg0.N
    = fun i => roped m c (i 0) (i 1) (3072 + (i 2).val / 128 * 128) (by
        have h : (i 2).val < 256 := (i 2).isLt
        omega) ⟨(i 2).val % 128, by omega⟩ := by
  refine (dats m 0 c).arrAt_eq_of_covers 13 _ (by decide +kernel) fun t hf y => ?_
  blk_simp
  rw [after0_13, core13]
  have hN : t.val < 16 := t.isLt
  have key : ∀ z : S1x1024x256.Idx, turnedK (ks m c t) (cosB m c t) (sinB m c t) z
      = roped m c ⟨t.val / 4, by omega⟩ ⟨t.val % 4 * 1024 + (z 1).val, by
        have h : (z 1).val < 1024 := (z 1).isLt; omega⟩ (3072 + (z 2).val / 128 * 128) (by
        have h : (z 2).val < 256 := (z 2).isLt
        omega) ⟨(z 2).val % 128, by omega⟩ := by
    intro z
    have h1 : (z 1).val < 1024 := (z 1).isLt
    have h2 : (z 2).val < 256 := (z 2).isLt
    refine (rope_at m c t ⟨t.val % 4 * 1024 + (z 1).val, by omega⟩ (z 1) _ _ rfl).trans ?_
    refine congrArg (fun x => turned x _ _ _ _ _) (funext fun e => ?_)
    refine (ks_at m c t ⟨t.val / 4, by omega⟩ ⟨t.val % 4 * 1024 + (z 1).val, by omega⟩ (z 1) _ rfl rfl).trans ?_
    exact proj_congr m c rfl rfl (by simp only; omega)
  refine (key y).trans (roped_congr m c ?_ ?_ ?_ ?_) <;> blk_simp [idx t]

/-- The fifth output array after the run. -/
theorem final14 (c : Dev nD) : (dats m 0 c).arrAt 14 cfg0.N
    = fun i => proj m c (i 0) (i 1) ⟨3328 + (i 2).val, by have h : (i 2).val < 256 := (i 2).isLt; omega⟩ := by
  refine (dats m 0 c).arrAt_eq_of_covers 14 _ (by decide +kernel) fun t hf y => ?_
  blk_simp
  rw [after0_14, core14]
  have hN : t.val < 16 := t.isLt
  have key : ∀ z : S1x1024x256.Idx, k0_pay3 (F := Ideal) (rows m c t) (iblk m c 9 t) z
      = proj m c ⟨t.val / 4, by omega⟩ ⟨t.val % 4 * 1024 + (z 1).val, by
        have h : (z 1).val < 1024 := (z 1).isLt; omega⟩ ⟨3328 + (z 2).val, by
        have h : (z 2).val < 256 := (z 2).isLt; omega⟩ := by
    intro z
    refine (congrArg _ (by blk_ext : z = ix3 0 (z 1) (z 2))).trans ((pay3_at _ _ (z 1) (z 2)).trans ?_)
    exact dot_at m c t _ _ (z 1) _ _ rfl rfl fun k => read9 m c t k _
  refine (key y).trans (proj_congr m c ?_ ?_ ?_) <;> blk_simp [idx t]

end Cert.Kernel5Ideal.In

end
-- ==== Proof.In0.RefTurn.lean ====
module

public import proofs.«01_k».proof.Proof.Gen.Reference5Ideal.Read
public import proofs.«01_k».proof.Proof.In0.Turn

@[expose] public section

set_option maxRecDepth 16384

noncomputable section

/-! The rotation of the queries and keys in the first layer's reference, entry by entry. -/

namespace Cert.Reference5Ideal.In

open Cert.Reference5Ideal Cert.Reference5Ideal.Gen Cert.Reference5Ideal.Read Cert.FfnSpec Cert.In0 Idealize.ShloMosaic Idealize.ShloMosaic.TcCoe
open Idealize.SL.Sem

variable (x0 : (⟨S4x4096x2048, .f32⟩ : BufTy).Contents (Elt Ideal)) (x1 : (⟨S1x8x12288, .f32⟩ : BufTy).Contents (Elt Ideal))
  (x2 : (⟨S2048x3584, .bf16⟩ : BufTy).Contents (Elt Ideal)) (x3 x4 x5 x6 : (⟨S4096x32, .f32⟩ : BufTy).Contents (Elt Ideal))

/-- A row of a table of 32 angles. -/
abbrev ang (x : (⟨S4096x32, .f32⟩ : BufTy).Contents (Elt Ideal)) (n : Fin 4096) (i : Fin 32) : EReal := x (ix2 n i)

/-- The first quarter of a turned head of the queries. -/
theorem q1 (b : Fin 4) (n : Fin 4096) (h : Fin 8) (i : Fin 32) :
    val_main_v33 (F := Ideal) x0 x1 x2 x3 x4 (ix4 b n h i)
      = val_main_v22 (F := Ideal) x0 x1 x2 (ix4 b n h ⟨i.val, by omega⟩) * ang x3 n i
        - val_main_v22 (F := Ideal) x0 x1 x2 (ix4 b n h ⟨32 + i.val, by omega⟩) * ang x4 n i := by
  have kv : ∀ d d' : Fin 128, d.val = d'.val → val_main_v22 (F := Ideal) x0 x1 x2 (ix4 b n h d)
      = val_main_v22 (F := Ideal) x0 x1 x2 (ix4 b n h d') := fun d d' e => by rw [Fin.ext e]
  pointwise [val_main_v33, val_main_v32, val_main_v31, val_main_v30, val_main_v29, val_main_v28, val_main_v27, val_main_v26, val_main_v25, val_main_v23]

/-- The second quarter. -/
theorem q2 (b : Fin 4) (n : Fin 4096) (h : Fin 8) (i : Fin 32) :
    val_main_v38 (F := Ideal) x0 x1 x2 x3 x4 (ix4 b n h i)
      = val_main_v22 (F := Ideal) x0 x1 x2 (ix4 b n h ⟨32 + i.val, by omega⟩) * ang x3 n i
        + val_main_v22 (F := Ideal) x0 x1 x2 (ix4 b n h ⟨i.val, by omega⟩) * ang x4 n i := by
  have kv : ∀ d d' : Fin 128, d.val = d'.val → val_main_v22 (F := Ideal) x0 x1 x2 (ix4 b n h d)
      = val_main_v22 (F := Ideal) x0 x1 x2 (ix4 b n h d') := fun d d' e => by rw [Fin.ext e]
  pointwise [val_main_v38, val_main_v37, val_main_v36, val_main_v35, val_main_v34, val_main_v28, val_main_v27, val_main_v26, val_main_v25, val_main_v23]

/-- The third quarter. -/
theorem q3 (b : Fin 4) (n : Fin 4096) (h : Fin 8) (i : Fin 32) :
    val_main_v48 (F := Ideal) x0 x1 x2 x5 x6 (ix4 b n h i)
      = val_main_v22 (F := Ideal) x0 x1 x2 (ix4 b n h ⟨64 + i.val, by omega⟩) * ang x5 n i
        - val_main_v22 (F := Ideal) x0 x1 x2 (ix4 b n h ⟨96 + i.val, by omega⟩) * ang x6 n i := by
  have kv : ∀ d d' : Fin 128, d.val = d'.val → val_main_v22 (F := Ideal) x0 x1 x2 (ix4 b n h d)
      = val_main_v22 (F := Ideal) x0 x1 x2 (ix4 b n h d') := fun d d' e => by rw [Fin.ext e]
  pointwise [val_main_v48, val_main_v47, val_main_v46, val_main_v45, val_main_v44, val_main_v43, val_main_v42, val_main_v41, val_main_v40, val_main_v24]
  rw [kv ⟨64 + (32 + i.val), _⟩ ⟨96 + i.val, by omega⟩ (by simp only; omega)]

/-- The fourth quarter. -/
theorem q4 (b : Fin 4) (n : Fin 4096) (h : Fin 8) (i : Fin 32) :
    val_main_v53 (F := Ideal) x0 x1 x2 x5 x6 (ix4 b n h i)
      = val_main_v22 (F := Ideal) x0 x1 x2 (ix4 b n h ⟨96 + i.val, by omega⟩) * ang x5 n i
        + val_main_v22 (F := Ideal) x0 x1 x2 (ix4 b n h ⟨64 + i.val, by omega⟩) * ang x6 n i := by
  have kv : ∀ d d' : Fin 128, d.val = d'.val → val_main_v22 (F := Ideal) x0 x1 x2 (ix4 b n h d)
      = val_main_v22 (F := Ideal) x0 x1 x2 (ix4 b n h d') := fun d d' e => by rw [Fin.ext e]
  pointwise [val_main_v53, val_main_v52, val_main_v51, val_main_v50, val_main_v49, val_main_v43, val_main_v42, val_main_v41, val_main_v40, val_main_v24]
  rw [kv ⟨64 + (32 + i.val), _⟩ ⟨96 + i.val, by omega⟩ (by simp only; omega)]

/-- Four blocks of 32 lanes side by side, in two steps. -/
theorem qhalves (p q u v : (⟨S4x4096x8x32, .f32⟩ : BufTy).Contents (Elt Ideal)) (b : Fin 4) (n : Fin 4096) (h : Fin 8)
    (d : Fin 128) :
    (concatenate S4x4096x8x128 3 [⟨S4x4096x8x64, concatenate S4x4096x8x64 3 [⟨S4x4096x8x32, p⟩, ⟨S4x4096x8x32, q⟩]
        concatenates_S4x4096x8x32_S4x4096x8x32_S4x4096x8x64_d3⟩,
      ⟨S4x4096x8x64, concatenate S4x4096x8x64 3 [⟨S4x4096x8x32, u⟩, ⟨S4x4096x8x32, v⟩]
        concatenates_S4x4096x8x32_S4x4096x8x32_S4x4096x8x64_d3⟩]
      concatenates_S4x4096x8x64_S4x4096x8x64_S4x4096x8x128_d3
      : (⟨S4x4096x8x128, .f32⟩ : BufTy).Contents (Elt Ideal)) (ix4 b n h d)
      = quad (fun i => p (ix4 b n h i)) (fun i => q (ix4 b n h i)) (fun i => u (ix4 b n h i)) (fun i => v (ix4 b n h i)) d := by
  have kv : ∀ i i' : Fin 32, i.val = i'.val → v (ix4 b n h i) = v (ix4 b n h i') := fun i i' e => by rw [Fin.ext e]
  pointwise [quad]
  repeat' split
  all_goals first | omega | rfl | exact kv _ _ (by simp only; omega)

/-- A turned head of the queries. -/
theorem qturn (b : Fin 4) (n : Fin 4096) (h : Fin 8) (d : Fin 128) :
    val_main_v55 (F := Ideal) x0 x1 x2 x3 x4 x5 x6 (ix4 b n h d)
      = turned (fun e => val_main_v22 (F := Ideal) x0 x1 x2 (ix4 b n h e)) (ang x3 n) (ang x4 n) (ang x5 n) (ang x6 n) d := by
  have e : val_main_v55 (F := Ideal) x0 x1 x2 x3 x4 x5 x6 (ix4 b n h d)
      = quad (fun i => val_main_v33 (F := Ideal) x0 x1 x2 x3 x4 (ix4 b n h i))
        (fun i => val_main_v38 (F := Ideal) x0 x1 x2 x3 x4 (ix4 b n h i))
        (fun i => val_main_v48 (F := Ideal) x0 x1 x2 x5 x6 (ix4 b n h i))
        (fun i => val_main_v53 (F := Ideal) x0 x1 x2 x5 x6 (ix4 b n h i)) d := by
    unfold val_main_v55 val_main_v54 val_main_v39
    exact qhalves _ _ _ _ b n h d
  rw [e]
  unfold turned
  simp only [q1, q2, q3, q4]

/-- The first quarter of a turned head of the keys. -/
theorem k1 (b : Fin 4) (n : Fin 4096) (h : Fin 2) (i : Fin 32) :
    val_main_v68 (F := Ideal) x0 x1 x2 x3 x4 (ix4 b n h i)
      = val_main_v57 (F := Ideal) x0 x1 x2 (ix4 b n h ⟨i.val, by omega⟩) * ang x3 n i
        - val_main_v57 (F := Ideal) x0 x1 x2 (ix4 b n h ⟨32 + i.val, by omega⟩) * ang x4 n i := by
  have kv : ∀ d d' : Fin 128, d.val = d'.val → val_main_v57 (F := Ideal) x0 x1 x2 (ix4 b n h d)
      = val_main_v57 (F := Ideal) x0 x1 x2 (ix4 b n h d') := fun d d' e => by rw [Fin.ext e]
  pointwise [val_main_v68, val_main_v67, val_main_v66, val_main_v65, val_main_v64, val_main_v63, val_main_v62, val_main_v61, val_main_v60, val_main_v58]

/-- The second quarter. -/
theorem k2 (b : Fin 4) (n : Fin 4096) (h : Fin 2) (i : Fin 32) :
    val_main_v73 (F := Ideal) x0 x1 x2 x3 x4 (ix4 b n h i)
      = val_main_v57 (F := Ideal) x0 x1 x2 (ix4 b n h ⟨32 + i.val, by omega⟩) * ang x3 n i
        + val_main_v57 (F := Ideal) x0 x1 x2 (ix4 b n h ⟨i.val, by omega⟩) * ang x4 n i := by
  have kv : ∀ d d' : Fin 128, d.val = d'.val → val_main_v57 (F := Ideal) x0 x1 x2 (ix4 b n h d)
      = val_main_v57 (F := Ideal) x0 x1 x2 (ix4 b n h d') := fun d d' e => by rw [Fin.ext e]
  pointwise [val_main_v73, val_main_v72, val_main_v71, val_main_v70, val_main_v69, val_main_v63, val_main_v62, val_main_v61, val_main_v60, val_main_v58]

/-- The third quarter. -/
theorem k3 (b : Fin 4) (n : Fin 4096) (h : Fin 2) (i : Fin 32) :
    val_main_v83 (F := Ideal) x0 x1 x2 x5 x6 (ix4 b n h i)
      = val_main_v57 (F := Ideal) x0 x1 x2 (ix4 b n h ⟨64 + i.val, by omega⟩) * ang x5 n i
        - val_main_v57 (F := Ideal) x0 x1 x2 (ix4 b n h ⟨96 + i.val, by omega⟩) * ang x6 n i := by
  have kv : ∀ d d' : Fin 128, d.val = d'.val → val_main_v57 (F := Ideal) x0 x1 x2 (ix4 b n h d)
      = val_main_v57 (F := Ideal) x0 x1 x2 (ix4 b n h d') := fun d d' e => by rw [Fin.ext e]
  pointwise [val_main_v83, val_main_v82, val_main_v81, val_main_v80, val_main_v79, val_main_v78, val_main_v77, val_main_v76, val_main_v75, val_main_v59]
  rw [kv ⟨64 + (32 + i.val), _⟩ ⟨96 + i.val, by omega⟩ (by simp only; omega)]

/-- The fourth quarter. -/
theorem k4 (b : Fin 4) (n : Fin 4096) (h : Fin 2) (i : Fin 32) :
    val_main_v88 (F := Ideal) x0 x1 x2 x5 x6 (ix4 b n h i)
      = val_main_v57 (F := Ideal) x0 x1 x2 (ix4 b n h ⟨96 + i.val, by omega⟩) * ang x5 n i
        + val_main_v57 (F := Ideal) x0 x1 x2 (ix4 b n h ⟨64 + i.val, by omega⟩) * ang x6 n i := by
  have kv : ∀ d d' : Fin 128, d.val = d'.val → val_main_v57 (F := Ideal) x0 x1 x2 (ix4 b n h d)
      = val_main_v57 (F := Ideal) x0 x1 x2 (ix4 b n h d') := fun d d' e => by rw [Fin.ext e]
  pointwise [val_main_v88, val_main_v87, val_main_v86, val_main_v85, val_main_v84, val_main_v78, val_main_v77, val_main_v76, val_main_v75, val_main_v59]
  rw [kv ⟨64 + (32 + i.val), _⟩ ⟨96 + i.val, by omega⟩ (by simp only; omega)]

/-- Four blocks of 32 lanes side by side, in two steps. -/
theorem khalves (p q u v : (⟨S4x4096x2x32, .f32⟩ : BufTy).Contents (Elt Ideal)) (b : Fin 4) (n : Fin 4096) (h : Fin 2)
    (d : Fin 128) :
    (concatenate S4x4096x2x128 3 [⟨S4x4096x2x64, concatenate S4x4096x2x64 3 [⟨S4x4096x2x32, p⟩, ⟨S4x4096x2x32, q⟩]
        concatenates_S4x4096x2x32_S4x4096x2x32_S4x4096x2x64_d3⟩,
      ⟨S4x4096x2x64, concatenate S4x4096x2x64 3 [⟨S4x4096x2x32, u⟩, ⟨S4x4096x2x32, v⟩]
        concatenates_S4x4096x2x32_S4x4096x2x32_S4x4096x2x64_d3⟩]
      concatenates_S4x4096x2x64_S4x4096x2x64_S4x4096x2x128_d3
      : (⟨S4x4096x2x128, .f32⟩ : BufTy).Contents (Elt Ideal)) (ix4 b n h d)
      = quad (fun i => p (ix4 b n h i)) (fun i => q (ix4 b n h i)) (fun i => u (ix4 b n h i)) (fun i => v (ix4 b n h i)) d := by
  have kv : ∀ i i' : Fin 32, i.val = i'.val → v (ix4 b n h i) = v (ix4 b n h i') := fun i i' e => by rw [Fin.ext e]
  pointwise [quad]
  repeat' split
  all_goals first | omega | rfl | exact kv _ _ (by simp only; omega)

/-- A turned head of the keys. -/
theorem kturn (b : Fin 4) (n : Fin 4096) (h : Fin 2) (d : Fin 128) :
    val_main_v90 (F := Ideal) x0 x1 x2 x3 x4 x5 x6 (ix4 b n h d)
      = turned (fun e => val_main_v57 (F := Ideal) x0 x1 x2 (ix4 b n h e)) (ang x3 n) (ang x4 n) (ang x5 n) (ang x6 n) d := by
  have e : val_main_v90 (F := Ideal) x0 x1 x2 x3 x4 x5 x6 (ix4 b n h d)
      = quad (fun i => val_main_v68 (F := Ideal) x0 x1 x2 x3 x4 (ix4 b n h i))
        (fun i => val_main_v73 (F := Ideal) x0 x1 x2 x3 x4 (ix4 b n h i))
        (fun i => val_main_v83 (F := Ideal) x0 x1 x2 x5 x6 (ix4 b n h i))
        (fun i => val_main_v88 (F := Ideal) x0 x1 x2 x5 x6 (ix4 b n h i)) d := by
    unfold val_main_v90 val_main_v89 val_main_v74
    exact khalves _ _ _ _ b n h d
  rw [e]
  unfold turned
  simp only [k1, k2, k3, k4]

end Cert.Reference5Ideal.In

end
-- ==== Proof.In0.Reference.lean ====
module

public import proofs.«01_k».proof.Proof.Gen.Reference5Ideal.Read
public import proofs.«01_k».proof.Proof.In0.RefTurn

@[expose] public section

set_option maxRecDepth 16384

noncomputable section

/-! The first layer's reference input projection, entry by entry. -/

namespace Cert.Reference5Ideal.In

open Cert.Reference5Ideal Cert.Reference5Ideal.Gen Cert.Reference5Ideal.Read Cert.FfnSpec Cert.In0 Idealize.ShloMosaic Idealize.ShloMosaic.TcCoe
open Idealize.SL.Sem

variable (x0 : (⟨S4x4096x2048, .f32⟩ : BufTy).Contents (Elt Ideal)) (x1 : (⟨S1x8x12288, .f32⟩ : BufTy).Contents (Elt Ideal))
  (x2 : (⟨S2048x3584, .bf16⟩ : BufTy).Contents (Elt Ideal)) (x3 x4 x5 x6 : (⟨S4096x32, .f32⟩ : BufTy).Contents (Elt Ideal))

/-- Entry `(b, n, j)` of the projection of the modulated rows. -/
def proj (b : Fin 4) (n : Fin 4096) (j : Fin 3584) : EReal :=
  ∑ k : Fin 2048, modulated (x0 (ix3 b n k)) (x1 (ix3 0 ⟨b.val, by omega⟩ ⟨2048 + k.val, by omega⟩))
    (x1 (ix3 0 ⟨b.val, by omega⟩ ⟨k.val, by omega⟩)) * x2 (ix2 k j)

/-- Lane `d` of the head whose columns of the projection begin at `o`, turned by the angles of row `n`. -/
def roped (b : Fin 4) (n : Fin 4096) (o : Nat) (ho : o + 128 ≤ 3584) (d : Fin 128) : EReal :=
  turned (fun e => proj x0 x1 x2 b n ⟨o + e.val, by omega⟩) (ang x3 n) (ang x4 n) (ang x5 n) (ang x6 n) d

/-- A modulated row. -/
theorem row_at (b : Fin 4) (n : Fin 4096) (k : Fin 2048) :
    val_main_v14 (F := Ideal) x0 x1 (ix3 b n k) = modulated (x0 (ix3 b n k))
      (x1 (ix3 0 ⟨b.val, by omega⟩ ⟨2048 + k.val, by omega⟩)) (x1 (ix3 0 ⟨b.val, by omega⟩ ⟨k.val, by omega⟩)) := by
  pointwise [val_main_v14, val_main_v13, val_main_v12, val_main_v11, val_main_v10, val_main_v9, val_main_v4, val_main_v3,
    val_main_v2, val_main_v1, val_main_v0, val_main_cst, modulated]

/-- The projection. -/
theorem proj_at (b : Fin 4) (n : Fin 4096) (j : Fin 3584) :
    val_main_v16 (F := Ideal) x0 x1 x2 (ix3 b n j) = proj x0 x1 x2 b n j := by
  pointwise [val_main_v16, val_main_v15, row_at, proj]

/-- The first result. -/
theorem first_at (b : Fin 4) (h : Fin 8) (n : Fin 4096) (d : Fin 128) :
    val_main_v100 (F := Ideal) x0 x1 x2 (ix4 b h n d) = proj x0 x1 x2 b n ⟨h.val * 128 + d.val, by omega⟩ := by
  rw [← proj_at]
  pointwise [val_main_v100, val_main_v99, val_main_v98, val_main_v17]

/-- A gate before its result is arranged by heads. -/
theorem gate_at (b : Fin 4) (n : Fin 4096) (j : Fin 1024) :
    val_main_v113 (F := Ideal) x0 x1 x2 (ix3 b n j) = gateR (proj x0 x1 x2 b n ⟨1024 + j.val, by omega⟩) := by
  have e : val_main_v18 (F := Ideal) x0 x1 x2 (ix3 b n j) = proj x0 x1 x2 b n ⟨1024 + j.val, by omega⟩ := by
    rw [← proj_at]
    pointwise [val_main_v18]
  rw [← e]
  pointwise [val_main_v113, val_main_v112, val_main_v111, val_main_v110, val_main_v109, val_main_v108, val_main_v107,
    val_main_v106, val_main_v105, val_main_v104, val_main_v103, val_main_v102, val_main_v101, val_main_cst_2,
    val_main_cst_3, val_main_cst_4, val_main_cst_5, gateR]

/-- The second result. -/
theorem second_at (b : Fin 4) (h : Fin 8) (n : Fin 4096) (d : Fin 128) :
    val_main_v116 (F := Ideal) x0 x1 x2 (ix4 b h n d)
      = gateR (proj x0 x1 x2 b n ⟨1024 + (h.val * 128 + d.val), by omega⟩) := by
  refine Eq.trans ?_ (gate_at x0 x1 x2 b n ⟨h.val * 128 + d.val, by omega⟩)
  pointwise [val_main_v116, val_main_v115, val_main_v114]

/-- The fifth result. -/
theorem fifth_at (b : Fin 4) (n : Fin 4096) (d : Fin 256) :
    val_main_v119 (F := Ideal) x0 x1 x2 (ix3 b n d) = proj x0 x1 x2 b n ⟨3328 + d.val, by omega⟩ := by
  rw [← proj_at]
  pointwise [val_main_v119, val_main_v21]

/-- A head of the queries before it is turned. -/
theorem q_at (b : Fin 4) (n : Fin 4096) (h : Fin 8) (e : Fin 128) (o : Nat) (ho : o + 128 ≤ 3584)
    (hh : o = 2048 + h.val * 128) :
    val_main_v22 (F := Ideal) x0 x1 x2 (ix4 b n h e) = proj x0 x1 x2 b n ⟨o + e.val, by omega⟩ := by
  subst hh
  rw [← proj_at]
  pointwise [val_main_v22, val_main_v19]
  exact congrArg (fun j => val_main_v16 (F := Ideal) x0 x1 x2 (ix3 b n j)) (Fin.ext (Nat.add_assoc _ _ _).symm)

/-- A scaled entry divided by a logarithm, as the reference writes it. -/
theorem tail_at (v : (⟨S4x4096x1024, .f32⟩ : BufTy).Contents (Elt Ideal)) (w w' : BitVec 32) (i : S4x4096x1024.Idx) :
    (truncf .bf16 (Host.divf (mulf v (broadcastInDim S4x4096x1024 ![] bcast_S_S4x4096x1024 (constant S_ .f32 w)))
      (broadcastInDim S4x4096x1024 ![] bcast_S_S4x4096x1024 (id (Host.log (constant S_ .f32 w'))))) bitsLt_bf16_f32
      : FVec Ideal S4x4096x1024 .bf16) i
      = Ideal.div (v i * Ideal.ofBits .f32 w) (Ideal.log (Ideal.ofBits .f32 w')) := rfl

/-- The third result. -/
theorem third_at (b : Fin 4) (n : Fin 4096) (d : Fin 1024) :
    val_main_v117 (F := Ideal) x0 x1 x2 x3 x4 x5 x6 (ix3 b n d)
      = roped x0 x1 x2 x3 x4 x5 x6 b n (2048 + d.val / 128 * 128) (by omega) ⟨d.val % 128, by omega⟩ * (qscale : EReal) := by
  have e : val_main_v56 (F := Ideal) x0 x1 x2 x3 x4 x5 x6 (ix3 b n d)
      = roped x0 x1 x2 x3 x4 x5 x6 b n (2048 + d.val / 128 * 128) (by omega) ⟨d.val % 128, by omega⟩ := by
    refine Eq.trans ?_ ((qturn x0 x1 x2 x3 x4 x5 x6 b n ⟨d.val / 128, by omega⟩ ⟨d.val % 128, by omega⟩).trans ?_)
    · unfold val_main_v56
      generalize val_main_v55 (F := Ideal) x0 x1 x2 x3 x4 x5 x6 = v
      pointwise
    · exact congrArg (fun x => turned x _ _ _ _ _) (funext fun e => q_at x0 x1 x2 b n _ e _ (by simp only; omega) rfl)
  refine Eq.trans ?_ ((scaled_eq _).trans (congrArg (· * (qscale : EReal)) e))
  unfold val_main_v117 val_main_v97 val_main_v96 val_main_v95 val_main_v94 val_main_v93 val_main_v92 val_main_cst_0
    val_main_cst_1
  exact tail_at _ _ _ _

/-- A head of the keys before it is turned. -/
theorem k_at (b : Fin 4) (n : Fin 4096) (h : Fin 2) (e : Fin 128) (o : Nat) (ho : o + 128 ≤ 3584)
    (hh : o = 3072 + h.val * 128) :
    val_main_v57 (F := Ideal) x0 x1 x2 (ix4 b n h e) = proj x0 x1 x2 b n ⟨o + e.val, by omega⟩ := by
  subst hh
  rw [← proj_at]
  pointwise [val_main_v57, val_main_v20]
  exact congrArg (fun j => val_main_v16 (F := Ideal) x0 x1 x2 (ix3 b n j)) (Fin.ext (Nat.add_assoc _ _ _).symm)

/-- The fourth result. -/
theorem fourth_at (b : Fin 4) (n : Fin 4096) (d : Fin 256) :
    val_main_v118 (F := Ideal) x0 x1 x2 x3 x4 x5 x6 (ix3 b n d)
      = roped x0 x1 x2 x3 x4 x5 x6 b n (3072 + d.val / 128 * 128) (by omega) ⟨d.val % 128, by omega⟩ := by
  refine Eq.trans ?_ ((kturn x0 x1 x2 x3 x4 x5 x6 b n ⟨d.val / 128, by omega⟩ ⟨d.val % 128, by omega⟩).trans ?_)
  · unfold val_main_v118 val_main_v91
    generalize val_main_v90 (F := Ideal) x0 x1 x2 x3 x4 x5 x6 = v
    pointwise
  · exact congrArg (fun x => turned x _ _ _ _ _) (funext fun e => k_at x0 x1 x2 b n _ e _ (by simp only; omega) rfl)

end Cert.Reference5Ideal.In

end
-- ==== Proof.In0.Claims.lean ====
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.In0.Array
public import proofs.«01_k».proof.Proof.In0.Reference

@[expose] public section

set_option maxRecDepth 16384

noncomputable section

/-! The claims of the first layer's input projection. -/

namespace Cert.In0

open Cert.FfnSpec Idealize.ShloMosaic Idealize.ShloMosaic.TcCoe Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2.2.2.2.2, sem_eq_zero_of_no_sems (by decide) r.2⟩)
    (Cert.Reference5Ideal.Value.run (F := Ideal) m ρ)

/-- The scale of the queries is the constant read as its quotient by the logarithm of two. -/
theorem preserves : Cert.preserves_Kernel5_Kernel5Ideal :=
  IdealRules.named_const.statement Cert.Kernel5Ideal.κ "scale_log2e" .f32 0x3E0293EE#32
    (((11863283 / 134217728) * (Real.log 2)⁻¹ : ℝ) : EReal) rfl

/-- The kernel and the reference end with equal results. -/
theorem algebraic : Cert.algebraic_Kernel5Ideal_Reference5Ideal := by
  intro m ρ m' ρ' _ hagree
  refine ⟨_, _, _, _, _, Cert.Kernel5Ideal.Value.run_blocks (F := Ideal) m ρ, ?_⟩
  refine (θ_run Cert.Reference5Ideal.defs _ _).mono (fun r h c =>
    ⟨(h c).1.trans ?_, (h c).2.1.trans ?_, (h c).2.2.1.trans ?_, (h c).2.2.2.1.trans ?_,
      (h c).2.2.2.2.1.trans ?_, (h c).2.2.2.2.2⟩)
    (Cert.Reference5Ideal.Value.run (F := Ideal) m' ρ')
  all_goals obtain ⟨h0, h1, h2, h3, h4, h5, h6⟩ := hagree c
  · rw [Cert.Reference5Ideal.Read.val_main_v100_eq, h0, h1, h2, Cert.Kernel5Ideal.In.final10]
    exact funext fun i => (congrArg _ (by blk_ext : i = ix4 (i 0) (i 1) (i 2) (i 3))).trans
      (Cert.Reference5Ideal.In.first_at _ _ _ (i 0) (i 1) (i 2) (i 3))
  · rw [Cert.Reference5Ideal.Read.val_main_v116_eq, h0, h1, h2, Cert.Kernel5Ideal.In.final11]
    exact funext fun i => (congrArg _ (by blk_ext : i = ix4 (i 0) (i 1) (i 2) (i 3))).trans
      ((Cert.Reference5Ideal.In.second_at _ _ _ (i 0) (i 1) (i 2) (i 3)).trans (gate_eq _).symm)
  · rw [Cert.Reference5Ideal.Read.val_main_v117_eq, h0, h1, h2, h3, h4, h5, h6, Cert.Kernel5Ideal.In.final12]
    exact funext fun i => (congrArg _ (by blk_ext : i = ix3 (i 0) (i 1) (i 2))).trans
      (Cert.Reference5Ideal.In.third_at _ _ _ _ _ _ _ (i 0) (i 1) (i 2))
  · rw [Cert.Reference5Ideal.Read.val_main_v118_eq, h0, h1, h2, h3, h4, h5, h6, Cert.Kernel5Ideal.In.final13]
    exact funext fun i => (congrArg _ (by blk_ext : i = ix3 (i 0) (i 1) (i 2))).trans
      (Cert.Reference5Ideal.In.fourth_at _ _ _ _ _ _ _ (i 0) (i 1) (i 2))
  · rw [Cert.Reference5Ideal.Read.val_main_v119_eq, h0, h1, h2, Cert.Kernel5Ideal.In.final14]
    exact funext fun i => (congrArg _ (by blk_ext : i = ix3 (i 0) (i 1) (i 2))).trans
      (Cert.Reference5Ideal.In.fifth_at _ _ _ (i 0) (i 1) (i 2))

end Cert.In0

end
-- ==== Proof.lean ====
module

public import proofs.«01_k».proof.Defs
public import proofs.«01_k».proof.Proof.Attn.Claims
public import proofs.«01_k».proof.Proof.In1.Claims
public import proofs.«01_k».proof.Proof.Out0.Claims
public import proofs.«01_k».proof.Proof.Ffn.Claims
public import proofs.«01_k».proof.Proof.In0.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.Proof

open Idealize.ShloMosaic Idealize.SL.Sem

/-- Every claim of every call. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts,
    Cert.Attn.pre_facts,
    Cert.Attn.frame_p, Cert.Attn.frame_pi, @Cert.Attn.frame_pi_pre Cert.Attn.pre_facts, Cert.Attn.frame_ri,
    @Cert.Attn.frame_ri_pre Cert.Attn.pre_facts, Cert.Ffn.frame_p, Cert.Ffn.frame_pi, Cert.Ffn.frame_ri,
    Cert.In1.frame_p, Cert.In1.frame_pi, Cert.In1.frame_ri, Cert.Out.frame_p, Cert.Out.frame_pi, Cert.Out.frame_ri, Cert.In0.frame_p, Cert.In0.frame_pi, Cert.In0.frame_ri,
    Cert.Attn.preserves, @Cert.Attn.algebraic Cert.Attn.pre_facts, Cert.Ffn.preserves, Cert.Ffn.algebraic,
    Cert.In1.preserves, Cert.In1.algebraic, Cert.Out.preserves, Cert.Out.algebraic, Cert.In0.preserves, Cert.In0.algebraic⟩

end Cert.Proof

end
